-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "exp_cap" .f32 0x42A00000#32 ⊤
  ∧ IdealRules.named_const.Statement Cert.KernelIdeal.κ "log1p_small" .f32 0x38D1B717#32 ⊥
  ∧ IdealRules.named_const.Statement Cert.KernelIdeal.κ "inv_s" .f32 0x382AAAAB#32 ((1 / 24576 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v5_3)) (v4 : (c : Dev Cert.KernelIdeal.nD) → Buf (Elt Ideal) ((c.tc : Thread Cert.KernelIdeal.nD Cert.KernelIdeal.τ).loc Cert.KernelIdeal.main_v5_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_v5_3) = v3 c
          ∧ r.2.mem ((c.tc : Thread Cert.KernelIdeal.nD Cert.KernelIdeal.τ).loc Cert.KernelIdeal.main_v5_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_v3_3) = v3 c
          ∧ r.2.mem ((c.tc : Thread Cert.ReferenceIdeal.nD Cert.ReferenceIdeal.τ).loc Cert.ReferenceIdeal.main_v3_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x24576x1536 : Shape := ⟨3, ![2, 24576, 1536]⟩
abbrev S2x24576 : Shape := ⟨2, ![2, 24576]⟩
abbrev S_ : Shape := ⟨0, ![]⟩
abbrev S1 : Shape := ⟨1, ![1]⟩
abbrev S2x1x24576 : Shape := ⟨3, ![2, 1, 24576]⟩
abbrev S24576x1536 : Shape := ⟨2, ![24576, 1536]⟩
abbrev S1x2048x1536 : Shape := ⟨3, ![1, 2048, 1536]⟩
abbrev S1x512x1536 : Shape := ⟨3, ![1, 512, 1536]⟩
abbrev S1x1x2048 : Shape := ⟨3, ![1, 1, 2048]⟩
abbrev S1x1x512 : Shape := ⟨3, ![1, 1, 512]⟩
abbrev S2048x1536 : Shape := ⟨2, ![2048, 1536]⟩
abbrev S3x512x1536 : Shape := ⟨3, ![3, 512, 1536]⟩
abbrev S512x128 : Shape := ⟨2, ![512, 128]⟩
abbrev S3x8x2048 : Shape := ⟨3, ![3, 8, 2048]⟩
abbrev S3 : Shape := ⟨1, ![3]⟩
abbrev S512x1536 : Shape := ⟨2, ![512, 1536]⟩
abbrev S1x512 : Shape := ⟨2, ![1, 512]⟩
abbrev S128x512 : Shape := ⟨2, ![128, 512]⟩
abbrev S512x512 : Shape := ⟨2, ![512, 512]⟩
abbrev S1x8x512 : Shape := ⟨3, ![1, 8, 512]⟩
abbrev S8x512 : Shape := ⟨2, ![8, 512]⟩
abbrev S64x8x512 : Shape := ⟨3, ![64, 8, 512]⟩
abbrev S1x8x2048 : Shape := ⟨3, ![1, 8, 2048]⟩
abbrev S8x2048 : Shape := ⟨2, ![8, 2048]⟩
abbrev S2048 : Shape := ⟨1, ![2048]⟩
abbrev S1x2048 : Shape := ⟨2, ![1, 2048]⟩

abbrev nBuf : Space → Nat
  | .hbm => 17
  | .vmem => 22
  | .smem => 2
  | _ => 0

abbrev bufTy : (tb : Table) → Fin (tcTables nBuf tb) → BufTy
  | .hbm, ⟨0, _⟩ => ⟨S2x24576x1536, .fp8e4m3⟩
  | .hbm, ⟨1, _⟩ => ⟨S2x24576, .f32⟩
  | .hbm, ⟨2, _⟩ => ⟨S2x24576x1536, .fp8e4m3⟩
  | .hbm, ⟨3, _⟩ => ⟨S2x24576, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S1, .f32⟩
  | .hbm, ⟨8, _⟩ => ⟨S1, .f32⟩
  | .hbm, ⟨9, _⟩ => ⟨S2x1x24576, .f32⟩
  | .hbm, ⟨10, _⟩ => ⟨S2x1x24576, .f32⟩
  | .hbm, ⟨11, _⟩ => ⟨S2x1x24576, .f32⟩
  | .hbm, ⟨12, _⟩ => ⟨S2x24576x1536, .bf16⟩
  | .hbm, ⟨13, _⟩ => ⟨S2x24576x1536, .bf16⟩
  | .hbm, ⟨14, _⟩ => ⟨S2x1x24576, .f32⟩
  | .hbm, ⟨15, _⟩ => ⟨S2x1x24576, .f32⟩
  | .hbm, ⟨16, _⟩ => ⟨S24576x1536, .f32⟩
  | .local _ .vmem, ⟨0, _⟩ => ⟨S1x2048x1536, .fp8e4m3⟩
  | .local _ .vmem, ⟨1, _⟩ => ⟨S1x2048x1536, .fp8e4m3⟩
  | .local _ .vmem, ⟨2, _⟩ => ⟨S1x512x1536, .fp8e4m3⟩
  | .local _ .vmem, ⟨3, _⟩ => ⟨S1x512x1536, .fp8e4m3⟩
  | .local _ .vmem, ⟨4, _⟩ => ⟨S1x1x2048, .f32⟩
  | .local _ .vmem, ⟨5, _⟩ => ⟨S1x1x2048, .f32⟩
  | .local _ .vmem, ⟨6, _⟩ => ⟨S1x1x512, .f32⟩
  | .local _ .vmem, ⟨7, _⟩ => ⟨S1x1x512, .f32⟩
  | .local _ .vmem, ⟨8, _⟩ => ⟨S1x1x2048, .f32⟩
  | .local _ .vmem, ⟨9, _⟩ => ⟨S1x1x2048, .f32⟩
  | .local _ .vmem, ⟨10, _⟩ => ⟨S1x2048x1536, .bf16⟩
  | .local _ .vmem, ⟨11, _⟩ => ⟨S1x2048x1536, .bf16⟩
  | .local _ .vmem, ⟨12, _⟩ => ⟨S1x512x1536, .bf16⟩
  | .local _ .vmem, ⟨13, _⟩ => ⟨S1x512x1536, .bf16⟩
  | .local _ .vmem, ⟨14, _⟩ => ⟨S1x1x2048, .f32⟩
  | .local _ .vmem, ⟨15, _⟩ => ⟨S1x1x2048, .f32⟩
  | .local _ .vmem, ⟨16, _⟩ => ⟨S1x1x2048, .f32⟩
  | .local _ .vmem, ⟨17, _⟩ => ⟨S1x1x2048, .f32⟩
  | .local _ .vmem, ⟨18, _⟩ => ⟨S2048x1536, .f32⟩
  | .local _ .vmem, ⟨19, _⟩ => ⟨S3x512x1536, .f32⟩
  | .local _ .vmem, ⟨20, _⟩ => ⟨S512x128, .f32⟩
  | .local _ .vmem, ⟨21, _⟩ => ⟨S3x8x2048, .f32⟩
  | .local _ .smem, ⟨0, _⟩ => ⟨S1, .f32⟩
  | .local _ .smem, ⟨1, _⟩ => ⟨S1, .f32⟩
  | _, _ => ⟨S2x24576x1536, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v5_4 : Ref sig .tc := ⟨.hbm, 15, rfl⟩
abbrev main_v5_5 : Ref sig .tc := ⟨.hbm, 16, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨3, ![2, 12, 48], ![false, false, false]⟩

def k0_cond1 (i : grid0.Coords) : BitVec 1 :=
  let arg0 : BitVec 32 := BitVec.ofNat 32 (i 0).val
  let c12_i32 : BitVec 32 := 12#32
  let v0 : BitVec 32 := Scalar.muli arg0 c12_i32
  let arg1 : BitVec 32 := BitVec.ofNat 32 (i 1).val
  let v1 : BitVec 32 := Scalar.addi v0 arg1
  let c48_i32 : BitVec 32 := 48#32
  let v2 : BitVec 32 := Scalar.muli v1 c48_i32
  let arg2 : BitVec 32 := BitVec.ofNat 32 (i 2).val
  let v3 : BitVec 32 := Scalar.addi v2 arg2
  let c2_i32 : BitVec 32 := 2#32
  let v7 : BitVec 32 := Scalar.subi v3 c2_i32
  let c0_i32 : BitVec 32 := 0#32
  let v8 : BitVec 1 := Scalar.cmpi .sge v7 c0_i32
  let c0_i32_1 : BitVec 32 := 0#32
  let v9 : BitVec 32 := Scalar.maxsi v7 c0_i32_1
  let c48_i32_2 : BitVec 32 := 48#32
  let v10 : BitVec 32 := Scalar.divsi v9 c48_i32_2
  let c12_i32_3 : BitVec 32 := 12#32
  let v11 : BitVec 32 := Scalar.remsi v10 c12_i32_3
  let c11_i32 : BitVec 32 := 11#32
  let v12 : BitVec 1 := Scalar.cmpi .slt v11 c11_i32
  let v13 : BitVec 1 := Scalar.andi v8 v12
  let v14 : BitVec 32 := Scalar.extui v13
  let c0_i32_4 : BitVec 32 := 0#32
  let v15 : BitVec 1 := Scalar.cmpi .ne v14 c0_i32_4
  v15

def k0_off1 (i : grid0.Coords) : Fin 1 → Nat :=
  let arg0 : BitVec 32 := BitVec.ofNat 32 (i 0).val
  let c12_i32 : BitVec 32 := 12#32
  let v0 : BitVec 32 := Scalar.muli arg0 c12_i32
  let arg1 : BitVec 32 := BitVec.ofNat 32 (i 1).val
  let v1 : BitVec 32 := Scalar.addi v0 arg1
  let c48_i32 : BitVec 32 := 48#32
  let v2 : BitVec 32 := Scalar.muli v1 c48_i32
  let arg2 : BitVec 32 := BitVec.ofNat 32 (i 2).val
  let v3 : BitVec 32 := Scalar.addi v2 arg2
  let c1_i32_28 : BitVec 32 := 1#32
  let v52 : BitVec 32 := Scalar.addi v3 c1_i32_28
  let c3_i32_29 : BitVec 32 := 3#32
  let v53 : BitVec 32 := Scalar.remsi v52 c3_i32_29
  ![v53.toNat]
def k0_off2 (i : grid0.Coords) : Fin 3 → Nat :=
  let arg0 : BitVec 32 := BitVec.ofNat 32 (i 0).val
  let c12_i32 : BitVec 32 := 12#32
  let v0 : BitVec 32 := Scalar.muli arg0 c12_i32
  let arg1 : BitVec 32 := BitVec.ofNat 32 (i 1).val
  let v1 : BitVec 32 := Scalar.addi v0 arg1
  let c48_i32 : BitVec 32 := 48#32
  let v2 : BitVec 32 := Scalar.muli v1 c48_i32
  let arg2 : BitVec 32 := BitVec.ofNat 32 (i 2).val
  let v3 : BitVec 32 := Scalar.addi v2 arg2
  let c1_i32_28 : BitVec 32 := 1#32
  let v52 : BitVec 32 := Scalar.addi v3 c1_i32_28
  let c3_i32_29 : BitVec 32 := 3#32
  let v53 : BitVec 32 := Scalar.remsi v52 c3_i32_29
  let c0_i32_32 : BitVec 32 := 0#32
  let c0_i32_33 : BitVec 32 := 0#32
  ![v53.toNat, 0, 0]
def k0_cond2 (i : grid0.Coords) : BitVec 1 :=
  let arg0 : BitVec 32 := BitVec.ofNat 32 (i 0).val
  let c12_i32 : BitVec 32 := 12#32
  let v0 : BitVec 32 := Scalar.muli arg0 c12_i32
  let arg1 : BitVec 32 := BitVec.ofNat 32 (i 1).val
  let v1 : BitVec 32 := Scalar.addi v0 arg1
  let c48_i32 : BitVec 32 := 48#32
  let v2 : BitVec 32 := Scalar.muli v1 c48_i32
  let arg2 : BitVec 32 := BitVec.ofNat 32 (i 2).val
  let v3 : BitVec 32 := Scalar.addi v2 arg2
  let c1151_i32 : BitVec 32 := 1151#32
  let v16 : BitVec 1 := Scalar.cmpi .eq v3 c1151_i32
  let v_true : BitVec 1 := 1#1
  let v20 : BitVec 1 := Scalar.xori v16 v_true
  let c1_i32 : BitVec 32 := 1#32
  let v17 : BitVec 32 := Scalar.addi v3 c1_i32
  let c48_i32_5 : BitVec 32 := 48#32
  let v18 : BitVec 32 := Scalar.divsi v17 c48_i32_5
  let c12_i32_6 : BitVec 32 := 12#32
  let v19 : BitVec 32 := Scalar.remsi v18 c12_i32_6
  let c0_i32_7 : BitVec 32 := 0#32
  let v21 : BitVec 1 := Scalar.cmpi .sgt v19 c0_i32_7
  let v22 : BitVec 1 := Scalar.andi v20 v21
  let v23 : BitVec 32 := Scalar.extui v22
  let c0_i32_8 : BitVec 32 := 0#32
  let v24 : BitVec 1 := Scalar.cmpi .ne v23 c0_i32_8
  v24

def k0_off3 (i : grid0.Coords) : Fin 1 → Nat :=
  let arg0 : BitVec 32 := BitVec.ofNat 32 (i 0).val
  let c12_i32 : BitVec 32 := 12#32
  let v0 : BitVec 32 := Scalar.muli arg0 c12_i32
  let arg1 : BitVec 32 := BitVec.ofNat 32 (i 1).val
  let v1 : BitVec 32 := Scalar.addi v0 arg1
  let c48_i32 : BitVec 32 := 48#32
  let v2 : BitVec 32 := Scalar.muli v1 c48_i32
  let arg2 : BitVec 32 := BitVec.ofNat 32 (i 2).val
  let v3 : BitVec 32 := Scalar.addi v2 arg2
  let c1_i32 : BitVec 32 := 1#32
  let v17 : BitVec 32 := Scalar.addi v3 c1_i32
  let c3_i32_29 : BitVec 32 := 3#32
  let v53 : BitVec 32 := Scalar.remsi v17 c3_i32_29
  ![v53.toNat]
def k0_off4 (i : grid0.Coords) : Fin 3 → Nat :=
  let arg0 : BitVec 32 := BitVec.ofNat 32 (i 0).val
  let c12_i32 : BitVec 32 := 12#32
  let v0 : BitVec 32 := Scalar.muli arg0 c12_i32
  let arg1 : BitVec 32 := BitVec.ofNat 32 (i 1).val
  let v1 : BitVec 32 := Scalar.addi v0 arg1
  let c48_i32 : BitVec 32 := 48#32
  let v2 : BitVec 32 := Scalar.muli v1 c48_i32
  let arg2 : BitVec 32 := BitVec.ofNat 32 (i 2).val
  let v3 : BitVec 32 := Scalar.addi v2 arg2
  let c1_i32 : BitVec 32 := 1#32
  let v17 : BitVec 32 := Scalar.addi v3 c1_i32
  let c3_i32_29 : BitVec 32 := 3#32
  let v53 : BitVec 32 := Scalar.remsi v17 c3_i32_29
  let c0_i32_30 : BitVec 32 := 0#32
  let c0_i32_31 : BitVec 32 := 0#32
  ![v53.toNat, 0, 0]
def k0_off5 (i : grid0.Coords) : Fin 2 → Nat :=
  let arg0 : BitVec 32 := BitVec.ofNat 32 (i 0).val
  let c12_i32 : BitVec 32 := 12#32
  let v0 : BitVec 32 := Scalar.muli arg0 c12_i32
  let arg1 : BitVec 32 := BitVec.ofNat 32 (i 1).val
  let v1 : BitVec 32 := Scalar.addi v0 arg1
  let c48_i32 : BitVec 32 := 48#32
  let v2 : BitVec 32 := Scalar.muli v1 c48_i32
  let arg2 : BitVec 32 := BitVec.ofNat 32 (i 2).val
  let v3 : BitVec 32 := Scalar.addi v2 arg2
  let c1_i32 : BitVec 32 := 1#32
  let v17 : BitVec 32 := Scalar.addi v3 c1_i32
  let c48_i32_28 : BitVec 32 := 48#32
  let v52 : BitVec 32 := Scalar.remsi v17 c48_i32_28
  let c512_i32 : BitVec 32 := 512#32
  let v54 : BitVec 32 := Scalar.muli v52 c512_i32
  let c0_i32_32 : BitVec 32 := 0#32
  ![v54.toNat, 0]
def k0_cond3 (i : grid0.Coords) : BitVec 1 :=
  let arg1 : BitVec 32 := BitVec.ofNat 32 (i 1).val
  let c0_i32_9 : BitVec 32 := 0#32
  let v25 : BitVec 1 := Scalar.cmpi .sgt arg1 c0_i32_9
  let v26 : BitVec 32 := Scalar.extui v25
  let c0_i32_10 : BitVec 32 := 0#32
  let v27 : BitVec 1 := Scalar.cmpi .ne v26 c0_i32_10
  v27

def k0_off6 (i : grid0.Coords) : Fin 1 → Nat :=
  let arg0 : BitVec 32 := BitVec.ofNat 32 (i 0).val
  let c12_i32 : BitVec 32 := 12#32
  let v0 : BitVec 32 := Scalar.muli arg0 c12_i32
  let arg1 : BitVec 32 := BitVec.ofNat 32 (i 1).val
  let v1 : BitVec 32 := Scalar.addi v0 arg1
  let c48_i32 : BitVec 32 := 48#32
  let v2 : BitVec 32 := Scalar.muli v1 c48_i32
  let arg2 : BitVec 32 := BitVec.ofNat 32 (i 2).val
  let v3 : BitVec 32 := Scalar.addi v2 arg2
  let c3_i32 : BitVec 32 := 3#32
  let v4 : BitVec 32 := Scalar.remsi v3 c3_i32
  ![v4.toNat]
def k0_off7 (i : grid0.Coords) : Fin 3 → Nat :=
  let arg0 : BitVec 32 := BitVec.ofNat 32 (i 0).val
  let c12_i32 : BitVec 32 := 12#32
  let v0 : BitVec 32 := Scalar.muli arg0 c12_i32
  let arg1 : BitVec 32 := BitVec.ofNat 32 (i 1).val
  let v1 : BitVec 32 := Scalar.addi v0 arg1
  let c48_i32 : BitVec 32 := 48#32
  let v2 : BitVec 32 := Scalar.muli v1 c48_i32
  let arg2 : BitVec 32 := BitVec.ofNat 32 (i 2).val
  let v3 : BitVec 32 := Scalar.addi v2 arg2
  let c3_i32 : BitVec 32 := 3#32
  let v4 : BitVec 32 := Scalar.remsi v3 c3_i32
  let c0_i32_28 : BitVec 32 := 0#32
  let c0_i32_29 : BitVec 32 := 0#32
  ![v4.toNat, 0, 0]
def k0_off8 (i : grid0.Coords) : Fin 2 → Nat :=
  let arg2 : BitVec 32 := BitVec.ofNat 32 (i 2).val
  let c512_i32 : BitVec 32 := 512#32
  let v52 : BitVec 32 := Scalar.muli arg2 c512_i32
  let c0_i32_30 : BitVec 32 := 0#32
  ![v52.toNat, 0]
def k0_cond4 (i : grid0.Coords) : BitVec 1 :=
  let arg1 : BitVec 32 := BitVec.ofNat 32 (i 1).val
  let c0_i32_11 : BitVec 32 := 0#32
  let v28 : BitVec 1 := Scalar.cmpi .eq arg1 c0_i32_11
  let v29 : BitVec 32 := Scalar.extui v28
  let c0_i32_12 : BitVec 32 := 0#32
  let v30 : BitVec 1 := Scalar.cmpi .ne v29 c0_i32_12
  v30

def k0_off9 (i : grid0.Coords) : Fin 3 → Nat :=
  let arg0 : BitVec 32 := BitVec.ofNat 32 (i 0).val
  let c12_i32 : BitVec 32 := 12#32
  let v0 : BitVec 32 := Scalar.muli arg0 c12_i32
  let arg1 : BitVec 32 := BitVec.ofNat 32 (i 1).val
  let v1 : BitVec 32 := Scalar.addi v0 arg1
  let c48_i32 : BitVec 32 := 48#32
  let v2 : BitVec 32 := Scalar.muli v1 c48_i32
  let arg2 : BitVec 32 := BitVec.ofNat 32 (i 2).val
  let v3 : BitVec 32 := Scalar.addi v2 arg2
  let c3_i32 : BitVec 32 := 3#32
  let v4 : BitVec 32 := Scalar.remsi v3 c3_i32
  let v53 : Index := Scalar.indexCast v4
  let c0_28 : Index := 0#32
  let c0_29 : Index := 0#32
  ![v53.toNat, 0, 0]
@[reducible] def k0_t1_loop : Scf.Loop 32 :=
  let c0_i32_20 : BitVec 32 := 0#32
  let c4_i32 : BitVec 32 := 4#32
  let v42 : BitVec 32 := Scalar.addi c0_i32_20 c4_i32
  let c1_i32_21 : BitVec 32 := 1#32
  ⟨c0_i32_20, v42, c1_i32_21⟩
def k0_mult1 (k0_t1 : Fin k0_t1_loop.trips) : BitVec 32 :=
  let c0_i32_20 : BitVec 32 := 0#32
  let c1_i32_21 : BitVec 32 := 1#32
  let arg21 : BitVec 32 := Scf.iv c0_i32_20 c1_i32_21 k0_t1
  let c512_i32 : BitVec 32 := 512#32
  let v52 : BitVec 32 := Scalar.muli arg21 c512_i32
  v52
def k0_off10 (k0_t1 : Fin k0_t1_loop.trips) : Fin 3 → Nat :=
  let c0_28 : Index := 0#32
  let c0_i32_20 : BitVec 32 := 0#32
  let c1_i32_21 : BitVec 32 := 1#32
  let arg21 : BitVec 32 := Scf.iv c0_i32_20 c1_i32_21 k0_t1
  let c512_i32 : BitVec 32 := 512#32
  let v52 : BitVec 32 := Scalar.muli arg21 c512_i32
  let v53 : BitVec 32 := v52
  let v54 : Index := Scalar.indexCast v53
  let c0_29 : Index := 0#32
  ![0, v54.toNat, 0]
def k0_off11 (k0_t1 : Fin k0_t1_loop.trips) : Fin 3 → Nat :=
  let c0_33 : Index := 0#32
  let c0_34 : Index := 0#32
  let c0_i32_20 : BitVec 32 := 0#32
  let c1_i32_21 : BitVec 32 := 1#32
  let arg21 : BitVec 32 := Scf.iv c0_i32_20 c1_i32_21 k0_t1
  let c512_i32 : BitVec 32 := 512#32
  let v52 : BitVec 32 := Scalar.muli arg21 c512_i32
  let v53 : BitVec 32 := v52
  let v60 : Index := Scalar.indexCast v53
  ![0, 0, v60.toNat]
def k0_off12 (k0_t1 : Fin k0_t1_loop.trips) : Fin 3 → Nat :=
  let c0_47 : Index := 0#32
  let c0_48 : Index := 0#32
  let c0_i32_20 : BitVec 32 := 0#32
  let c1_i32_21 : BitVec 32 := 1#32
  let arg21 : BitVec 32 := Scf.iv c0_i32_20 c1_i32_21 k0_t1
  let c512_i32 : BitVec 32 := 512#32
  let v52 : BitVec 32 := Scalar.muli arg21 c512_i32
  let v53 : BitVec 32 := v52
  let v107 : Index := Scalar.indexCast v53
  ![0, 0, v107.toNat]
def k0_off13 (k0_t1 : Fin k0_t1_loop.trips) : Fin 3 → Nat :=
  let c1 : Index := 1#32
  let c0_52 : Index := 0#32
  let c0_i32_20 : BitVec 32 := 0#32
  let c1_i32_21 : BitVec 32 := 1#32
  let arg21 : BitVec 32 := Scf.iv c0_i32_20 c1_i32_21 k0_t1
  let c512_i32 : BitVec 32 := 512#32
  let v52 : BitVec 32 := Scalar.muli arg21 c512_i32
  let v53 : BitVec 32 := v52
  let v117 : Index := Scalar.indexCast v53
  ![1, 0, v117.toNat]
def k0_off14 (k0_t1 : Fin k0_t1_loop.trips) : Fin 3 → Nat :=
  let c2 : Index := 2#32
  let c0_56 : Index := 0#32
  let c0_i32_20 : BitVec 32 := 0#32
  let c1_i32_21 : BitVec 32 := 1#32
  let arg21 : BitVec 32 := Scf.iv c0_i32_20 c1_i32_21 k0_t1
  let c512_i32 : BitVec 32 := 512#32
  let v52 : BitVec 32 := Scalar.muli arg21 c512_i32
  let v53 : BitVec 32 := v52
  let v128 : Index := Scalar.indexCast v53
  ![2, 0, v128.toNat]
def k0_off15 (i : grid0.Coords) : Fin 3 → Nat :=
  let arg0 : BitVec 32 := BitVec.ofNat 32 (i 0).val
  let c12_i32 : BitVec 32 := 12#32
  let v0 : BitVec 32 := Scalar.muli arg0 c12_i32
  let arg1 : BitVec 32 := BitVec.ofNat 32 (i 1).val
  let v1 : BitVec 32 := Scalar.addi v0 arg1
  let c48_i32 : BitVec 32 := 48#32
  let v2 : BitVec 32 := Scalar.muli v1 c48_i32
  let arg2 : BitVec 32 := BitVec.ofNat 32 (i 2).val
  let v3 : BitVec 32 := Scalar.addi v2 arg2
  let c3_i32 : BitVec 32 := 3#32
  let v4 : BitVec 32 := Scalar.remsi v3 c3_i32
  let v147 : Index := Scalar.indexCast v4
  let c0_62 : Index := 0#32
  let c0_63 : Index := 0#32
  ![v147.toNat, 0, 0]
def k0_off16 (k0_t1 : Fin k0_t1_loop.trips) : Fin 2 → Nat :=
  let c0_i32_20 : BitVec 32 := 0#32
  let c1_i32_21 : BitVec 32 := 1#32
  let arg21 : BitVec 32 := Scf.iv c0_i32_20 c1_i32_21 k0_t1
  let c512_i32 : BitVec 32 := 512#32
  let v52 : BitVec 32 := Scalar.muli arg21 c512_i32
  let v53 : BitVec 32 := v52
  let v156 : Index := Scalar.indexCast v53
  let c0_67 : Index := 0#32
  ![v156.toNat, 0]
def k0_cond6 (i : grid0.Coords) : BitVec 1 :=
  let arg1 : BitVec 32 := BitVec.ofNat 32 (i 1).val
  let c11_i32_23 : BitVec 32 := 11#32
  let v43 : BitVec 1 := Scalar.cmpi .slt arg1 c11_i32_23
  let v44 : BitVec 32 := Scalar.extui v43
  let c0_i32_24 : BitVec 32 := 0#32
  let v45 : BitVec 1 := Scalar.cmpi .ne v44 c0_i32_24
  v45

def k0_off17 (i : grid0.Coords) : Fin 1 → Nat :=
  let arg0 : BitVec 32 := BitVec.ofNat 32 (i 0).val
  let c12_i32 : BitVec 32 := 12#32
  let v0 : BitVec 32 := Scalar.muli arg0 c12_i32
  let arg1 : BitVec 32 := BitVec.ofNat 32 (i 1).val
  let v1 : BitVec 32 := Scalar.addi v0 arg1
  let c48_i32 : BitVec 32 := 48#32
  let v2 : BitVec 32 := Scalar.muli v1 c48_i32
  let arg2 : BitVec 32 := BitVec.ofNat 32 (i 2).val
  let v3 : BitVec 32 := Scalar.addi v2 arg2
  let c3_i32 : BitVec 32 := 3#32
  let v4 : BitVec 32 := Scalar.remsi v3 c3_i32
  ![v4.toNat]
def k0_off18 (i : grid0.Coords) : Fin 2 → Nat :=
  let arg2 : BitVec 32 := BitVec.ofNat 32 (i 2).val
  let c512_i32 : BitVec 32 := 512#32
  let v52 : BitVec 32 := Scalar.muli arg2 c512_i32
  let c0_i32_28 : BitVec 32 := 0#32
  ![v52.toNat, 0]
def k0_off19 (i : grid0.Coords) : Fin 3 → Nat :=
  let arg0 : BitVec 32 := BitVec.ofNat 32 (i 0).val
  let c12_i32 : BitVec 32 := 12#32
  let v0 : BitVec 32 := Scalar.muli arg0 c12_i32
  let arg1 : BitVec 32 := BitVec.ofNat 32 (i 1).val
  let v1 : BitVec 32 := Scalar.addi v0 arg1
  let c48_i32 : BitVec 32 := 48#32
  let v2 : BitVec 32 := Scalar.muli v1 c48_i32
  let arg2 : BitVec 32 := BitVec.ofNat 32 (i 2).val
  let v3 : BitVec 32 := Scalar.addi v2 arg2
  let c3_i32 : BitVec 32 := 3#32
  let v4 : BitVec 32 := Scalar.remsi v3 c3_i32
  let c0_i32_29 : BitVec 32 := 0#32
  let c0_i32_30 : BitVec 32 := 0#32
  ![v4.toNat, 0, 0]
def k0_cond7 (i : grid0.Coords) : BitVec 1 :=
  let arg1 : BitVec 32 := BitVec.ofNat 32 (i 1).val
  let c11_i32_25 : BitVec 32 := 11#32
  let v46 : BitVec 1 := Scalar.cmpi .eq arg1 c11_i32_25
  let v47 : BitVec 32 := Scalar.extui v46
  let c0_i32_26 : BitVec 32 := 0#32
  let v48 : BitVec 1 := Scalar.cmpi .ne v47 c0_i32_26
  v48

def k0_off20 (i : grid0.Coords) : Fin 3 → Nat :=
  let arg0 : BitVec 32 := BitVec.ofNat 32 (i 0).val
  let c12_i32 : BitVec 32 := 12#32
  let v0 : BitVec 32 := Scalar.muli arg0 c12_i32
  let arg1 : BitVec 32 := BitVec.ofNat 32 (i 1).val
  let v1 : BitVec 32 := Scalar.addi v0 arg1
  let c48_i32 : BitVec 32 := 48#32
  let v2 : BitVec 32 := Scalar.muli v1 c48_i32
  let arg2 : BitVec 32 := BitVec.ofNat 32 (i 2).val
  let v3 : BitVec 32 := Scalar.addi v2 arg2
  let c3_i32 : BitVec 32 := 3#32
  let v4 : BitVec 32 := Scalar.remsi v3 c3_i32
  let v52 : Index := Scalar.indexCast v4
  let c0_28 : Index := 0#32
  let c0_29 : Index := 0#32
  ![v52.toNat, 0, 0]
def k0_cond8 (i : grid0.Coords) : BitVec 1 :=
  let arg2 : BitVec 32 := BitVec.ofNat 32 (i 2).val
  let c47_i32 : BitVec 32 := 47#32
  let v49 : BitVec 1 := Scalar.cmpi .eq arg2 c47_i32
  let v50 : BitVec 32 := Scalar.extui v49
  let c0_i32_27 : BitVec 32 := 0#32
  let v51 : BitVec 1 := Scalar.cmpi .ne v50 c0_i32_27
  v51

def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 1 := Scalar.cmpi .eq arg1 c11_i32
  let c0_i32 : BitVec 32 := 0#32
  let v1 : BitVec 32 := Scalar.select v0 arg2 c0_i32
  let c0_i32_0 : BitVec 32 := 0#32
  let c0_i32_1 : BitVec 32 := 0#32
  ![arg0.toNat, v1.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x2048x1536 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x1536 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x2048x1536 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x512x1536 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x1x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S1x1x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]
-- ==== KernelIdeal.lean ====
variable {F : FTy → Type} [FloatOps F] [Named F]
def κ : String → Option EReal := fun
  | "exp_cap" => some ⊤
  | "inv_s" => some ((1 / 24576 : ℝ) : EReal)
  | "log1p_small" => some ⊥
  | _ => none
-- ==== ReferenceIdeal.lean ====
abbrev S2x24576x1536 : Shape := ⟨3, ![2, 24576, 1536]⟩
abbrev S2x24576 : Shape := ⟨2, ![2, 24576]⟩
abbrev S_ : Shape := ⟨0, ![]⟩
abbrev S1 : Shape := ⟨1, ![1]⟩
abbrev S2x1x24576 : Shape := ⟨3, ![2, 1, 24576]⟩
abbrev S2x24576x1 : Shape := ⟨3, ![2, 24576, 1]⟩
abbrev S2x24576x24576 : Shape := ⟨3, ![2, 24576, 24576]⟩

abbrev nBuf : Space → Nat
  | .hbm => 14
  | .vmem => 9
  | .smem => 2
  | _ => 0

abbrev bufTy : (tb : Table) → Fin (tcTables nBuf tb) → BufTy
  | .hbm, ⟨0, _⟩ => ⟨S2x24576x1536, .fp8e4m3⟩
  | .hbm, ⟨1, _⟩ => ⟨S2x24576, .f32⟩
  | .hbm, ⟨2, _⟩ => ⟨S2x24576x1536, .fp8e4m3⟩
  | .hbm, ⟨3, _⟩ => ⟨S2x24576, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S1, .f32⟩
  | .hbm, ⟨8, _⟩ => ⟨S1, .f32⟩
  | .hbm, ⟨9, _⟩ => ⟨S2x1x24576, .f32⟩
  | .hbm, ⟨10, _⟩ => ⟨S2x24576x1536, .bf16⟩
  | .hbm, ⟨11, _⟩ => ⟨S2x24576x1536, .bf16⟩
  | .hbm, ⟨12, _⟩ => ⟨S2x1x24576, .f32⟩
  | .hbm, ⟨13, _⟩ => ⟨S2x1x24576, .f32⟩
  | .local _ .vmem, ⟨0, _⟩ => ⟨S2x24576x1536, .fp8e4m3⟩
  | .local _ .vmem, ⟨1, _⟩ => ⟨S2x24576x1536, .fp8e4m3⟩
  | .local _ .vmem, ⟨2, _⟩ => ⟨S2x24576, .f32⟩
  | .local _ .vmem, ⟨3, _⟩ => ⟨S2x24576, .f32⟩
  | .local _ .vmem, ⟨4, _⟩ => ⟨S2x1x24576, .f32⟩
  | .local _ .vmem, ⟨5, _⟩ => ⟨S2x24576x1536, .bf16⟩
  | .local _ .vmem, ⟨6, _⟩ => ⟨S2x24576x1536, .bf16⟩
  | .local _ .vmem, ⟨7, _⟩ => ⟨S2x1x24576, .f32⟩
  | .local _ .vmem, ⟨8, _⟩ => ⟨S2x1x24576, .f32⟩
  | .local _ .smem, ⟨0, _⟩ => ⟨S1, .f32⟩
  | .local _ .smem, ⟨1, _⟩ => ⟨S1, .f32⟩
  | _, _ => ⟨S2x24576x1536, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg6_0 : Ref sig .tc := ⟨.vmem, 4, rfl⟩
abbrev cc0_stg7_0 : Ref sig .tc := ⟨.vmem, 5, rfl⟩
abbrev cc0_stg8_0 : Ref sig .tc := ⟨.vmem, 6, rfl⟩
abbrev cc0_stg9_0 : Ref sig .tc := ⟨.vmem, 7, rfl⟩
abbrev cc0_stg10_0 : Ref sig .tc := ⟨.vmem, 8, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x24576x1536 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x24576x1536 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x24576 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x24576 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x1x24576 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x24576x1536 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x24576x1536 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x1x24576 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x1x24576 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Ideal.Names.lean ====
/-
  NAMES AND SCHEDULE of the kernel's own transfers. The kernel keeps the running gradient of one block of 512
  columns (`dy`) in a ring of three VMEM slots and parks it, between two row blocks, in a big array in HBM (the
  accumulator). At point `n = (batch * 12 + row block) * 48 + column block` it uses slot `n % 3`. This file names
  slot `s`, column block `j` of the accumulator, and the two semaphores of each slot, and puts every offset and
  condition the kernel computes in closed form over the number `n` of the point.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.KitQuiescent
public import Idealize.ShloMosaic.Lib.Ring
public import Idealize.ShloMosaic.Lib.Affine
public import Idealize.ShloMosaic.Lib.Tactic

@[expose] public section

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resource algebra: the pipeline's, beside the counters the kernel's own transfers use. -/
abbrev UU (nD : Nat) (τ : Topo) : Type := UR sig nD τ × Counters
abbrev EP : Emb (UR sig nD τ) (MT nD τ sig Unit (Elt F) ℕ (UU nD τ) ℕ) := embL
abbrev 𝒱₀ : Variants := Variants.none

/-! ## Canonical names -/

/-- The slot that point `n` uses. -/
def sof (n : ℕ) : Fin 3 := ⟨n % 3, Nat.mod_lt _ (by decide)⟩
/-- The column block of point `n`. -/
def jof (n : ℕ) : Fin 48 := ⟨n % 48, Nat.mod_lt _ (by decide)⟩
/-- The row block of point `n`. -/
def iof (n : ℕ) : ℕ := n / 48 % 12

abbrev accM : Memref sig .tc .hbm S24576x1536 .f32 := Memref.whole main_v5_5
abbrev bufM : Memref sig .tc .vmem S3x512x1536 .f32 := Memref.whole cc0_scratch1

abbrev blkOff (j : Fin 48) : Fin 2 → Nat := ![512 * j.val, 0]
theorem blkOff_inb (j : Fin 48) : ∀ a, blkOff j a + S512x1536.size a ≤ S24576x1536.size a := by
  have := j.isLt; intro a; fin_cases a
  · show 512 * j.val + 512 ≤ 24576; omega
  · show 0 + 1536 ≤ 1536; omega
abbrev slotOff (s : Fin 3) : Fin 3 → Nat := ![s.val, 0, 0]
theorem slotOff_inb (s : Fin 3) : ∀ a, slotOff s a + S1x512x1536.size a ≤ S3x512x1536.size a := by
  have := s.isLt; intro a; fin_cases a
  · show s.val + 1 ≤ 3; omega
  · show 0 + 512 ≤ 512; omega
  · show 0 + 1536 ≤ 1536; omega
abbrev semOff (s : Fin 3) : Fin 1 → Nat := ![s.val]
theorem semOff_inb (s : Fin 3) : ∀ a, semOff s a + S1.size a ≤ S3.size a := by
  have := s.isLt; intro a; fin_cases a; show s.val + 1 ≤ 3; omega

/-- Column block `j` of the accumulator, as the body slices it. -/
def blk (j : Fin 48) : Memref sig .tc .hbm S512x1536 .f32 :=
  accM.slice (Rect.unit (s := S24576x1536) (blkOff j) S512x1536.size (blkOff_inb j)) (fun _ => rfl)
/-- Slot `s` of the ring, as the body slices and squeezes it. -/
def rslot (s : Fin 3) : Memref sig .tc .vmem S512x1536 .f32 :=
  (bufM.slice (Rect.unit (s := S3x512x1536) (slotOff s) S1x512x1536.size (slotOff_inb s)) (fun _ => rfl)).squeeze S512x1536 squeezes_S1x512x1536_S512x1536
/-- The semaphore of the load into slot `s`. -/
def lsm (s : Fin 3) : DmaSems sig S_ := (cc0_scratch4.slice (Rect.unit (s := S3) (semOff s) S1.size (semOff_inb s))).squeeze S_ squeezes_S1_S_
/-- The semaphore of the store out of slot `s`. -/
def ssm (s : Fin 3) : DmaSems sig S_ := (cc0_scratch5.slice (Rect.unit (s := S3) (semOff s) S1.size (semOff_inb s))).squeeze S_ squeezes_S1_S_

instance (s : Fin 3) : ClosedOff (slotOff s) := ⟨slotOff s, rfl⟩
instance (j : Fin 48) : ClosedOff (blkOff j) := ⟨blkOff j, rfl⟩

/-! ## The kernel's conditions, at the number of the point -/

theorem cond1_iff (t : Fin cfg0.N) : k0_cond1 (grid0.coords t) = 1#1 ↔ 2 ≤ t.val ∧ iof (t.val - 2) < 11 := by
  revert t; exact (by decide +kernel : ∀ t : Fin grid0.N, k0_cond1 (grid0.coords t) = 1#1 ↔ 2 ≤ t.val ∧ iof (t.val - 2) < 11)
theorem cond2_iff (t : Fin cfg0.N) : k0_cond2 (grid0.coords t) = 1#1 ↔ t.val + 1 < 1152 ∧ 0 < iof (t.val + 1) := by
  revert t; exact (by decide +kernel : ∀ t : Fin grid0.N, k0_cond2 (grid0.coords t) = 1#1 ↔ t.val + 1 < 1152 ∧ 0 < iof (t.val + 1))
theorem cond3_iff (t : Fin cfg0.N) : k0_cond3 (grid0.coords t) = 1#1 ↔ 0 < iof t.val := by
  revert t; exact (by decide +kernel : ∀ t : Fin grid0.N, k0_cond3 (grid0.coords t) = 1#1 ↔ 0 < iof t.val)
theorem cond4_iff (t : Fin cfg0.N) : k0_cond4 (grid0.coords t) = 1#1 ↔ iof t.val = 0 := by
  revert t; exact (by decide +kernel : ∀ t : Fin grid0.N, k0_cond4 (grid0.coords t) = 1#1 ↔ iof t.val = 0)
/-- The condition under which the two accumulators in VMEM are cleared: the first column block. -/
theorem cond5_iff (t : Fin cfg0.N) :
    Scalar.cmpi .ne (Scalar.extui (Scalar.cmpi .eq (BitVec.ofNat 32 ((grid0.coords t) 2).val) 0#32) : BitVec 32) 0#32 = 1#1 ↔ t.val % 48 = 0 := by
  revert t; exact (by decide +kernel : ∀ t : Fin grid0.N, Scalar.cmpi .ne (Scalar.extui (Scalar.cmpi .eq (BitVec.ofNat 32 ((grid0.coords t) 2).val) 0#32) : BitVec 32) 0#32 = 1#1 ↔ t.val % 48 = 0)
theorem cond6_iff (t : Fin cfg0.N) : k0_cond6 (grid0.coords t) = 1#1 ↔ iof t.val < 11 := by
  revert t; exact (by decide +kernel : ∀ t : Fin grid0.N, k0_cond6 (grid0.coords t) = 1#1 ↔ iof t.val < 11)
theorem cond7_iff (t : Fin cfg0.N) : k0_cond7 (grid0.coords t) = 1#1 ↔ iof t.val = 11 := by
  revert t; exact (by decide +kernel : ∀ t : Fin grid0.N, k0_cond7 (grid0.coords t) = 1#1 ↔ iof t.val = 11)
theorem cond8_iff (t : Fin cfg0.N) : k0_cond8 (grid0.coords t) = 1#1 ↔ t.val % 48 = 47 := by
  revert t; exact (by decide +kernel : ∀ t : Fin grid0.N, k0_cond8 (grid0.coords t) = 1#1 ↔ t.val % 48 = 47)

/-! ## The kernel's offsets -/

theorem off1_eq (t : Fin cfg0.N) (h : k0_cond1 (grid0.coords t) = 1#1) : k0_off1 (grid0.coords t) = semOff (sof (t.val + 1)) := by
  revert t; exact (by decide +kernel : ∀ t : Fin grid0.N, k0_cond1 (grid0.coords t) = 1#1 → k0_off1 (grid0.coords t) = semOff (sof (t.val + 1)))
theorem off2_eq (t : Fin cfg0.N) (h : k0_cond1 (grid0.coords t) = 1#1) : k0_off2 (grid0.coords t) = slotOff (sof (t.val + 1)) := by
  revert t; exact (by decide +kernel : ∀ t : Fin grid0.N, k0_cond1 (grid0.coords t) = 1#1 → k0_off2 (grid0.coords t) = slotOff (sof (t.val + 1)))
theorem off3_eq (t : Fin cfg0.N) : k0_off3 (grid0.coords t) = semOff (sof (t.val + 1)) := by
  revert t; exact (by decide +kernel : ∀ t : Fin grid0.N, k0_off3 (grid0.coords t) = semOff (sof (t.val + 1)))
theorem off4_eq (t : Fin cfg0.N) : k0_off4 (grid0.coords t) = slotOff (sof (t.val + 1)) := by
  revert t; exact (by decide +kernel : ∀ t : Fin grid0.N, k0_off4 (grid0.coords t) = slotOff (sof (t.val + 1)))
theorem off5_eq (t : Fin cfg0.N) : k0_off5 (grid0.coords t) = blkOff (jof (t.val + 1)) := by
  revert t; exact (by decide +kernel : ∀ t : Fin grid0.N, k0_off5 (grid0.coords t) = blkOff (jof (t.val + 1)))
theorem off6_eq (t : Fin cfg0.N) : k0_off6 (grid0.coords t) = semOff (sof t.val) := by
  revert t; exact (by decide +kernel : ∀ t : Fin grid0.N, k0_off6 (grid0.coords t) = semOff (sof t.val))
theorem off7_eq (t : Fin cfg0.N) : k0_off7 (grid0.coords t) = slotOff (sof t.val) := by
  revert t; exact (by decide +kernel : ∀ t : Fin grid0.N, k0_off7 (grid0.coords t) = slotOff (sof t.val))
theorem off8_eq (t : Fin cfg0.N) : k0_off8 (grid0.coords t) = blkOff (jof t.val) := by
  revert t; exact (by decide +kernel : ∀ t : Fin grid0.N, k0_off8 (grid0.coords t) = blkOff (jof t.val))
theorem off9_eq (t : Fin cfg0.N) : k0_off9 (grid0.coords t) = slotOff (sof t.val) := by
  revert t; exact (by decide +kernel : ∀ t : Fin grid0.N, k0_off9 (grid0.coords t) = slotOff (sof t.val))
theorem off15_eq (t : Fin cfg0.N) : k0_off15 (grid0.coords t) = slotOff (sof t.val) := by
  revert t; exact (by decide +kernel : ∀ t : Fin grid0.N, k0_off15 (grid0.coords t) = slotOff (sof t.val))
theorem off17_eq (t : Fin cfg0.N) : k0_off17 (grid0.coords t) = semOff (sof t.val) := by
  revert t; exact (by decide +kernel : ∀ t : Fin grid0.N, k0_off17 (grid0.coords t) = semOff (sof t.val))
theorem off18_eq (t : Fin cfg0.N) : k0_off18 (grid0.coords t) = blkOff (jof t.val) := by
  revert t; exact (by decide +kernel : ∀ t : Fin grid0.N, k0_off18 (grid0.coords t) = blkOff (jof t.val))
theorem off19_eq (t : Fin cfg0.N) : k0_off19 (grid0.coords t) = slotOff (sof t.val) := by
  revert t; exact (by decide +kernel : ∀ t : Fin grid0.N, k0_off19 (grid0.coords t) = slotOff (sof t.val))
theorem off20_eq (t : Fin cfg0.N) : k0_off20 (grid0.coords t) = slotOff (sof t.val) := by
  revert t; exact (by decide +kernel : ∀ t : Fin grid0.N, k0_off20 (grid0.coords t) = slotOff (sof t.val))

instance (t : Fin cfg0.N) : ClosedOff (k0_off9 (grid0.coords t)) := ⟨slotOff (sof t.val), off9_eq t⟩
instance (t : Fin cfg0.N) : ClosedOff (k0_off15 (grid0.coords t)) := ⟨slotOff (sof t.val), off15_eq t⟩
instance (t : Fin cfg0.N) : ClosedOff (k0_off20 (grid0.coords t)) := ⟨slotOff (sof t.val), off20_eq t⟩

/-! ## The body's slices under their names -/

private theorem lsm_congr {off : Fin 1 → Nat} {s : Fin 3} (e : off = semOff s) (hh) :
    (cc0_scratch4.slice (Rect.unit (s := S3) off S1.size hh)).squeeze S_ squeezes_S1_S_ = lsm s :=
  congrArg (fun A : DmaSems sig S1 => A.squeeze S_ squeezes_S1_S_) (SemArray.slice_unit_congr _ e _ _)
private theorem ssm_congr {off : Fin 1 → Nat} {s : Fin 3} (e : off = semOff s) (hh) :
    (cc0_scratch5.slice (Rect.unit (s := S3) off S1.size hh)).squeeze S_ squeezes_S1_S_ = ssm s :=
  congrArg (fun A : DmaSems sig S1 => A.squeeze S_ squeezes_S1_S_) (SemArray.slice_unit_congr _ e _ _)
private theorem rslot_congr {off : Fin 3 → Nat} {s : Fin 3} (e : off = slotOff s) (hh hs) :
    (bufM.slice (Rect.unit (s := S3x512x1536) off S1x512x1536.size hh) hs).squeeze S512x1536 squeezes_S1x512x1536_S512x1536 = rslot s :=
  congrArg (fun M : Memref sig .tc .vmem S1x512x1536 .f32 => M.squeeze S512x1536 squeezes_S1x512x1536_S512x1536) (Memref.slice_unit_congr _ e _ _ _ _)
private theorem blk_congr {off : Fin 2 → Nat} {j : Fin 48} (e : off = blkOff j) (hh hs) :
    (accM.slice (Rect.unit (s := S24576x1536) off S512x1536.size hh) hs) = blk j :=
  Memref.slice_unit_congr _ e _ _ _ (fun _ => rfl)

section Canon
variable (t : Fin cfg0.N)
@[sl_canon] theorem sem1 (h : k0_cond1 (grid0.coords t) = 1#1) (hh) : (cc0_scratch5.slice (Rect.unit (s := S3) (k0_off1 (grid0.coords t)) S1.size hh)).squeeze S_ squeezes_S1_S_ = ssm (sof (t.val + 1)) := ssm_congr (off1_eq t h) _
@[sl_canon] theorem sem3 (hh) : (cc0_scratch4.slice (Rect.unit (s := S3) (k0_off3 (grid0.coords t)) S1.size hh)).squeeze S_ squeezes_S1_S_ = lsm (sof (t.val + 1)) := lsm_congr (off3_eq t) _
@[sl_canon] theorem sem6 (hh) : (cc0_scratch4.slice (Rect.unit (s := S3) (k0_off6 (grid0.coords t)) S1.size hh)).squeeze S_ squeezes_S1_S_ = lsm (sof t.val) := lsm_congr (off6_eq t) _
@[sl_canon] theorem sem17 (hh) : (cc0_scratch5.slice (Rect.unit (s := S3) (k0_off17 (grid0.coords t)) S1.size hh)).squeeze S_ squeezes_S1_S_ = ssm (sof t.val) := ssm_congr (off17_eq t) _
@[sl_canon] theorem slot2 (h : k0_cond1 (grid0.coords t) = 1#1) (hh hs) : (bufM.slice (Rect.unit (s := S3x512x1536) (k0_off2 (grid0.coords t)) S1x512x1536.size hh) hs).squeeze S512x1536 squeezes_S1x512x1536_S512x1536 = rslot (sof (t.val + 1)) := rslot_congr (off2_eq t h) _ _
@[sl_canon] theorem slot4 (hh hs) : (bufM.slice (Rect.unit (s := S3x512x1536) (k0_off4 (grid0.coords t)) S1x512x1536.size hh) hs).squeeze S512x1536 squeezes_S1x512x1536_S512x1536 = rslot (sof (t.val + 1)) := rslot_congr (off4_eq t) _ _
@[sl_canon] theorem slot7 (hh hs) : (bufM.slice (Rect.unit (s := S3x512x1536) (k0_off7 (grid0.coords t)) S1x512x1536.size hh) hs).squeeze S512x1536 squeezes_S1x512x1536_S512x1536 = rslot (sof t.val) := rslot_congr (off7_eq t) _ _
@[sl_canon] theorem slot19 (hh hs) : (bufM.slice (Rect.unit (s := S3x512x1536) (k0_off19 (grid0.coords t)) S1x512x1536.size hh) hs).squeeze S512x1536 squeezes_S1x512x1536_S512x1536 = rslot (sof t.val) := rslot_congr (off19_eq t) _ _
@[sl_canon] theorem blk1 (hh hs) : (accM.slice (Rect.unit (s := S24576x1536) ![0, 0] S512x1536.size hh) hs) = blk 0 := blk_congr (by decide) _ _
@[sl_canon] theorem blk5 (hh hs) : (accM.slice (Rect.unit (s := S24576x1536) (k0_off5 (grid0.coords t)) S512x1536.size hh) hs) = blk (jof (t.val + 1)) := blk_congr (off5_eq t) _ _
@[sl_canon] theorem blk8 (hh hs) : (accM.slice (Rect.unit (s := S24576x1536) (k0_off8 (grid0.coords t)) S512x1536.size hh) hs) = blk (jof t.val) := blk_congr (off8_eq t) _ _
@[sl_canon] theorem blk18 (hh hs) : (accM.slice (Rect.unit (s := S24576x1536) (k0_off18 (grid0.coords t)) S512x1536.size hh) hs) = blk (jof t.val) := blk_congr (off18_eq t) _ _
end Canon

end Cert.Proof.Ideal

end
-- ==== Proof.Ideal.Vals.lean ====
/-
  WHAT ONE POINT COMPUTES, as functions of arrays. A point reads a block of rows of `x` and of `y` with their scales,
  and two numbers; it changes three arrays: the running gradient of `x`, the running gradient of its column block of
  `y`, and the running sums. It does so in four trips of 512 rows. The functions here are the generated payloads put
  together in the order of the program; nothing is rewritten.
-/
module

public import proofs.«01_k».proof.Defs
public import proofs.«01_k».proof.Proof.Gen.KernelIdeal.Skeleton
public import Idealize.ShloMosaic.Lib.VecWindow

@[expose] public section

noncomputable section

namespace Cert.Proof.Ideal

open Cert.KernelIdeal Cert.KernelIdeal.Gen
open Idealize.ShloMosaic
open Idealize.ShloMosaic.TcCoe

variable {F : FTy → Type} [FloatOps F] [Named F]

/-- A tile of the gradient of `y`. -/
abbrev Tile (F : FTy → Type) : Type := S512x1536.Idx → Elt F .f32

/-- What a point reads: its coordinates as words, the two numbers, the blocks of `x` and `y`, their scales. -/
structure Inputs (F : FTy → Type) where
  bi : BitVec 32
  bj : BitVec 32
  t : Elt F .f32
  b : Elt F .f32
  x : Vec F S1x2048x1536 .fp8e4m3
  y : Vec F S1x512x1536 .fp8e4m3
  xs : Vec F S1x1x2048 .f32
  ys : Vec F S1x1x512 .f32

/-- What a point changes: the running gradient of `x`, the running gradient of a column block of `y`, the sums. -/
structure St (F : FTy → Type) where
  dx : Vec F S2048x1536 .f32
  dy : Tile F
  sm : Vec F S3x8x2048 .f32

/-- A tile as the ring holds it (one slot high), and back. -/
abbrev up (X : Tile F) : Vec F S1x512x1536 .f32 := shapeCast S1x512x1536 X squeezes_S1x512x1536_S512x1536.numel_eq.symm
abbrev dn (w : Vec F S1x512x1536 .f32) : Tile F := shapeCast S512x1536 w squeezes_S1x512x1536_S512x1536.numel_eq

section Trip
variable (I : Inputs F) (k : Fin k0_t1_loop.trips)

/-- The rows of `x` of trip `k`, their scales, and the scales of `y` spread over a tile. -/
abbrev xk : Vec F S1x512x1536 .fp8e4m3 := VecWindow.window I.x (k0_off10 k) S1x512x1536.size (k0_off10_inb k)
abbrev xsk : Vec F S1x1x512 .f32 := VecWindow.window I.xs (k0_off11 k) S1x1x512.size (k0_off11_inb k)
abbrev ysb : Vec F S512x128 .f32 := k0_pay4 I.ys

/-- The products, the mask of the diagonal, and the quotient the derivative is read off. -/
abbrev prodT : FVec F S512x512 .f32 := k0_pay14 I.t (xk I k) I.y (xsk I k) (ysb I)
abbrev maskT : IVec S512x512 1 := k0_pay15 I.bi I.bj 0#32 1#32 k
abbrev sgT : FVec F S512x512 .f32 := k0_pay19 I.bi I.bj I.t I.b 0#32 1#32 k (xk I k) I.y (xsk I k) (ysb I)
abbrev gT : FVec F S512x512 .f32 := k0_pay22 (maskT I k) (sgT I k)

/-- The sums after trip `k`. -/
def smT (m : Vec F S3x8x2048 .f32) : Vec F S3x8x2048 .f32 :=
  VecWindow.put
    (VecWindow.put
      (VecWindow.put m (k0_off12 k) S1x8x512.size
        (k0_pay23 (k0_pay16 I.bi I.bj I.t I.b 0#32 1#32 k (xk I k) I.y (xsk I k) (ysb I))
          (k0_pay17 I.bi I.bj I.t I.b 0#32 1#32 k (xk I k) I.y (xsk I k) (ysb I))
          (k0_pay18 I.bi I.bj I.t I.b 0#32 1#32 k (xk I k) I.y (xsk I k) (ysb I))
          (k0_pay20 I.bi I.bj I.t I.b 0#32 1#32 k (xk I k) I.y (xsk I k) (ysb I))
          k0_pay21
          (VecWindow.window m (k0_off12 k) S1x8x512.size (k0_off12_inb k))))
      (k0_off13 k) S1x8x512.size
      (k0_pay24 (prodT I k) (maskT I k) (sgT I k) (VecWindow.window m (k0_off13 k) S1x8x512.size (k0_off13_inb k))))
    (k0_off14 k) S1x8x512.size
    (k0_pay5 (k0_pay25 (maskT I k) (sgT I k) (VecWindow.window m (k0_off14 k) S1x8x512.size (k0_off14_inb k))))

/-- The gradient of `y` after trip `k`. -/
def dyT (X : Tile F) : Tile F := dn (k0_pay6 (k0_pay10 (xk I k)) (k0_pay12 (xsk I k)) (gT I k) (up X))

/-- The gradient of `x` after trip `k`. -/
def dxT (A : Vec F S2048x1536 .f32) : Vec F S2048x1536 .f32 :=
  VecWindow.put A (k0_off16 k) S512x1536.size
    (k0_pay7 (k0_pay11 I.y) (k0_pay13 (ysb I)) (gT I k) (VecWindow.window A (k0_off16 k) S512x1536.size (k0_off16_inb k)))

def tripV (s : St F) : St F := ⟨dxT I k s.dx, dyT I k s.dy, smT I k s.sm⟩

end Trip

/-- The state after the first `k` trips. -/
def tripsV (I : Inputs F) (s : St F) : ℕ → St F
  | 0 => s
  | k + 1 => if h : k < k0_t1_loop.trips then tripV I ⟨k, h⟩ (tripsV I s k) else tripsV I s k

theorem tripsV_succ (I : Inputs F) (s : St F) (k : Fin k0_t1_loop.trips) :
    tripsV I s (k.val + 1) = tripV I k (tripsV I s k.val) := dif_pos k.isLt

/-- The state after the point. -/
def pointV (I : Inputs F) (s : St F) : St F := tripsV I s k0_t1_loop.trips

/-- The state a point starts from: the first row block clears the tile of `y`, the first column block the rest. -/
def startV (zi zj : Prop) [Decidable zi] [Decidable zj] (s : St F) : St F :=
  ⟨if zj then k0_pay2 else s.dx, if zi then dn k0_pay1 else s.dy, if zj then k0_pay3 else s.sm⟩

/-- The states after every point, given what each reads: the tile of `y` comes from 48 points before. -/
def stateV (inp : ℕ → Inputs F) (n : ℕ) : St F :=
  pointV (inp n)
    ⟨if h : n % 48 = 0 then k0_pay2 else (stateV inp (n - 1)).dx,
      if h : n / 48 % 12 = 0 then dn k0_pay1 else (stateV inp (n - 48)).dy,
      if h : n % 48 = 0 then k0_pay3 else (stateV inp (n - 1)).sm⟩
  termination_by n
  decreasing_by all_goals omega

end Cert.Proof.Ideal

end
-- ==== Proof.Ideal.Pieces.lean ====
/-
  THE PIECES the body works on: a slot of the ring held with a matrix in it, a column block of the accumulator held
  with a matrix in it, a load or a store between the two in flight.
-/
module

public import proofs.«01_k».proof.Proof.Ideal.Names
public import proofs.«01_k».proof.Proof.Ideal.Vals

@[expose] public section

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (UU nD τ) ℕ

section
variable (c : Dev nD)

abbrev lcellP (s : Fin 3) : sProp 𝕄 := semVal ((c : Thread nD τ), SemLoc.dma (lsm s).sem) 0
abbrev scellP (s : Fin 3) : sProp 𝕄 := semVal ((c : Thread nD τ), SemLoc.dma (ssm s).sem) 0
/-- Slot `s` held at contents `f`; column block `j` of the accumulator held at contents `g`. -/
abbrev slotP (s : Fin 3) (f : Buf (Elt F) ((rslot s).view.loc (c : Thread nD τ))) : sProp 𝕄 :=
  (rslot s).view.loc (c : Thread nD τ) ↦[(rslot s).view.set]{fullShare} f
abbrev homeP (j : Fin 48) (g : Buf (Elt F) ((blk j).view.loc (c : Thread nD τ))) : sProp 𝕄 :=
  (blk j).view.loc (c : Thread nD τ) ↦[(blk j).view.set]{fullShare} g
/-- What a load of block `j` at `g` leaves in slot `s`; what a store of slot `s` at `f` leaves in block `j`. -/
abbrev loaded (s : Fin 3) (j : Fin 48) (f : Buf (Elt F) ((rslot s).view.loc (c : Thread nD τ))) (g : Buf (Elt F) ((blk j).view.loc (c : Thread nD τ))) : Buf (Elt F) ((rslot s).view.loc (c : Thread nD τ)) :=
  (rslot s).view.writes (Elt F) f [⟨Rect.whole S512x1536, ReadAs.same.apply ((blk j).view.read (Elt F) g)⟩]
abbrev stored (s : Fin 3) (j : Fin 48) (f : Buf (Elt F) ((rslot s).view.loc (c : Thread nD τ))) (g : Buf (Elt F) ((blk j).view.loc (c : Thread nD τ))) : Buf (Elt F) ((blk j).view.loc (c : Thread nD τ)) :=
  (blk j).view.writes (Elt F) g [⟨Rect.whole S512x1536, ReadAs.same.apply ((rslot s).view.read (Elt F) f)⟩]
/-- A load, a store, in flight. -/
abbrev loadP (s : Fin 3) (j : Fin 48) (f : Buf (Elt F) ((rslot s).view.loc (c : Thread nD τ))) (g : Buf (Elt F) ((blk j).view.loc (c : Thread nD τ))) : sProp 𝕄 :=
  Transfers.Flight countersEmb (c : Thread nD τ) (SemLoc.dma (lsm s).sem) () 98304 iprop(slotP c s (loaded c s j f g) ∗ homeP c j g)
abbrev storeP (s : Fin 3) (j : Fin 48) (f : Buf (Elt F) ((rslot s).view.loc (c : Thread nD τ))) (g : Buf (Elt F) ((blk j).view.loc (c : Thread nD τ))) : sProp 𝕄 :=
  Transfers.Flight countersEmb (c : Thread nD τ) (SemLoc.dma (ssm s).sem) () 98304 iprop(homeP c j (stored c s j f g) ∗ slotP c s f)

end

/-! ## The same, holding a given matrix -/

section
variable (c : Dev nD)

/-- Slot `s` held, whatever is in it; slot `s` holding the matrix `X`. -/
def slotA (s : Fin 3) : sProp 𝕄 := iprop(∃ f, slotP c s f)
def slotV (s : Fin 3) (X : Tile F) : sProp 𝕄 := iprop(∃ f, slotP c s f ∗ ⌜(rslot s).view.read (Elt F) f = X⌝)
/-- Column block `j` of the accumulator holding the matrix `X`. -/
def homeV (j : Fin 48) (X : Tile F) : sProp 𝕄 := iprop(∃ g, homeP c j g ∗ ⌜(blk j).view.read (Elt F) g = X⌝)
/-- The matrix `X` on its way from column block `j` into slot `s`, and from slot `s` into column block `j`. -/
def loadV (s : Fin 3) (j : Fin 48) (X : Tile F) : sProp 𝕄 := iprop(∃ f g, loadP c s j f g ∗ ⌜(blk j).view.read (Elt F) g = X⌝)
def storeV (s : Fin 3) (j : Fin 48) (X : Tile F) : sProp 𝕄 := iprop(∃ f g, storeP c s j f g ∗ ⌜(rslot s).view.read (Elt F) f = X⌝)

/-- A whole-shape piece, written last, is what the view reads. -/
theorem read_writes_whole {sig : RefSig} {κ : Kind} {sp : Space} {s : Shape} {e : EltTy} {Val : EltTy → Type} (v : View sig κ sp s e)
    (f : v.ty.Contents Val) (w : (Rect.whole s).shape.Idx → Val e) :
    v.read Val (v.writes Val f [⟨Rect.whole s, w⟩]) = w := by
  funext y
  have h := View.read_writes_cons_emb v f (Rect.whole s) w [] y
  rwa [Rect.emb_whole_apply] at h

/-- The slot loaded whole through the ring is the tile it holds, one slot high. -/
theorem readAt_slot (s : Fin 3) {off : Fin 3 → Nat} (e : off = slotOff s) (inb) (f : Buf (Elt F) ((rslot s).view.loc (c : Thread nD τ))) :
    bufM.view.readAt (Elt F) (Rect.unit (s := S3x512x1536) off S1x512x1536.size inb).toLoadRect f = up ((rslot s).view.read (Elt F) f) := by
  subst e
  funext z
  show bufM.view.read (Elt F) f _ = bufM.view.read (Elt F) f ((Rect.unit (s := S3x512x1536) (slotOff s) S1x512x1536.size (slotOff_inb s)).emb (Shape.reshapeEquiv _ (Shape.reshapeEquiv _ z)))
  rw [Shape.reshapeEquiv_reshapeEquiv, Shape.reshapeEquiv_self]
  rfl

/-- The tile a slot holds after the slot is stored whole through the ring. -/
theorem read_slot_write (s : Fin 3) {off : Fin 3 → Nat} (e : off = slotOff s) (inb) (f : Buf (Elt F) ((rslot s).view.loc (c : Thread nD τ)))
    (w : (Rect.unit (s := S3x512x1536) off S1x512x1536.size inb).shape.Idx → Elt F .f32) :
    (rslot s).view.read (Elt F) ((bufM.access (Rect.unit (s := S3x512x1536) off S1x512x1536.size inb)).write (Elt F) f w Finset.univ) = dn w := by
  subst e
  funext y
  have h := View.read_write_univ (Val := Elt F) (v := bufM.view.slice (Rect.unit (s := S3x512x1536) (slotOff s) S1x512x1536.size inb)) f w
  exact congrFun h (Shape.reshapeEquiv squeezes_S1x512x1536_S512x1536.numel_eq y)

theorem read_loaded (s : Fin 3) (j : Fin 48) (f g) :
    (rslot s).view.read (Elt F) (loaded c s j f g) = (blk j).view.read (Elt F) g :=
  read_writes_whole _ _ _

theorem read_stored (s : Fin 3) (j : Fin 48) (f g) :
    (blk j).view.read (Elt F) (stored c s j f g) = (rslot s).view.read (Elt F) f :=
  read_writes_whole _ _ _

end

end Cert.Proof.Ideal

end
-- ==== Proof.Ideal.Start.lean ====
/-
  THE START OF THE BODY: the two numbers are read; the store begun two points ago is waited for, if there was one; the
  load for the next point is begun, if it needs one; and the load for this point is waited for, if there is one.
-/
module

public import proofs.«01_k».proof.Proof.Ideal.Pieces

@[expose] public section

set_option maxRecDepth 8192
set_option maxHeartbeats 4000000

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (UU nD τ) ℕ

variable (c : Dev nD) (t : Fin cfg0.N)
  (arg3 : Memref sig .tc .smem S1 .f32) (harg3 : arg3.IsWhole) (arg4 : Memref sig .tc .smem S1 .f32) (harg4 : arg4.IsWhole)
  (arg5 : Memref sig .tc .vmem S1x2048x1536 .fp8e4m3) (harg5 : arg5.IsWhole) (arg6 : Memref sig .tc .vmem S1x512x1536 .fp8e4m3) (harg6 : arg6.IsWhole)
  (arg7 : Memref sig .tc .vmem S1x1x2048 .f32) (harg7 : arg7.IsWhole) (arg8 : Memref sig .tc .vmem S1x1x512 .f32) (harg8 : arg8.IsWhole)
  (arg9 : Memref sig .tc .vmem S1x1x2048 .f32) (harg9 : arg9.IsWhole) (arg10 : Memref sig .tc .vmem S1x2048x1536 .bf16) (harg10 : arg10.IsWhole)
  (arg11 : Memref sig .tc .vmem S1x512x1536 .bf16) (harg11 : arg11.IsWhole) (arg12 : Memref sig .tc .vmem S1x1x2048 .f32) (harg12 : arg12.IsWhole)
  (arg13 : Memref sig .tc .vmem S1x1x2048 .f32) (harg13 : arg13.IsWhole)
  (arg15 : Memref sig .tc .vmem S2048x1536 .f32) (harg15 : arg15.IsWhole)
  (arg17 : Memref sig .tc .vmem S512x128 .f32) (harg17 : arg17.IsWhole) (arg18 : Memref sig .tc .vmem S3x8x2048 .f32) (harg18 : arg18.IsWhole)

abbrev part4P : Prog (TpuEff nD τ sig (Elt F) Λ₀ .tc) (Σ' (arg1 : BitVec 32) (arg2 : BitVec 32) (v4 : BitVec 32) (v5 : Elt F .f32), Elt F .f32) :=
  k0_part4 (F := F) (grid0.coords t) arg3 harg3 arg4 harg4 arg5 harg5 arg6 harg6 arg7 harg7 arg8 harg8 arg9 harg9 arg10 harg10 arg11 harg11 arg12 harg12 arg13 harg13 accM (Memref.isWhole_whole _) arg15 harg15 bufM (Memref.isWhole_whole _) arg17 harg17 arg18 harg18 cc0_scratch4 cc0_scratch5

/-- Whether this point waits for a store, begins a load, waits for a load. -/
def waitsStore (n : ℕ) : Prop := 2 ≤ n ∧ iof (n - 2) < 11
def beginsLoad (n : ℕ) : Prop := n + 1 < 1152 ∧ 0 < iof (n + 1)
def waitsLoad (n : ℕ) : Prop := 0 < iof n
instance (n : ℕ) : Decidable (waitsStore n) := inferInstanceAs (Decidable (2 ≤ n ∧ iof (n - 2) < 11))
instance (n : ℕ) : Decidable (beginsLoad n) := inferInstanceAs (Decidable (n + 1 < 1152 ∧ 0 < iof (n + 1)))
instance (n : ℕ) : Decidable (waitsLoad n) := inferInstanceAs (Decidable (0 < iof n))

/-- The one element of a one-element array. -/
abbrev the1 (X : S1.Idx → Elt F .f32) : Elt F .f32 := X (Shape.Idx.first (s := S1) (by decide))

section
variable (jp : Fin 48) (X2 Xn X0 : Tile F)

/-- The slot, semaphores and column blocks the start of the body works on, before it, -/
def startPre : sProp 𝕄 :=
  iprop((if waitsStore t.val then storeV c (sof (t.val + 1)) jp X2 else iprop(slotA c (sof (t.val + 1)) ∗ scellP c (sof (t.val + 1))))
    ∗ lcellP c (sof (t.val + 1)) ∗ (if beginsLoad t.val then homeV c (jof (t.val + 1)) Xn else iprop(emp))
    ∗ (if waitsLoad t.val then loadV c (sof t.val) (jof t.val) X0 else iprop(slotA c (sof t.val) ∗ lcellP c (sof t.val))))
/-- and after it. -/
def startPost : sProp 𝕄 :=
  iprop((if waitsStore t.val then homeV c jp X2 else iprop(emp)) ∗ scellP c (sof (t.val + 1))
    ∗ (if beginsLoad t.val then loadV c (sof (t.val + 1)) (jof (t.val + 1)) Xn else iprop(slotA c (sof (t.val + 1)) ∗ lcellP c (sof (t.val + 1))))
    ∗ (if waitsLoad t.val then iprop(homeV c (jof t.val) X0 ∗ slotV c (sof t.val) X0) else slotA c (sof t.val))
    ∗ lcellP c (sof t.val))

theorem part4_run (f3 f4) (W) (Q) :
    iprop((arg3.view.loc (c : Thread nD τ) ↦[arg3.view.set]{fullShare} f3) ∗ (arg4.view.loc (c : Thread nD τ) ↦[arg4.view.set]{fullShare} f4) ∗ startPre c t jp X2 Xn X0 ∗ owes (c : Thread nD τ) 0 W
        ∗ (∀ v4, (arg3.view.loc (c : Thread nD τ) ↦[arg3.view.set]{fullShare} f3) ∗ (arg4.view.loc (c : Thread nD τ) ↦[arg4.view.set]{fullShare} f4) ∗ startPost c t jp X2 Xn X0 ∗ (∃ W, owes (c : Thread nD τ) 0 W)
            -∗ Q ⟨BitVec.ofNat 32 ((grid0.coords t) 1).val, BitVec.ofNat 32 ((grid0.coords t) 2).val, v4, the1 (arg3.view.read (Elt F) f3), the1 (arg4.view.read (Elt F) f4)⟩))
      ⊢ wp frame (wpE (defs₀ (F := F)) 𝒱₀ (c : Thread nD τ) none) Set.univ (part4P t arg3 harg3 arg4 harg4 arg5 harg5 arg6 harg6 arg7 harg7 arg8 harg8 arg9 harg9 arg10 harg10 arg11 harg11 arg12 harg12 arg13 harg13 arg15 harg15 arg17 harg17 arg18 harg18) Q := by
  unfold startPre startPost storeV loadV slotA slotV homeV
  by_cases c1 : waitsStore t.val <;> by_cases c2 : beginsLoad t.val <;> by_cases c3 : waitsLoad t.val <;>
    simp only [c1, c2, c3, if_true, if_false]
  all_goals
    first | have h1 := (cond1_iff t).mpr c1 | have h1 := mt (cond1_iff t).mp c1
    first | have h2 := (cond2_iff t).mpr c2 | have h2 := mt (cond2_iff t).mp c2
    first | have h3 := (cond3_iff t).mpr c3 | have h3 := mt (cond3_iff t).mp c3
    iintro ⟨H3, H4, ⟨HA, HLc, HB, HC⟩, HW, Hk⟩
    first | icases HA with ⟨%fs, %gs, HS, %e2⟩ | icases HA with ⟨⟨%fs, HSl⟩, HS⟩
    first | icases HB with ⟨%gn, HN, %en⟩ | icases HB with -
    first | icases HC with ⟨%fl, %gl, HL, %e0⟩ | icases HC with ⟨⟨%fl, HSl0⟩, HL⟩
    sl_exec
    sl_step
    first
      | unfold part4_run.sl.r part4_run.sl.r_1
      | unfold part4_run.sl.r_2 part4_run.sl.r_3
      | unfold part4_run.sl.r_4 part4_run.sl.r_5
      | unfold part4_run.sl.r_6 part4_run.sl.r_7
      | unfold part4_run.sl.r_8 part4_run.sl.r_9
      | unfold part4_run.sl.r_10 part4_run.sl.r_11
      | unfold part4_run.sl.r_12 part4_run.sl.r_13
      | unfold part4_run.sl.r_14 part4_run.sl.r_15
    rw [View.readAt_full, View.readAt_full]
    iapply Hk
    isplitl [H3]; · iexact H3
    isplitl [H4]; · iexact H4
    isplitr [HW]
    · first
        | isplitl [HS_dst]; · iexists _; isplitl [HS_dst]; · iexact HS_dst
                              ipureintro; exact (read_stored c _ _ _ _).trans e2
        | isplitr; · iempintro
      isplitl [HS]; · iexact HS
      first
        | isplitl [HLc]; · iexists _, _; isplitl [HLc]; · iexact HLc
                           ipureintro; exact en
        | isplitl [HLc HS_src]; · isplitl [HS_src]; · iexists _; iexact HS_src
                                  iexact HLc
        | isplitl [HLc HSl]; · isplitl [HSl]; · iexists _; iexact HSl
                               iexact HLc
      isplitr [HL]
      · first
          | isplitl [HL_src]; · iexists _; isplitl [HL_src]; · iexact HL_src
                                ipureintro; exact e0
            iexists _; isplitl [HL_dst]; · iexact HL_dst
            ipureintro; exact (read_loaded c _ _ _ _).trans e0
          | iexists _; iexact HSl0
      iexact HL
    iexists _; iexact HW

end

end Cert.Proof.Ideal

end
-- ==== Proof.Ideal.Trip.lean ====
/-
  ONE TRIP of the kernel's loop over the 512-row units of its row block, and the loop: what the three arrays it
  changes hold afterwards, as the functions of `Vals.lean`.
-/
module

public import proofs.«01_k».proof.Proof.Ideal.Pieces

@[expose] public section

set_option maxRecDepth 8192
set_option maxHeartbeats 4000000

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (UU nD τ) ℕ

variable (c : Dev nD) (t : Fin cfg0.N)
  (arg3 : Memref sig .tc .smem S1 .f32) (harg3 : arg3.IsWhole) (arg4 : Memref sig .tc .smem S1 .f32) (harg4 : arg4.IsWhole)
  (arg5 : Memref sig .tc .vmem S1x2048x1536 .fp8e4m3) (harg5 : arg5.IsWhole) (arg6 : Memref sig .tc .vmem S1x512x1536 .fp8e4m3) (harg6 : arg6.IsWhole)
  (arg7 : Memref sig .tc .vmem S1x1x2048 .f32) (harg7 : arg7.IsWhole) (arg8 : Memref sig .tc .vmem S1x1x512 .f32) (harg8 : arg8.IsWhole)
  (arg9 : Memref sig .tc .vmem S1x1x2048 .f32) (harg9 : arg9.IsWhole) (arg10 : Memref sig .tc .vmem S1x2048x1536 .bf16) (harg10 : arg10.IsWhole)
  (arg11 : Memref sig .tc .vmem S1x512x1536 .bf16) (harg11 : arg11.IsWhole) (arg12 : Memref sig .tc .vmem S1x1x2048 .f32) (harg12 : arg12.IsWhole)
  (arg13 : Memref sig .tc .vmem S1x1x2048 .f32) (harg13 : arg13.IsWhole)
  (arg15 : Memref sig .tc .vmem S2048x1536 .f32) (harg15 : arg15.IsWhole)
  (arg17 : Memref sig .tc .vmem S512x128 .f32) (harg17 : arg17.IsWhole) (arg18 : Memref sig .tc .vmem S3x8x2048 .f32) (harg18 : arg18.IsWhole)

abbrev tripP (a1 a2 : BitVec 32) (v5 v6 : Elt F .f32) : Fin k0_t1_loop.trips → Unit → Prog (TpuEff nD τ sig (Elt F) Λ₀ .tc) Unit :=
  k0_t1_body (F := F) (grid0.coords t) arg3 harg3 arg4 harg4 arg5 harg5 arg6 harg6 arg7 harg7 arg8 harg8 arg9 harg9 arg10 harg10 arg11 harg11 arg12 harg12 arg13 harg13
    accM (Memref.isWhole_whole _) arg15 harg15 bufM (Memref.isWhole_whole _) arg17 harg17
    arg18 harg18 cc0_scratch4 cc0_scratch5 a1 a2 v5 v6

/-- What a trip reads, held at contents that read as `I`. -/
def readsP (I : Inputs F) : sProp 𝕄 :=
  iprop(∃ f5 f6 f7 f17, (arg5.view.loc (c : Thread nD τ) ↦[arg5.view.set]{fullShare} f5) ∗ (arg6.view.loc (c : Thread nD τ) ↦[arg6.view.set]{fullShare} f6)
    ∗ (arg7.view.loc (c : Thread nD τ) ↦[arg7.view.set]{fullShare} f7) ∗ (arg17.view.loc (c : Thread nD τ) ↦[arg17.view.set]{fullShare} f17)
    ∗ ⌜arg5.view.read (Elt F) f5 = I.x ∧ arg6.view.read (Elt F) f6 = I.y ∧ arg7.view.read (Elt F) f7 = I.xs ∧ arg17.view.read (Elt F) f17 = ysb I⌝)

/-- What a trip changes, held at contents that read as `s`. -/
def stP (s : St F) : sProp 𝕄 :=
  iprop(∃ f15 f16 f18, (arg15.view.loc (c : Thread nD τ) ↦[arg15.view.set]{fullShare} f15) ∗ slotP c (sof t.val) f16
    ∗ (arg18.view.loc (c : Thread nD τ) ↦[arg18.view.set]{fullShare} f18)
    ∗ ⌜arg15.view.read (Elt F) f15 = s.dx ∧ (rslot (sof t.val)).view.read (Elt F) f16 = s.dy ∧ arg18.view.read (Elt F) f18 = s.sm⌝)

attribute [local irreducible] k0_pay5 k0_pay6 k0_pay7 k0_pay10 k0_pay11 k0_pay12 k0_pay13 k0_pay14 k0_pay15 k0_pay16 k0_pay17 k0_pay18 k0_pay19 k0_pay20 k0_pay21 k0_pay22 k0_pay23 k0_pay24 k0_pay25 in
theorem trip_run (I : Inputs F) (k : Fin k0_t1_loop.trips) (s : St F) (Q) :
    iprop(readsP c arg5 arg6 arg7 arg17 I ∗ stP c t arg15 arg18 s
        ∗ (∀ r, readsP c arg5 arg6 arg7 arg17 I ∗ stP c t arg15 arg18 (tripV I k s) -∗ Q r))
      ⊢ wp frame (wpE (defs₀ (F := F)) 𝒱₀ (c : Thread nD τ) none) Set.univ (tripP t arg3 harg3 arg4 harg4 arg5 harg5 arg6 harg6 arg7 harg7 arg8 harg8 arg9 harg9 arg10 harg10 arg11 harg11 arg12 harg12 arg13 harg13 arg15 harg15 arg17 harg17 arg18 harg18 I.bi I.bj I.t I.b k ()) Q := by
  have hk : k.val < 4 := Nat.lt_of_lt_of_le k.isLt k0_t1_abs.2.1
  dsimp only [tripP]
  unfold k0_t1_body readsP stP
  iintro ⟨⟨%f5, %f6, %f7, %f17, H5, H6, H7, H17, %hr⟩, ⟨%f15, %f16, %f18, H15, H16, H18, %hs⟩, Hk⟩
  sl_exec
  sl_step
  iapply Hk
  isplitl [H5 H6 H7 H17]
  · iexists f5, f6, f7, f17
    isplitl [H5]; · iexact H5
    isplitl [H6]; · iexact H6
    isplitl [H7]; · iexact H7
    isplitl [H17]; · iexact H17
    ipureintro; exact hr
  iexists _, _, _
  isplitl [H15]; · iexact H15
  isplitl [H16]; · iexact H16
  isplitl [H18]; · iexact H18
  ipureintro
  obtain ⟨h5, h6, h7, h17⟩ := hr
  obtain ⟨h15, h16, h18⟩ := hs
  have e5 : arg5.view.readAt (Elt F) (Rect.unit (s := S1x2048x1536) (k0_off10 k) S1x512x1536.size (k0_off10_inb k)).toLoadRect f5 = xk I k := by
    rw [View.readAt_unit _ _ _ rfl (k0_off10_inb k), h5]
  have e6 : arg6.view.readAt (Elt F) (Rect.unit (s := S1x512x1536) ![0, 0, 0] S1x512x1536.size inb_S1x512x1536_S1x512x1536_0_0_0).toLoadRect f6 = I.y := by
    rw [View.readAt_full, h6]
  have e7 : arg7.view.readAt (Elt F) (Rect.unit (s := S1x1x2048) (k0_off11 k) S1x1x512.size (k0_off11_inb k)).toLoadRect f7 = xsk I k := by
    rw [View.readAt_unit _ _ _ rfl (k0_off11_inb k), h7]
  have e17 : arg17.view.readAt (Elt F) (Rect.unit (s := S512x128) ![0, 0] S512x128.size inb_S512x128_S512x128_0_0).toLoadRect f17 = ysb I := by
    rw [View.readAt_full, h17]
  have e15 : arg15.view.readAt (Elt F) (Rect.unit (s := S2048x1536) (k0_off16 k) S512x1536.size (k0_off16_inb k)).toLoadRect f15
      = VecWindow.window s.dx (k0_off16 k) S512x1536.size (k0_off16_inb k) := by
    rw [View.readAt_unit _ _ _ rfl (k0_off16_inb k), h15]
  have e12 : arg18.view.readAt (Elt F) (Rect.unit (s := S3x8x2048) (k0_off12 k) S1x8x512.size (k0_off12_inb k)).toLoadRect f18
      = VecWindow.window s.sm (k0_off12 k) S1x8x512.size (k0_off12_inb k) := by
    rw [View.readAt_unit _ _ _ rfl (k0_off12_inb k), h18]
  have e13 : arg18.view.readAt (Elt F) (Rect.unit (s := S3x8x2048) (k0_off13 k) S1x8x512.size (k0_off13_inb k)).toLoadRect f18
      = VecWindow.window s.sm (k0_off13 k) S1x8x512.size (k0_off13_inb k) := by
    rw [View.readAt_unit _ _ _ rfl (k0_off13_inb k), h18]
  have e14 : arg18.view.readAt (Elt F) (Rect.unit (s := S3x8x2048) (k0_off14 k) S1x8x512.size (k0_off14_inb k)).toLoadRect f18
      = VecWindow.window s.sm (k0_off14 k) S1x8x512.size (k0_off14_inb k) := by
    rw [View.readAt_unit _ _ _ rfl (k0_off14_inb k), h18]
  refine ⟨?_, ?_, ?_⟩
  · rw [View.read_writes_cons_put _ _ _ _ _ rfl, View.writes_nil, h15, e15]
    unfold trip_run.sl.r_1 trip_run.sl.r_3 trip_run.sl.r_11 trip_run.sl.r_5 trip_run.sl.r_9
    rw [e5, e6, e7, e17]
    exact rfl
  · unfold trip_run.sl.H16_w1
    rw [read_slot_write c (sof t.val) (off15_eq t), readAt_slot c (sof t.val) (off15_eq t), h16]
    unfold trip_run.sl.r trip_run.sl.r_2 trip_run.sl.r_11 trip_run.sl.r_5 trip_run.sl.r_9
    rw [e5, e6, e7, e17]
    exact rfl
  · rw [View.read_writes_cons_put _ _ _ _ _ rfl, View.read_writes_cons_put _ _ _ _ _ rfl, View.read_writes_cons_put _ _ _ _ _ rfl, View.writes_nil, h18, e12]
    unfold trip_run.sl.r_6 trip_run.sl.r_7 trip_run.sl.r_8 trip_run.sl.r_10 trip_run.sl.r_4 trip_run.sl.r_12 trip_run.sl.r_5 trip_run.sl.r_9 trip_run.sl.v118 trip_run.sl.v129
    rw [e5, e6, e7, e17, e13, e14]
    exact rfl

theorem loop_run (I : Inputs F) (s : St F) (Q) :
    iprop(readsP c arg5 arg6 arg7 arg17 I ∗ stP c t arg15 arg18 s
        ∗ (∀ r, readsP c arg5 arg6 arg7 arg17 I ∗ stP c t arg15 arg18 (pointV I s) -∗ Q r))
      ⊢ wp frame (wpE (defs₀ (F := F)) 𝒱₀ (c : Thread nD τ) none) Set.univ (Scf.Loop.for k0_t1_loop k0_t1_ok () (tripP t arg3 harg3 arg4 harg4 arg5 harg5 arg6 harg6 arg7 harg7 arg8 harg8 arg9 harg9 arg10 harg10 arg11 harg11 arg12 harg12 arg13 harg13 arg15 harg15 arg17 harg17 arg18 harg18 I.bi I.bj I.t I.b)) Q := by
  iintro ⟨HR, HS, Hk⟩
  iapply (Scf.wp_for frame (wpE (defs₀ (F := F)) 𝒱₀ (c : Thread nD τ) none) Set.univ k0_t1_loop.lb k0_t1_loop.ub k0_t1_loop.st k0_t1_ok () (tripP t arg3 harg3 arg4 harg4 arg5 harg5 arg6 harg6 arg7 harg7 arg8 harg8 arg9 harg9 arg10 harg10 arg11 harg11 arg12 harg12 arg13 harg13 arg15 harg15 arg17 harg17 arg18 harg18 I.bi I.bj I.t I.b)
    (fun n _ => iprop(readsP c arg5 arg6 arg7 arg17 I ∗ stP c t arg15 arg18 (tripsV I s n)))
    (fun k _ => by
      iintro ⟨HR, HS⟩
      iapply (trip_run c t arg3 harg3 arg4 harg4 arg5 harg5 arg6 harg6 arg7 harg7 arg8 harg8 arg9 harg9 arg10 harg10 arg11 harg11 arg12 harg12 arg13 harg13 arg15 harg15 arg17 harg17 arg18 harg18 I k (tripsV I s k.val))
      isplitl [HR]; · iexact HR
      isplitl [HS]; · iexact HS
      rw [tripsV_succ]
      iintro %r H
      iexact H))
  isplitl [HR HS]
  · isplitl [HR]; · iexact HR
    iexact HS
  · iintro %r H
    iapply Hk; iexact H

end Cert.Proof.Ideal

end
-- ==== Proof.Ideal.Tail.lean ====
/-
  THE END OF THE BODY, after the loop: the slot is sent home while more row blocks follow, or goes out to the gradient
  of `y` at the last one; at the last column block the gradient of `x` and the three sums go out.
-/
module

public import proofs.«01_k».proof.Proof.Ideal.Trip

@[expose] public section

set_option maxRecDepth 8192
set_option maxHeartbeats 4000000

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (UU nD τ) ℕ

variable (c : Dev nD) (t : Fin cfg0.N)
  (arg3 : Memref sig .tc .smem S1 .f32) (harg3 : arg3.IsWhole) (arg4 : Memref sig .tc .smem S1 .f32) (harg4 : arg4.IsWhole)
  (arg5 : Memref sig .tc .vmem S1x2048x1536 .fp8e4m3) (harg5 : arg5.IsWhole) (arg6 : Memref sig .tc .vmem S1x512x1536 .fp8e4m3) (harg6 : arg6.IsWhole)
  (arg7 : Memref sig .tc .vmem S1x1x2048 .f32) (harg7 : arg7.IsWhole) (arg8 : Memref sig .tc .vmem S1x1x512 .f32) (harg8 : arg8.IsWhole)
  (arg9 : Memref sig .tc .vmem S1x1x2048 .f32) (harg9 : arg9.IsWhole) (arg10 : Memref sig .tc .vmem S1x2048x1536 .bf16) (harg10 : arg10.IsWhole)
  (arg11 : Memref sig .tc .vmem S1x512x1536 .bf16) (harg11 : arg11.IsWhole) (arg12 : Memref sig .tc .vmem S1x1x2048 .f32) (harg12 : arg12.IsWhole)
  (arg13 : Memref sig .tc .vmem S1x1x2048 .f32) (harg13 : arg13.IsWhole)
  (arg15 : Memref sig .tc .vmem S2048x1536 .f32) (harg15 : arg15.IsWhole)
  (arg17 : Memref sig .tc .vmem S512x128 .f32) (harg17 : arg17.IsWhole) (arg18 : Memref sig .tc .vmem S3x8x2048 .f32) (harg18 : arg18.IsWhole)

/-- The body from the loop's end on, as the program has it. -/
def tailP (i : grid0.Coords) (arg3 : Memref sig .tc .smem S1 .f32) (harg3 : arg3.IsWhole) (arg4 : Memref sig .tc .smem S1 .f32) (harg4 : arg4.IsWhole) (arg5 : Memref sig .tc .vmem S1x2048x1536 .fp8e4m3) (harg5 : arg5.IsWhole) (arg6 : Memref sig .tc .vmem S1x512x1536 .fp8e4m3) (harg6 : arg6.IsWhole) (arg7 : Memref sig .tc .vmem S1x1x2048 .f32) (harg7 : arg7.IsWhole) (arg8 : Memref sig .tc .vmem S1x1x512 .f32) (harg8 : arg8.IsWhole) (arg9 : Memref sig .tc .vmem S1x1x2048 .f32) (harg9 : arg9.IsWhole) (arg10 : Memref sig .tc .vmem S1x2048x1536 .bf16) (harg10 : arg10.IsWhole) (arg11 : Memref sig .tc .vmem S1x512x1536 .bf16) (harg11 : arg11.IsWhole) (arg12 : Memref sig .tc .vmem S1x1x2048 .f32) (harg12 : arg12.IsWhole) (arg13 : Memref sig .tc .vmem S1x1x2048 .f32) (harg13 : arg13.IsWhole) (arg14 : Memref sig .tc .hbm S24576x1536 .f32) (harg14 : arg14.IsWhole) (arg15 : Memref sig .tc .vmem S2048x1536 .f32) (harg15 : arg15.IsWhole) (arg16 : Memref sig .tc .vmem S3x512x1536 .f32) (harg16 : arg16.IsWhole) (arg17 : Memref sig .tc .vmem S512x128 .f32) (harg17 : arg17.IsWhole) (arg18 : Memref sig .tc .vmem S3x8x2048 .f32) (harg18 : arg18.IsWhole) (arg19 : DmaSems sig S3) (arg20 : DmaSems sig S3) (v5 : Elt F .f32) :
    Prog (TpuEff nD τ sig (Elt F) Λ₀ .tc) PUnit := do
  if k0_h6 : k0_cond6 i = 1#1 then do
    let v53 : DmaSems sig S1 := arg20.slice (Rect.unit (s := S3) (k0_off17 i) S1.size (k0_off17_inb i k0_h6))
    let v54 : DmaSems sig S_ := v53.squeeze S_ squeezes_S1_S_
    let v55 : Memref sig .tc .hbm S512x1536 .f32 := arg14.slice (Rect.unit (s := S24576x1536) (k0_off18 i) S512x1536.size (k0_off18_inb i k0_h6)) (fun _ => rfl)
    let v56 : Memref sig .tc .vmem S1x512x1536 .f32 := arg16.slice (Rect.unit (s := S3x512x1536) (k0_off19 i) S1x512x1536.size (k0_off19_inb i k0_h6)) (fun _ => rfl)
    let v57 : Memref sig .tc .vmem S512x1536 .f32 := v56.squeeze S512x1536 squeezes_S1x512x1536_S512x1536
    Prog.lift (.enqueueDma v57 (.here v55) (.dma v54.sem) ((View.wordExact_bits rfl).reshape _ _) (View.wordExact_bits rfl) ⟨Or.inl rfl, trivial⟩)
    pure ⟨⟩
  else do
    pure ⟨⟩
  if k0_h7 : k0_cond7 i = 1#1 then do
    let v53 : Vec F S1x512x1536 .f32 ← Prog.lift (.load arg16 (Rect.unit (s := S3x512x1536) (k0_off20 i) S1x512x1536.size (k0_off20_inb i k0_h7)).toLoadRect (View.loadsAt_vmem h_S1x512x1536))
    let v58 : Vec F S1x512x1536 .bf16 ← Prog.lift (.load arg11 (Rect.unit (s := S1x512x1536) ![0, 0, 0] S1x512x1536.size inb_S1x512x1536_S1x512x1536_0_0_0).toLoadRect (View.loadsAt_vmem h_S1x512x1536))
    Prog.lift (.store arg11 (Rect.unit (s := S1x512x1536) ![0, 0, 0] S1x512x1536.size inb_S1x512x1536_S1x512x1536_0_0_0) (k0_pay8 v5 v53) Finset.univ (View.stores_vmem h_S1x512x1536 (harg11.storeExact_slice rfl _ packedbf16_S1x512x1536_S1x512x1536_0_0_0) (fun _ => rfl)) (.inl rfl))
    pure ⟨⟩
  else do
    pure ⟨⟩
  if k0_h8 : k0_cond8 i = 1#1 then do
    let v80 : FVec F S1x2048 .f32 ← k0_part3 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 v5
    let v81 : Vec F S1x1x2048 .f32 ← Prog.lift (.load arg13 (Rect.unit (s := S1x1x2048) ![0, 0, 0] S1x1x2048.size inb_S1x1x2048_S1x1x2048_0_0_0).toLoadRect (View.loadsAt_vmem h_S1x1x2048))
    Prog.lift (.store arg13 (Rect.unit (s := S1x1x2048) ![0, 0, 0] S1x1x2048.size inb_S1x1x2048_S1x1x2048_0_0_0) (k0_pay9 v80) Finset.univ (View.stores_vmem_bits_univ h_S1x1x2048 rfl) (.inl rfl))
    pure ⟨⟩
  else do
    pure ⟨⟩
  pure ⟨⟩

/-- The two running arrays in VMEM, held at contents that read as `A` and `M`. -/
def accP (A : Vec F S2048x1536 .f32) (M : Vec F S3x8x2048 .f32) : sProp 𝕄 :=
  iprop(∃ f15 f18, (arg15.view.loc (c : Thread nD τ) ↦[arg15.view.set]{fullShare} f15)
    ∗ (arg18.view.loc (c : Thread nD τ) ↦[arg18.view.set]{fullShare} f18)
    ∗ ⌜arg15.view.read (Elt F) f15 = A ∧ arg18.view.read (Elt F) f18 = M⌝)

/-- A memref left alone at contents `f`, or written to read as `X`. -/
def outP {sp : Space} {s : Shape} {e : EltTy} (a : Memref sig .tc sp s e) (p : Prop) [Decidable p] (f : Buf (Elt F) (a.view.loc (c : Thread nD τ))) (X : s.Idx → Elt F e) : sProp 𝕄 :=
  if p then iprop(∃ g, (a.view.loc (c : Thread nD τ) ↦[a.view.set]{fullShare} g) ∗ ⌜a.view.read (Elt F) g = X⌝)
  else (a.view.loc (c : Thread nD τ) ↦[a.view.set]{fullShare} f)

/-- The three rows of the sums. -/
abbrev sm0 (M : Vec F S3x8x2048 .f32) : Vec F S1x8x2048 .f32 := VecWindow.window M ![0, 0, 0] S1x8x2048.size inb_S3x8x2048_S1x8x2048_0_0_0
abbrev sm1 (M : Vec F S3x8x2048 .f32) : Vec F S1x8x2048 .f32 := VecWindow.window M ![1, 0, 0] S1x8x2048.size inb_S3x8x2048_S1x8x2048_1_0_0
abbrev sm2 (M : Vec F S3x8x2048 .f32) : Vec F S1x8x2048 .f32 := VecWindow.window M ![2, 0, 0] S1x8x2048.size inb_S3x8x2048_S1x8x2048_2_0_0

theorem outP_written {sp : Space} {s : Shape} {e : EltTy} (a : Memref sig .tc sp s e) (p : Prop) [Decidable p] (hp : p) (f g : Buf (Elt F) (a.view.loc (c : Thread nD τ)))
    (X : s.Idx → Elt F e) (hX : a.view.read (Elt F) g = X) :
    (a.view.loc (c : Thread nD τ) ↦[a.view.set]{fullShare} g : sProp 𝕄) ⊢ outP c a p f X := by
  unfold outP; rw [if_pos hp]
  iintro H
  iexists g
  isplitl [H]; · iexact H
  ipureintro; exact hX

theorem outP_kept {sp : Space} {s : Shape} {e : EltTy} (a : Memref sig .tc sp s e) (p : Prop) [Decidable p] (hp : ¬ p) (f : Buf (Elt F) (a.view.loc (c : Thread nD τ)))
    (X : s.Idx → Elt F e) :
    (a.view.loc (c : Thread nD τ) ↦[a.view.set]{fullShare} f : sProp 𝕄) ⊢ outP c a p f X := by
  unfold outP; rw [if_neg hp]

section Outs
attribute [local irreducible] k0_pay8 k0_pay9 k0_pay26 k0_pay27 k0_pay28 k0_pay29

theorem out9 (f9 : arg9.view.ty.Contents (Elt F)) (f18 : arg18.view.ty.Contents (Elt F)) {M} (h : arg18.view.read (Elt F) f18 = M) :
    arg9.view.read (Elt F) (arg9.view.writes (Elt F) f9 [⟨Rect.unit (s := S1x1x2048) ![0, 0, 0] S1x1x2048.size inb_S1x1x2048_S1x1x2048_0_0_0,
      k0_pay27 (arg18.view.readAt (Elt F) (Rect.unit (s := S3x8x2048) ![0, 0, 0] S1x8x2048.size inb_S3x8x2048_S1x8x2048_0_0_0).toLoadRect f18)⟩]) = k0_pay27 (sm0 M) := by
  rw [View.read_writes_full, View.readAt_unit _ _ _ rfl inb_S3x8x2048_S1x8x2048_0_0_0, h]
theorem out12 (f12 : arg12.view.ty.Contents (Elt F)) (f18 : arg18.view.ty.Contents (Elt F)) {M} (h : arg18.view.read (Elt F) f18 = M) :
    arg12.view.read (Elt F) (arg12.view.writes (Elt F) f12 [⟨Rect.unit (s := S1x1x2048) ![0, 0, 0] S1x1x2048.size inb_S1x1x2048_S1x1x2048_0_0_0,
      k0_pay28 (arg18.view.readAt (Elt F) (Rect.unit (s := S3x8x2048) ![1, 0, 0] S1x8x2048.size inb_S3x8x2048_S1x8x2048_1_0_0).toLoadRect f18)⟩]) = k0_pay28 (sm1 M) := by
  rw [View.read_writes_full, View.readAt_unit _ _ _ rfl inb_S3x8x2048_S1x8x2048_1_0_0, h]
theorem out13 (f13 : arg13.view.ty.Contents (Elt F)) (f18 : arg18.view.ty.Contents (Elt F)) {M} (h : arg18.view.read (Elt F) f18 = M) :
    arg13.view.read (Elt F) (arg13.view.writes (Elt F) f13 [⟨Rect.unit (s := S1x1x2048) ![0, 0, 0] S1x1x2048.size inb_S1x1x2048_S1x1x2048_0_0_0,
      k0_pay9 (k0_pay29 (arg18.view.readAt (Elt F) (Rect.unit (s := S3x8x2048) ![2, 0, 0] S1x8x2048.size inb_S3x8x2048_S1x8x2048_2_0_0).toLoadRect f18))⟩]) = k0_pay9 (k0_pay29 (sm2 M)) := by
  rw [View.read_writes_full, View.readAt_unit _ _ _ rfl inb_S3x8x2048_S1x8x2048_2_0_0, h]
theorem out10 (v5 : Elt F .f32) (f10 : arg10.view.ty.Contents (Elt F)) (f15 : arg15.view.ty.Contents (Elt F)) {A} (h : arg15.view.read (Elt F) f15 = A) :
    arg10.view.read (Elt F) (arg10.view.writes (Elt F) f10 [⟨Rect.unit (s := S1x2048x1536) ![0, 0, 0] S1x2048x1536.size inb_S1x2048x1536_S1x2048x1536_0_0_0,
      k0_pay26 v5 (arg15.view.readAt (Elt F) (Rect.unit (s := S2048x1536) ![0, 0] S2048x1536.size inb_S2048x1536_S2048x1536_0_0).toLoadRect f15)⟩]) = k0_pay26 v5 A := by
  rw [View.read_writes_full, View.readAt_full, h]
theorem out11 (v5 : Elt F .f32) (f11 : arg11.view.ty.Contents (Elt F)) (f16 : Buf (Elt F) ((rslot (sof t.val)).view.loc (c : Thread nD τ))) (inb) {X} (h : (rslot (sof t.val)).view.read (Elt F) f16 = X) :
    arg11.view.read (Elt F) (arg11.view.writes (Elt F) f11 [⟨Rect.unit (s := S1x512x1536) ![0, 0, 0] S1x512x1536.size inb_S1x512x1536_S1x512x1536_0_0_0,
      k0_pay8 v5 (bufM.view.readAt (Elt F) (Rect.unit (s := S3x512x1536) (k0_off20 (grid0.coords t)) S1x512x1536.size inb).toLoadRect f16)⟩]) = k0_pay8 v5 (up X) := by
  rw [View.read_writes_full, readAt_slot c (sof t.val) (off20_eq t), h]

theorem tail_run (v5 : Elt F .f32) (s : St F) (f9 f10 f11 f12 f13) (W) (Q) :
    iprop(stP c t arg15 arg18 s ∗ scellP c (sof t.val) ∗ (if iof t.val < 11 then iprop(∃ g, homeP c (jof t.val) g) else iprop(emp))
        ∗ (arg9.view.loc (c : Thread nD τ) ↦[arg9.view.set]{fullShare} f9) ∗ (arg10.view.loc (c : Thread nD τ) ↦[arg10.view.set]{fullShare} f10)
        ∗ (arg11.view.loc (c : Thread nD τ) ↦[arg11.view.set]{fullShare} f11) ∗ (arg12.view.loc (c : Thread nD τ) ↦[arg12.view.set]{fullShare} f12)
        ∗ (arg13.view.loc (c : Thread nD τ) ↦[arg13.view.set]{fullShare} f13) ∗ owes (c : Thread nD τ) 0 W
        ∗ (∀ r, accP c arg15 arg18 s.dx s.sm
            ∗ (if iof t.val < 11 then storeV c (sof t.val) (jof t.val) s.dy else iprop(slotV c (sof t.val) s.dy ∗ scellP c (sof t.val)))
            ∗ outP c arg9 (t.val % 48 = 47) f9 (k0_pay27 (sm0 s.sm)) ∗ outP c arg10 (t.val % 48 = 47) f10 (k0_pay26 v5 s.dx)
            ∗ outP c arg11 (iof t.val = 11) f11 (k0_pay8 v5 (up s.dy)) ∗ outP c arg12 (t.val % 48 = 47) f12 (k0_pay28 (sm1 s.sm))
            ∗ outP c arg13 (t.val % 48 = 47) f13 (k0_pay9 (k0_pay29 (sm2 s.sm))) ∗ (∃ W, owes (c : Thread nD τ) 0 W) -∗ Q r))
      ⊢ wp frame (wpE (defs₀ (F := F)) 𝒱₀ (c : Thread nD τ) none) Set.univ (tailP (grid0.coords t) arg3 harg3 arg4 harg4 arg5 harg5 arg6 harg6 arg7 harg7 arg8 harg8 arg9 harg9 arg10 harg10 arg11 harg11 arg12 harg12 arg13 harg13 accM (Memref.isWhole_whole _) arg15 harg15 bufM (Memref.isWhole_whole _) arg17 harg17 arg18 harg18 cc0_scratch4 cc0_scratch5 v5) Q := by
  unfold stP accP storeV slotV
  have hi11 : iof t.val < 12 := Nat.mod_lt _ (by decide)
  by_cases hi : iof t.val < 11
  · have h6 := (cond6_iff t).mpr hi
    have h7 : ¬ k0_cond7 (grid0.coords t) = 1#1 := fun h => by have := (cond7_iff t).mp h; omega
    have hi' : ¬ iof t.val = 11 := by omega
    simp only [if_pos hi]
    by_cases hj : t.val % 48 = 47
    · have h8 := (cond8_iff t).mpr hj
      iintro ⟨⟨%f15, %f16, %f18, H15, H16, H18, %hs⟩, HSc, ⟨%g, HH⟩, H9, H10, H11, H12, H13, HW, Hk⟩
      unfold tailP
      sl_exec
      sl_step
      iapply Hk
      isplitl [H15 H18]
      · iexists f15, f18
        isplitl [H15]; · iexact H15
        isplitl [H18]; · iexact H18
        ipureintro; exact ⟨hs.1, hs.2.2⟩
      isplitl [HSc]
      · iexists f16, g
        isplitl [HSc]; · iexact HSc
        ipureintro; exact hs.2.1
      isplitl [H9]; · iapply (outP_written c arg9 _ hj _ _ _ (out9 arg9 arg18 f9 f18 hs.2.2)); iexact H9
      isplitl [H10]; · iapply (outP_written c arg10 _ hj _ _ _ (out10 arg10 arg15 v5 f10 f15 hs.1)); iexact H10
      isplitl [H11]; · iapply (outP_kept c arg11 _ hi'); iexact H11
      isplitl [H12]; · iapply (outP_written c arg12 _ hj _ _ _ (out12 arg12 arg18 f12 f18 hs.2.2)); iexact H12
      isplitl [H13]; · iapply (outP_written c arg13 _ hj _ _ _ (out13 arg13 arg18 f13 f18 hs.2.2)); iexact H13
      iexists _; iexact HW
    · have h8 : ¬ k0_cond8 (grid0.coords t) = 1#1 := fun h => hj ((cond8_iff t).mp h)
      iintro ⟨⟨%f15, %f16, %f18, H15, H16, H18, %hs⟩, HSc, ⟨%g, HH⟩, H9, H10, H11, H12, H13, HW, Hk⟩
      unfold tailP
      sl_exec
      sl_step
      iapply Hk
      isplitl [H15 H18]
      · iexists f15, f18
        isplitl [H15]; · iexact H15
        isplitl [H18]; · iexact H18
        ipureintro; exact ⟨hs.1, hs.2.2⟩
      isplitl [HSc]
      · iexists f16, g
        isplitl [HSc]; · iexact HSc
        ipureintro; exact hs.2.1
      isplitl [H9]; · iapply (outP_kept c arg9 _ hj); iexact H9
      isplitl [H10]; · iapply (outP_kept c arg10 _ hj); iexact H10
      isplitl [H11]; · iapply (outP_kept c arg11 _ hi'); iexact H11
      isplitl [H12]; · iapply (outP_kept c arg12 _ hj); iexact H12
      isplitl [H13]; · iapply (outP_kept c arg13 _ hj); iexact H13
      iexists _; iexact HW
  · have h6 : ¬ k0_cond6 (grid0.coords t) = 1#1 := fun h => hi ((cond6_iff t).mp h)
    have hi' : iof t.val = 11 := by omega
    have h7 := (cond7_iff t).mpr hi'
    simp only [if_neg hi]
    by_cases hj : t.val % 48 = 47
    · have h8 := (cond8_iff t).mpr hj
      iintro ⟨⟨%f15, %f16, %f18, H15, H16, H18, %hs⟩, HSc, -, H9, H10, H11, H12, H13, HW, Hk⟩
      unfold tailP
      sl_exec
      sl_step
      iapply Hk
      isplitl [H15 H18]
      · iexists f15, f18
        isplitl [H15]; · iexact H15
        isplitl [H18]; · iexact H18
        ipureintro; exact ⟨hs.1, hs.2.2⟩
      isplitl [H16 HSc]
      · isplitl [H16]
        · iexists f16
          isplitl [H16]; · iexact H16
          ipureintro; exact hs.2.1
        iexact HSc
      isplitl [H9]; · iapply (outP_written c arg9 _ hj _ _ _ (out9 arg9 arg18 f9 f18 hs.2.2)); iexact H9
      isplitl [H10]; · iapply (outP_written c arg10 _ hj _ _ _ (out10 arg10 arg15 v5 f10 f15 hs.1)); iexact H10
      isplitl [H11]; · iapply (outP_written c arg11 _ hi' _ _ _ (out11 c t arg11 v5 f11 f16 _ hs.2.1)); iexact H11
      isplitl [H12]; · iapply (outP_written c arg12 _ hj _ _ _ (out12 arg12 arg18 f12 f18 hs.2.2)); iexact H12
      isplitl [H13]; · iapply (outP_written c arg13 _ hj _ _ _ (out13 arg13 arg18 f13 f18 hs.2.2)); iexact H13
      iexists _; iexact HW
    · have h8 : ¬ k0_cond8 (grid0.coords t) = 1#1 := fun h => hj ((cond8_iff t).mp h)
      iintro ⟨⟨%f15, %f16, %f18, H15, H16, H18, %hs⟩, HSc, -, H9, H10, H11, H12, H13, HW, Hk⟩
      unfold tailP
      sl_exec
      sl_step
      iapply Hk
      isplitl [H15 H18]
      · iexists f15, f18
        isplitl [H15]; · iexact H15
        isplitl [H18]; · iexact H18
        ipureintro; exact ⟨hs.1, hs.2.2⟩
      isplitl [H16 HSc]
      · isplitl [H16]
        · iexists f16
          isplitl [H16]; · iexact H16
          ipureintro; exact hs.2.1
        iexact HSc
      isplitl [H9]; · iapply (outP_kept c arg9 _ hj); iexact H9
      isplitl [H10]; · iapply (outP_kept c arg10 _ hj); iexact H10
      isplitl [H11]; · iapply (outP_written c arg11 _ hi' _ _ _ (out11 c t arg11 v5 f11 f16 _ hs.2.1)); iexact H11
      isplitl [H12]; · iapply (outP_kept c arg12 _ hj); iexact H12
      isplitl [H13]; · iapply (outP_kept c arg13 _ hj); iexact H13
      iexists _; iexact HW

end Outs

end Cert.Proof.Ideal

end
-- ==== Proof.Ideal.Body.lean ====
/-
  THE WHOLE BODY at one point: the start, the clearing of what a first block begins, the loop, the end.
-/
module

public import proofs.«01_k».proof.Proof.Ideal.Start
public import proofs.«01_k».proof.Proof.Ideal.Tail

@[expose] public section

set_option maxRecDepth 8192
set_option maxHeartbeats 4000000

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (UU nD τ) ℕ

/-- The clearing of the tile at the first row block, as the program has it; -/
def clear4P (i : grid0.Coords) (arg16 : Memref sig .tc .vmem S3x512x1536 .f32) : Prog (TpuEff nD τ sig (Elt F) Λ₀ .tc) PUnit := do
  if k0_h4 : k0_cond4 i = 1#1 then do
    let v54 : Vec F S1x512x1536 .f32 ← Prog.lift (.load arg16 (Rect.unit (s := S3x512x1536) (k0_off9 i) S1x512x1536.size (k0_off9_inb i k0_h4)).toLoadRect (View.loadsAt_vmem h_S1x512x1536))
    Prog.lift (.store arg16 (Rect.unit (s := S3x512x1536) (k0_off9 i) S1x512x1536.size (k0_off9_inb i k0_h4)) (k0_pay1 (F := F)) Finset.univ (View.stores_vmem_bits_univ h_S1x512x1536 rfl) (.inl rfl))
    pure ⟨⟩
  else do
    pure ⟨⟩
/-- the clearing of the running gradient of `x` and of the sums at the first column block; -/
def clear5P (arg2 : BitVec 32) (arg15 : Memref sig .tc .vmem S2048x1536 .f32) (arg18 : Memref sig .tc .vmem S3x8x2048 .f32) : Prog (TpuEff nD τ sig (Elt F) Λ₀ .tc) PUnit := do
  if k0_h5 : Scalar.cmpi .ne (Scalar.extui (Scalar.cmpi .eq arg2 0#32) : BitVec 32) 0#32 = 1#1 then do
    let v53 : Vec F S2048x1536 .f32 ← Prog.lift (.load arg15 (Rect.unit (s := S2048x1536) ![0, 0] S2048x1536.size inb_S2048x1536_S2048x1536_0_0).toLoadRect (View.loadsAt_vmem h_S2048x1536))
    Prog.lift (.store arg15 (Rect.unit (s := S2048x1536) ![0, 0] S2048x1536.size inb_S2048x1536_S2048x1536_0_0) (k0_pay2 (F := F)) Finset.univ (View.stores_vmem_bits_univ h_S2048x1536 rfl) (.inl rfl))
    let v57 : Vec F S3x8x2048 .f32 ← Prog.lift (.load arg18 (Rect.unit (s := S3x8x2048) ![0, 0, 0] S3x8x2048.size inb_S3x8x2048_S3x8x2048_0_0_0).toLoadRect (View.loadsAt_vmem h_S3x8x2048))
    Prog.lift (.store arg18 (Rect.unit (s := S3x8x2048) ![0, 0, 0] S3x8x2048.size inb_S3x8x2048_S3x8x2048_0_0_0) (k0_pay3 (F := F)) Finset.univ (View.stores_vmem_bits_univ h_S3x8x2048 rfl) (.inl rfl))
    pure ⟨⟩
  else do
    pure ⟨⟩
/-- the scales of `y` spread over a tile. -/
def spreadP (arg8 : Memref sig .tc .vmem S1x1x512 .f32) (arg17 : Memref sig .tc .vmem S512x128 .f32) : Prog (TpuEff nD τ sig (Elt F) Λ₀ .tc) PUnit := do
  let v34 : Vec F S1x1x512 .f32 ← Prog.lift (.load arg8 (Rect.unit (s := S1x1x512) ![0, 0, 0] S1x1x512.size inb_S1x1x512_S1x1x512_0_0_0).toLoadRect (View.loadsAt_vmem h_S1x1x512))
  let v39 : Vec F S512x128 .f32 ← Prog.lift (.load arg17 (Rect.unit (s := S512x128) ![0, 0] S512x128.size inb_S512x128_S512x128_0_0).toLoadRect (View.loadsAt_vmem h_S512x128))
  Prog.lift (.store arg17 (Rect.unit (s := S512x128) ![0, 0] S512x128.size inb_S512x128_S512x128_0_0) (k0_pay4 v34) Finset.univ (View.stores_vmem_bits_univ h_S512x128 rfl) (.inl rfl))
set_option maxRecDepth 65536 in
/-- The body is its stretches, one after the other. -/
theorem body_eq (i : grid0.Coords) (arg3 : Memref sig .tc .smem S1 .f32) (harg3 : arg3.IsWhole) (arg4 : Memref sig .tc .smem S1 .f32) (harg4 : arg4.IsWhole) (arg5 : Memref sig .tc .vmem S1x2048x1536 .fp8e4m3) (harg5 : arg5.IsWhole) (arg6 : Memref sig .tc .vmem S1x512x1536 .fp8e4m3) (harg6 : arg6.IsWhole) (arg7 : Memref sig .tc .vmem S1x1x2048 .f32) (harg7 : arg7.IsWhole) (arg8 : Memref sig .tc .vmem S1x1x512 .f32) (harg8 : arg8.IsWhole) (arg9 : Memref sig .tc .vmem S1x1x2048 .f32) (harg9 : arg9.IsWhole) (arg10 : Memref sig .tc .vmem S1x2048x1536 .bf16) (harg10 : arg10.IsWhole) (arg11 : Memref sig .tc .vmem S1x512x1536 .bf16) (harg11 : arg11.IsWhole) (arg12 : Memref sig .tc .vmem S1x1x2048 .f32) (harg12 : arg12.IsWhole) (arg13 : Memref sig .tc .vmem S1x1x2048 .f32) (harg13 : arg13.IsWhole) (arg14 : Memref sig .tc .hbm S24576x1536 .f32) (harg14 : arg14.IsWhole) (arg15 : Memref sig .tc .vmem S2048x1536 .f32) (harg15 : arg15.IsWhole) (arg16 : Memref sig .tc .vmem S3x512x1536 .f32) (harg16 : arg16.IsWhole) (arg17 : Memref sig .tc .vmem S512x128 .f32) (harg17 : arg17.IsWhole) (arg18 : Memref sig .tc .vmem S3x8x2048 .f32) (harg18 : arg18.IsWhole) (arg19 : DmaSems sig S3) (arg20 : DmaSems sig S3) :
    cc0_siglip_fwd_bwd (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20
      = (k0_part4 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 >>= fun x => clear4P i arg16 >>= fun _ => clear5P x.2.1 arg15 arg18 >>= fun _ => spreadP arg8 arg17 >>= fun _ =>
        Scf.Loop.for k0_t1_loop k0_t1_ok () (k0_t1_body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 x.1 x.2.1 x.2.2.2.1 x.2.2.2.2) >>= fun _ => tailP i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 x.2.2.2.1) := by
  rw [cc0_siglip_fwd_bwd_eq_skeleton]
  unfold cc0_siglip_fwd_bwd_skel
  refine congrArg (k0_part4 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 >>= ·) (funext fun x => ?_)
  obtain ⟨a1, a2, v4, v5, v6⟩ := x
  dsimp only
  unfold clear4P clear5P
  by_cases h4 : k0_cond4 i = 1#1 <;> by_cases h5 : Scalar.cmpi .ne (Scalar.extui (Scalar.cmpi .eq a2 0#32) : BitVec 32) 0#32 = 1#1 <;>
    simp only [h4, h5, dite_true, dite_false] <;> rfl

variable (c : Dev nD) (t : Fin cfg0.N)
  (arg3 : Memref sig .tc .smem S1 .f32) (harg3 : arg3.IsWhole) (arg4 : Memref sig .tc .smem S1 .f32) (harg4 : arg4.IsWhole)
  (arg5 : Memref sig .tc .vmem S1x2048x1536 .fp8e4m3) (harg5 : arg5.IsWhole) (arg6 : Memref sig .tc .vmem S1x512x1536 .fp8e4m3) (harg6 : arg6.IsWhole)
  (arg7 : Memref sig .tc .vmem S1x1x2048 .f32) (harg7 : arg7.IsWhole) (arg8 : Memref sig .tc .vmem S1x1x512 .f32) (harg8 : arg8.IsWhole)
  (arg9 : Memref sig .tc .vmem S1x1x2048 .f32) (harg9 : arg9.IsWhole) (arg10 : Memref sig .tc .vmem S1x2048x1536 .bf16) (harg10 : arg10.IsWhole)
  (arg11 : Memref sig .tc .vmem S1x512x1536 .bf16) (harg11 : arg11.IsWhole) (arg12 : Memref sig .tc .vmem S1x1x2048 .f32) (harg12 : arg12.IsWhole)
  (arg13 : Memref sig .tc .vmem S1x1x2048 .f32) (harg13 : arg13.IsWhole)
  (arg15 : Memref sig .tc .vmem S2048x1536 .f32) (harg15 : arg15.IsWhole)
  (arg17 : Memref sig .tc .vmem S512x128 .f32) (harg17 : arg17.IsWhole) (arg18 : Memref sig .tc .vmem S3x8x2048 .f32) (harg18 : arg18.IsWhole)

/-- What the body reads at a point, held at contents that read as `I`. -/
def inP (I : Inputs F) (f3 : Buf (Elt F) (arg3.view.loc (c : Thread nD τ))) (f4 : Buf (Elt F) (arg4.view.loc (c : Thread nD τ))) : sProp 𝕄 :=
  iprop((arg3.view.loc (c : Thread nD τ) ↦[arg3.view.set]{fullShare} f3) ∗ (arg4.view.loc (c : Thread nD τ) ↦[arg4.view.set]{fullShare} f4)
    ∗ ∃ f5 f6 f7 f8, (arg5.view.loc (c : Thread nD τ) ↦[arg5.view.set]{fullShare} f5) ∗ (arg6.view.loc (c : Thread nD τ) ↦[arg6.view.set]{fullShare} f6)
    ∗ (arg7.view.loc (c : Thread nD τ) ↦[arg7.view.set]{fullShare} f7) ∗ (arg8.view.loc (c : Thread nD τ) ↦[arg8.view.set]{fullShare} f8)
    ∗ ⌜arg5.view.read (Elt F) f5 = I.x ∧ arg6.view.read (Elt F) f6 = I.y ∧ arg7.view.read (Elt F) f7 = I.xs ∧ arg8.view.read (Elt F) f8 = I.ys⌝)

/-- The state before the point, the tile apart: known unless the point starts a new row block. -/
def accPre (s : St F) : sProp 𝕄 :=
  iprop(∃ f15 f17 f18, (arg15.view.loc (c : Thread nD τ) ↦[arg15.view.set]{fullShare} f15)
    ∗ (arg17.view.loc (c : Thread nD τ) ↦[arg17.view.set]{fullShare} f17)
    ∗ (arg18.view.loc (c : Thread nD τ) ↦[arg18.view.set]{fullShare} f18)
    ∗ ⌜t.val % 48 ≠ 0 → arg15.view.read (Elt F) f15 = s.dx ∧ arg18.view.read (Elt F) f18 = s.sm⌝)

/-- What the body leaves in the result windows, given the state `s` after the point. -/
def outsP (v5 : Elt F .f32) (s : St F) (f9 : Buf (Elt F) (arg9.view.loc (c : Thread nD τ))) (f10 : Buf (Elt F) (arg10.view.loc (c : Thread nD τ))) (f11 : Buf (Elt F) (arg11.view.loc (c : Thread nD τ)))
    (f12 : Buf (Elt F) (arg12.view.loc (c : Thread nD τ))) (f13 : Buf (Elt F) (arg13.view.loc (c : Thread nD τ))) : sProp 𝕄 :=
  iprop(outP c arg9 (t.val % 48 = 47) f9 (k0_pay27 (sm0 s.sm)) ∗ outP c arg10 (t.val % 48 = 47) f10 (k0_pay26 v5 s.dx)
            ∗ outP c arg11 (iof t.val = 11) f11 (k0_pay8 v5 (up s.dy)) ∗ outP c arg12 (t.val % 48 = 47) f12 (k0_pay28 (sm1 s.sm))
            ∗ outP c arg13 (t.val % 48 = 47) f13 (k0_pay9 (k0_pay29 (sm2 s.sm))))

/-- One stretch of the body, then the next. -/
theorem bind_run {α β : Type} (p : Prog (TpuEff nD τ sig (Elt F) Λ₀ .tc) α) (k : α → Prog (TpuEff nD τ sig (Elt F) Λ₀ .tc) β) (Q : β → sProp 𝕄) :
    wp frame (wpE (defs₀ (F := F)) 𝒱₀ (c : Thread nD τ) none) Set.univ p (fun a => wp frame (wpE (defs₀ (F := F)) 𝒱₀ (c : Thread nD τ) none) Set.univ (k a) Q)
      ⊢ wp frame (wpE (defs₀ (F := F)) 𝒱₀ (c : Thread nD τ) none) Set.univ (p >>= k) Q :=
  BIBase.Entails.of_eq (wp_bind ..).symm

section Pieces
attribute [local irreducible] k0_pay1 k0_pay2 k0_pay3 k0_pay4

theorem clear4_run (X0 : Tile F) (Q) :
    iprop((if waitsLoad t.val then slotV c (sof t.val) X0 else slotA c (sof t.val))
        ∗ (∀ r, slotV c (sof t.val) (if iof t.val = 0 then dn k0_pay1 else X0) -∗ Q r))
      ⊢ wp frame (wpE (defs₀ (F := F)) 𝒱₀ (c : Thread nD τ) none) Set.univ (clear4P (grid0.coords t) bufM) Q := by
  unfold slotA slotV
  by_cases z : iof t.val = 0
  · have h4 := (cond4_iff t).mpr z
    have hw : ¬ waitsLoad t.val := by unfold waitsLoad; omega
    simp only [hw, if_false, if_pos z]
    iintro ⟨⟨%f16, H16⟩, Hk⟩
    unfold clear4P
    sl_exec
    sl_step
    iapply Hk
    iexists _
    isplitl [H16]; · iexact H16
    ipureintro
    exact read_slot_write c (sof t.val) (off9_eq t) _ f16 _
  · have h4 : ¬ k0_cond4 (grid0.coords t) = 1#1 := fun h => z ((cond4_iff t).mp h)
    have hw : waitsLoad t.val := by unfold waitsLoad; omega
    simp only [hw, if_true, if_neg z]
    iintro ⟨H, Hk⟩
    unfold clear4P
    sl_exec
    sl_step
    iapply Hk
    iexact H

theorem clear5_run (s : St F) (f15 f18) (hs : t.val % 48 ≠ 0 → arg15.view.read (Elt F) f15 = s.dx ∧ arg18.view.read (Elt F) f18 = s.sm) (Q) :
    iprop((arg15.view.loc (c : Thread nD τ) ↦[arg15.view.set]{fullShare} f15) ∗ (arg18.view.loc (c : Thread nD τ) ↦[arg18.view.set]{fullShare} f18)
        ∗ (∀ r, accP c arg15 arg18 (if t.val % 48 = 0 then k0_pay2 else s.dx) (if t.val % 48 = 0 then k0_pay3 else s.sm) -∗ Q r))
      ⊢ wp frame (wpE (defs₀ (F := F)) 𝒱₀ (c : Thread nD τ) none) Set.univ (clear5P (BitVec.ofNat 32 ((grid0.coords t) 2).val) arg15 arg18) Q := by
  unfold accP
  by_cases z : t.val % 48 = 0
  · have h5 := (cond5_iff t).mpr z
    simp only [if_pos z]
    iintro ⟨H15, H18, Hk⟩
    unfold clear5P
    sl_exec
    sl_step
    iapply Hk
    iexists _, _
    isplitl [H15]; · iexact H15
    isplitl [H18]; · iexact H18
    ipureintro
    exact ⟨View.read_writes_full .., View.read_writes_full ..⟩
  · have h5 := mt (cond5_iff t).mp z
    simp only [if_neg z]
    iintro ⟨H15, H18, Hk⟩
    unfold clear5P
    sl_exec
    sl_step
    iapply Hk
    iexists _, _
    isplitl [H15]; · iexact H15
    isplitl [H18]; · iexact H18
    ipureintro
    exact hs z

theorem spread_run (I : Inputs F) (f8 : Buf (Elt F) (arg8.view.loc (c : Thread nD τ))) (f17 : Buf (Elt F) (arg17.view.loc (c : Thread nD τ))) (h8 : arg8.view.read (Elt F) f8 = I.ys) (Q : PUnit → sProp 𝕄) :
    iprop((arg8.view.loc (c : Thread nD τ) ↦[arg8.view.set]{fullShare} f8) ∗ (arg17.view.loc (c : Thread nD τ) ↦[arg17.view.set]{fullShare} f17)
        ∗ (∀ r, ∀ f17 : Buf (Elt F) (arg17.view.loc (c : Thread nD τ)), (arg8.view.loc (c : Thread nD τ) ↦[arg8.view.set]{fullShare} f8) ∗ (arg17.view.loc (c : Thread nD τ) ↦[arg17.view.set]{fullShare} f17)
            ∗ ⌜arg17.view.read (Elt F) f17 = ysb I⌝ -∗ Q r))
      ⊢ wp frame (wpE (defs₀ (F := F)) 𝒱₀ (c : Thread nD τ) none) Set.univ (spreadP (F := F) arg8 arg17) Q := by
  iintro ⟨H8, H17, Hk⟩
  unfold spreadP
  sl_exec
  sl_step
  iapply Hk
  isplitl [H8]; · iexact H8
  isplitl [H17]; · iexact H17
  ipureintro
  rw [View.read_writes_full, View.readAt_full, h8]

end Pieces

/-- After the start, the column block and the slot of this point, apart. -/
theorem home_slot_eq (X0 : Tile F) :
    ((if waitsLoad t.val then iprop(homeV c (jof t.val) X0 ∗ slotV c (sof t.val) X0) else slotA c (sof t.val)) : sProp 𝕄)
      = iprop((if waitsLoad t.val then homeV c (jof t.val) X0 else iprop(emp)) ∗ (if waitsLoad t.val then slotV c (sof t.val) X0 else slotA c (sof t.val))) := by
  by_cases h : waitsLoad t.val
  · simp only [if_pos h]
  · simp only [if_neg h]; exact (equiv_iff.mp BI.emp_sep).symm

/-- The column block of this point: below the slot's store while more row blocks follow, held otherwise. -/
theorem home_of (X0 : Tile F) :
    iprop((if waitsLoad t.val then homeV c (jof t.val) X0 else iprop(emp)) ∗ (if waitsLoad t.val then iprop(emp) else iprop(∃ g, homeP c (jof t.val) g)))
      ⊢ (iprop((if iof t.val < 11 then iprop(∃ g, homeP c (jof t.val) g) else iprop(emp)) ∗ (if iof t.val < 11 then iprop(emp) else homeV c (jof t.val) X0)) : sProp 𝕄) := by
  have h12 : iof t.val < 12 := Nat.mod_lt _ (by decide)
  unfold homeV
  by_cases h : waitsLoad t.val <;> by_cases hi : iof t.val < 11
  · simp only [if_pos h, if_pos hi]
    iintro ⟨⟨%g, H, -⟩, -⟩
    isplitl [H]; · iexists g; iexact H
    iempintro
  · simp only [if_pos h, if_neg hi]
    iintro ⟨H, -⟩
    isplitr; · iempintro
    iexact H
  · simp only [if_neg h, if_pos hi]
    iintro ⟨-, H⟩
    isplitl [H]; · iexact H
    iempintro
  · exact absurd (by unfold waitsLoad; omega) h

attribute [local irreducible] k0_pay1 k0_pay2 k0_pay3 k0_pay4 in
theorem body_run (jp : Fin 48) (X2 Xn : Tile F) (I : Inputs F) (s : St F)
    (f3) (f4) (hbi : I.bi = BitVec.ofNat 32 ((grid0.coords t) 1).val) (hbj : I.bj = BitVec.ofNat 32 ((grid0.coords t) 2).val)
    (ht : I.t = the1 (arg3.view.read (Elt F) f3)) (hb : I.b = the1 (arg4.view.read (Elt F) f4))
    (f9 f10 f11 f12 f13) (W) (Q) :
    iprop(inP c arg3 arg4 arg5 arg6 arg7 arg8 I f3 f4 ∗ startPre c t jp X2 Xn s.dy ∗ scellP c (sof t.val)
        ∗ (if waitsLoad t.val then iprop(emp) else iprop(∃ g, homeP c (jof t.val) g))
        ∗ accPre c t arg15 arg17 arg18 s
        ∗ (arg9.view.loc (c : Thread nD τ) ↦[arg9.view.set]{fullShare} f9) ∗ (arg10.view.loc (c : Thread nD τ) ↦[arg10.view.set]{fullShare} f10)
        ∗ (arg11.view.loc (c : Thread nD τ) ↦[arg11.view.set]{fullShare} f11) ∗ (arg12.view.loc (c : Thread nD τ) ↦[arg12.view.set]{fullShare} f12)
        ∗ (arg13.view.loc (c : Thread nD τ) ↦[arg13.view.set]{fullShare} f13) ∗ owes (c : Thread nD τ) 0 W
        ∗ (∀ r, inP c arg3 arg4 arg5 arg6 arg7 arg8 I f3 f4
            ∗ (if waitsStore t.val then homeV c jp X2 else iprop(emp)) ∗ scellP c (sof (t.val + 1))
            ∗ (if beginsLoad t.val then loadV c (sof (t.val + 1)) (jof (t.val + 1)) Xn else iprop(slotA c (sof (t.val + 1)) ∗ lcellP c (sof (t.val + 1))))
            ∗ lcellP c (sof t.val)
            ∗ (∃ f17, (arg17.view.loc (c : Thread nD τ) ↦[arg17.view.set]{fullShare} f17))
            ∗ accP c arg15 arg18 (pointV I (startV (iof t.val = 0) (t.val % 48 = 0) s)).dx (pointV I (startV (iof t.val = 0) (t.val % 48 = 0) s)).sm
            ∗ (if iof t.val < 11 then storeV c (sof t.val) (jof t.val) (pointV I (startV (iof t.val = 0) (t.val % 48 = 0) s)).dy
                else iprop(slotA c (sof t.val) ∗ scellP c (sof t.val) ∗ homeV c (jof t.val) s.dy))
            ∗ outsP c t arg9 arg10 arg11 arg12 arg13 I.t (pointV I (startV (iof t.val = 0) (t.val % 48 = 0) s)) f9 f10 f11 f12 f13
            ∗ (∃ W, owes (c : Thread nD τ) 0 W) -∗ Q r))
      ⊢ wp frame (wpE (defs₀ (F := F)) 𝒱₀ (c : Thread nD τ) none) Set.univ (cc0_siglip_fwd_bwd (F := F) (grid0.coords t) arg3 harg3 arg4 harg4 arg5 harg5 arg6 harg6 arg7 harg7 arg8 harg8 arg9 harg9 arg10 harg10 arg11 harg11 arg12 harg12 arg13 harg13 accM (Memref.isWhole_whole _) arg15 harg15 bufM (Memref.isWhole_whole _) arg17 harg17 arg18 harg18 cc0_scratch4 cc0_scratch5) Q := by
  rw [body_eq, wp_bind]
  unfold inP
  iintro ⟨⟨H3, H4, HI⟩, HP, HSc, HH, HA, H9, H10, H11, H12, H13, HW, Hk⟩
  iapply (part4_run c t arg3 harg3 arg4 harg4 arg5 harg5 arg6 harg6 arg7 harg7 arg8 harg8 arg9 harg9 arg10 harg10 arg11 harg11 arg12 harg12 arg13 harg13 arg15 harg15 arg17 harg17 arg18 harg18 jp X2 Xn s.dy f3 f4 W)
  isplitl [H3]; · iexact H3
  isplitl [H4]; · iexact H4
  isplitl [HP]; · iexact HP
  isplitl [HW]; · iexact HW
  iintro %v4 ⟨H3, H4, HP, ⟨%W', HW⟩⟩
  unfold startPost accPre
  icases HP with ⟨HP1, HP2, HP3, HP4, HP5⟩
  icases HI with ⟨%f5, %f6, %f7, %f8, H5, H6, H7, H8, %hr⟩
  icases HA with ⟨%f15, %f17, %f18, H15, H17, H18, %hs⟩
  obtain ⟨bi, bj, It, Ib, Ix, Iy, Ixs, Iys⟩ := I
  dsimp only at hbi hbj ht hb
  subst hbi hbj ht hb
  ihave HP4' := (BIBase.Entails.of_eq (home_slot_eq c t s.dy)) $$ HP4
  icases HP4' with ⟨HHm, HSl⟩
  iapply (bind_run c)
  iapply (clear4_run c t s.dy)
  isplitl [HSl]; · iexact HSl
  iintro %r1 HSl
  iapply (bind_run c)
  iapply (clear5_run c t arg15 arg18 s f15 f18 hs)
  isplitl [H15]; · iexact H15
  isplitl [H18]; · iexact H18
  iintro %r2 HAc
  iapply (bind_run c)
  iapply (spread_run c arg8 arg17 ⟨BitVec.ofNat 32 ((grid0.coords t) 1).val, BitVec.ofNat 32 ((grid0.coords t) 2).val, the1 (arg3.view.read (Elt F) f3), the1 (arg4.view.read (Elt F) f4), Ix, Iy, Ixs, Iys⟩ f8 f17 hr.2.2.2)
  isplitl [H8]; · iexact H8
  isplitl [H17]; · iexact H17
  iintro %r3 %g17 ⟨H8, H17, %h17⟩
  iapply (bind_run c)
  iapply (loop_run c t arg3 harg3 arg4 harg4 arg5 harg5 arg6 harg6 arg7 harg7 arg8 harg8 arg9 harg9 arg10 harg10 arg11 harg11 arg12 harg12 arg13 harg13 arg15 harg15 arg17 harg17 arg18 harg18 ⟨BitVec.ofNat 32 ((grid0.coords t) 1).val, BitVec.ofNat 32 ((grid0.coords t) 2).val, the1 (arg3.view.read (Elt F) f3), the1 (arg4.view.read (Elt F) f4), Ix, Iy, Ixs, Iys⟩ (startV (iof t.val = 0) (t.val % 48 = 0) s))
  isplitl [H5 H6 H7 H17]
  · unfold readsP
    iexists f5, f6, f7, g17
    isplitl [H5]; · iexact H5
    isplitl [H6]; · iexact H6
    isplitl [H7]; · iexact H7
    isplitl [H17]; · iexact H17
    ipureintro; exact ⟨hr.1, hr.2.1, hr.2.2.1, h17⟩
  isplitl [HAc HSl]
  · unfold accP stP slotV
    icases HAc with ⟨%g15, %g18, H15, H18, %ha⟩
    icases HSl with ⟨%g16, H16, %h16⟩
    iexists g15, g16, g18
    isplitl [H15]; · iexact H15
    isplitl [H16]; · iexact H16
    isplitl [H18]; · iexact H18
    ipureintro; exact ⟨ha.1, h16, ha.2⟩
  iintro %r4 ⟨HR, HSt⟩
  ihave HHo := (home_of c t s.dy) $$ [HHm HH]
  · isplitl [HHm]; · iexact HHm
    iexact HH
  icases HHo with ⟨HHo1, HHo2⟩
  iapply (tail_run c t arg3 harg3 arg4 harg4 arg5 harg5 arg6 harg6 arg7 harg7 arg8 harg8 arg9 harg9 arg10 harg10 arg11 harg11 arg12 harg12 arg13 harg13 arg15 harg15 arg17 harg17 arg18 harg18 (the1 (arg3.view.read (Elt F) f3)) (pointV ⟨BitVec.ofNat 32 ((grid0.coords t) 1).val, BitVec.ofNat 32 ((grid0.coords t) 2).val, the1 (arg3.view.read (Elt F) f3), the1 (arg4.view.read (Elt F) f4), Ix, Iy, Ixs, Iys⟩ (startV (iof t.val = 0) (t.val % 48 = 0) s)) f9 f10 f11 f12 f13 W')
  isplitl [HSt]; · iexact HSt
  isplitl [HSc]; · iexact HSc
  isplitl [HHo1]; · iexact HHo1
  isplitl [H9]; · iexact H9
  isplitl [H10]; · iexact H10
  isplitl [H11]; · iexact H11
  isplitl [H12]; · iexact H12
  isplitl [H13]; · iexact H13
  isplitl [HW]; · iexact HW
  iintro %r5 ⟨HAc, HST, HO9, HO10, HO11, HO12, HO13, HW⟩
  unfold readsP
  icases HR with ⟨%e5, %e6, %e7, %e17, H5, H6, H7, H17, %hr'⟩
  iapply Hk
  isplitl [H3 H4 H5 H6 H7 H8]
  · isplitl [H3]; · iexact H3
    isplitl [H4]; · iexact H4
    iexists e5, e6, e7, f8
    isplitl [H5]; · iexact H5
    isplitl [H6]; · iexact H6
    isplitl [H7]; · iexact H7
    isplitl [H8]; · iexact H8
    ipureintro; exact ⟨hr'.1, hr'.2.1, hr'.2.2.1, hr.2.2.2⟩
  isplitl [HP1]; · iexact HP1
  isplitl [HP2]; · iexact HP2
  isplitl [HP3]; · iexact HP3
  isplitl [HP5]; · iexact HP5
  isplitl [H17]; · iexists _; iexact H17
  isplitl [HAc]; · iexact HAc
  isplitl [HST HHo2]
  · by_cases hi : iof t.val < 11
    · simp only [if_pos hi]; iexact HST
    · simp only [if_neg hi]
      icases HST with ⟨HST, HSc⟩
      isplitl [HST]
      · unfold slotV slotA
        icases HST with ⟨%f, HST, -⟩
        iexists f; iexact HST
      isplitl [HSc]; · iexact HSc
      iexact HHo2
  isplitr [HW]
  · unfold outsP
    isplitl [HO9]; · iexact HO9
    isplitl [HO10]; · iexact HO10
    isplitl [HO11]; · iexact HO11
    isplitl [HO12]; · iexact HO12
    iexact HO13
  iexact HW

end Cert.Proof.Ideal

end
-- ==== Proof.Ideal.Phi.lean ====
/-
  BETWEEN TWO POINTS: what the kernel holds before point `n`. Two stores may be in flight (begun one and two points
  ago), one load (for point `n`); every other column block of the accumulator is at home, and one written in the last
  48 points holds what was stored there. The step from `n` to `n + 1` is put in two halves: what the body takes, and
  what the body gives back.
-/
module

public import proofs.«01_k».proof.Proof.Ideal.Body

@[expose] public section

set_option maxRecDepth 8192
set_option maxHeartbeats 4000000

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (UU nD τ) ℕ

section
variable (c : Dev nD) (inp : ℕ → Inputs F)

/-- The tile of point `n` after it. -/
abbrev dyAt (n : ℕ) : Tile F := (stateV inp n).dy

/-- Column block `j` at home before point `n`: written in the last 48 points, it holds the tile stored then. -/
def homeD (n : ℕ) (j : Fin 48) : sProp 𝕄 :=
  iprop(∃ g, homeP c j g ∗ ⌜∀ m, m < n → n ≤ m + 48 → jof m = j → iof m < 11 → (blk j).view.read (Elt F) g = dyAt inp m⌝)

/-- The store that point `k` waits for: in flight, or else its slot, semaphore and column block at rest. -/
def stB (n k : ℕ) : sProp 𝕄 :=
  if waitsStore k then storeV c (sof (k + 1)) (jof (k + 46)) (dyAt inp (k - 2))
  else iprop(slotA c (sof (k + 1)) ∗ scellP c (sof (k + 1)) ∗ homeD c inp n (jof (k + 46)))
/-- The load that point `n` waits for: in flight, or else its slot, semaphore and column block at rest. -/
def ldB (n : ℕ) : sProp 𝕄 :=
  if waitsLoad n then loadV c (sof n) (jof n) (dyAt inp (n - 48))
  else iprop(slotA c (sof n) ∗ lcellP c (sof n) ∗ homeD c inp n (jof n))

/-- The column blocks that no point next to `n` touches; those and the next one's taken out. -/
def restSet (n : ℕ) : Finset (Fin 48) := Finset.univ.filter fun j => j ≠ jof (n + 46) ∧ j ≠ jof (n + 47) ∧ j ≠ jof n ∧ j ≠ jof (n + 1)
def midSet (n : ℕ) : Finset (Fin 48) := Finset.univ.filter fun j => j ≠ jof (n + 46) ∧ j ≠ jof (n + 47) ∧ j ≠ jof n ∧ j ≠ jof (n + 1) ∧ j ≠ jof (n + 2)

/-- The two running arrays, known unless a row block starts, and the spread scales. -/
def accB (n : ℕ) : sProp 𝕄 :=
  iprop(∃ f15 f17 f18, ((Memref.whole cc0_scratch0 : Memref sig .tc .vmem S2048x1536 .f32).view.loc (c : Thread nD τ) ↦[(Memref.whole cc0_scratch0 : Memref sig .tc .vmem S2048x1536 .f32).view.set]{fullShare} f15)
    ∗ ((Memref.whole cc0_scratch2 : Memref sig .tc .vmem S512x128 .f32).view.loc (c : Thread nD τ) ↦[(Memref.whole cc0_scratch2 : Memref sig .tc .vmem S512x128 .f32).view.set]{fullShare} f17)
    ∗ ((Memref.whole cc0_scratch3 : Memref sig .tc .vmem S3x8x2048 .f32).view.loc (c : Thread nD τ) ↦[(Memref.whole cc0_scratch3 : Memref sig .tc .vmem S3x8x2048 .f32).view.set]{fullShare} f18)
    ∗ ⌜n % 48 ≠ 0 → (Memref.whole cc0_scratch0 : Memref sig .tc .vmem S2048x1536 .f32).view.read (Elt F) f15 = (stateV inp (n - 1)).dx
        ∧ (Memref.whole cc0_scratch3 : Memref sig .tc .vmem S3x8x2048 .f32).view.read (Elt F) f18 = (stateV inp (n - 1)).sm⌝)

/-- What the kernel holds before point `n`. -/
def ringP (n : ℕ) : sProp 𝕄 :=
  iprop(stB c inp n n ∗ stB c inp n (n + 1) ∗ ldB c inp n ∗ scellP c (sof n) ∗ lcellP c (sof (n + 1)) ∗ lcellP c (sof (n + 2))
    ∗ homeD c inp n (jof (n + 1)) ∗ bigSep (restSet n) (homeD c inp n))

/-- What point `n` leaves alone. -/
def keptP (n : ℕ) : sProp 𝕄 :=
  iprop((if waitsStore n then iprop(emp) else homeD c inp n (jof (n + 46))) ∗ stB c inp n (n + 1) ∗ lcellP c (sof (n + 2))
    ∗ (if beginsLoad n then iprop(emp) else homeD c inp n (jof (n + 1))) ∗ bigSep (restSet n) (homeD c inp n))

theorem homeD_mono (n : ℕ) (j : Fin 48) (h : j ≠ jof n) : homeD c inp n j ⊢ homeD c inp (n + 1) j := by
  unfold homeD
  iintro ⟨%g, H, %hg⟩
  iexists g
  isplitl [H]; · iexact H
  ipureintro
  intro m h1 h2 h3 h4
  exact hg m (by
    rcases Nat.lt_or_ge m n with h' | h'
    · exact h'
    · have : m = n := by omega
      subst this; exact absurd h3.symm h) (by omega) h3 h4

theorem stB_mono (n k : ℕ) (h : jof (k + 46) ≠ jof n) : stB c inp n k ⊢ stB c inp (n + 1) k := by
  unfold stB
  by_cases hw : waitsStore k
  · simp only [if_pos hw]; exact .rfl
  · simp only [if_neg hw]
    iintro ⟨H1, H2, H3⟩
    isplitl [H1]; · iexact H1
    isplitl [H2]; · iexact H2
    iapply (homeD_mono c inp n _ h); iexact H3

theorem rest_open (n : ℕ) (Φ : Fin 48 → sProp 𝕄) : bigSep (restSet n) Φ = iprop(Φ (jof (n + 2)) ∗ bigSep (midSet n) Φ) := by
  have e : restSet n = insert (jof (n + 2)) (midSet n) := by
    ext j; simp only [restSet, midSet, Finset.mem_insert, Finset.mem_filter, Finset.mem_univ, true_and, jof, Fin.ext_iff, ne_eq]; have := j.isLt; omega
  rw [e, bigSep_insert (by simp [midSet])]; rfl
theorem rest_close (n : ℕ) (Φ : Fin 48 → sProp 𝕄) : bigSep (restSet (n + 1)) Φ = iprop(Φ (jof (n + 46)) ∗ bigSep (midSet n) Φ) := by
  have e : restSet (n + 1) = insert (jof (n + 46)) (midSet n) := by
    ext j; simp only [restSet, midSet, Finset.mem_insert, Finset.mem_filter, Finset.mem_univ, true_and, jof, Fin.ext_iff, ne_eq]; have := j.isLt; omega
  rw [e, bigSep_insert (by simp [midSet])]; rfl

theorem homes_mono (n : ℕ) : bigSep (midSet n) (homeD c inp n) ⊢ bigSep (midSet n) (homeD c inp (n + 1)) :=
  bigSep_mono fun j hj => homeD_mono c inp n j (by simp only [midSet, Finset.mem_filter] at hj; exact hj.2.2.2.1)

theorem beginsLoad_iff (n : ℕ) (hn : n < 1152) : beginsLoad n ↔ waitsLoad (n + 1) := by
  unfold beginsLoad waitsLoad iof; omega

theorem ring_open (t : Fin cfg0.N) :
    ringP c inp t.val ⊢ iprop(startPre c t (jof (t.val + 46)) (dyAt inp (t.val - 2)) (dyAt inp (t.val - 47)) (dyAt inp (t.val - 48)) ∗ scellP c (sof t.val)
        ∗ (if waitsLoad t.val then iprop(emp) else iprop(∃ g, homeP c (jof t.val) g)) ∗ keptP c inp t.val) := by
  have e1 : ∀ n, stB c inp n n ⊢ (iprop((if waitsStore n then storeV c (sof (n + 1)) (jof (n + 46)) (dyAt inp (n - 2)) else iprop(slotA c (sof (n + 1)) ∗ scellP c (sof (n + 1))))
      ∗ (if waitsStore n then iprop(emp) else homeD c inp n (jof (n + 46)))) : sProp 𝕄) := by
    intro n; unfold stB
    by_cases h : waitsStore n
    · simp only [if_pos h]; iintro H; isplitl [H]; · iexact H
      iempintro
    · simp only [if_neg h]
      iintro ⟨H1, H2, H3⟩
      isplitr [H3]
      · isplitl [H1]; · iexact H1
        iexact H2
      iexact H3
  have e2 : ∀ n, ldB c inp n ⊢ (iprop((if waitsLoad n then loadV c (sof n) (jof n) (dyAt inp (n - 48)) else iprop(slotA c (sof n) ∗ lcellP c (sof n)))
      ∗ (if waitsLoad n then iprop(emp) else iprop(∃ g, homeP c (jof n) g))) : sProp 𝕄) := by
    intro n; unfold ldB
    by_cases h : waitsLoad n
    · simp only [if_pos h]; iintro H; isplitl [H]; · iexact H
      iempintro
    · simp only [if_neg h]; unfold homeD
      iintro ⟨H1, H2, ⟨%g, H3, -⟩⟩
      isplitr [H3]
      · isplitl [H1]; · iexact H1
        iexact H2
      iexists g; iexact H3
  have e3 : ∀ n, homeD c inp n (jof (n + 1)) ⊢ (iprop((if beginsLoad n then homeV c (jof (n + 1)) (dyAt inp (n - 47)) else iprop(emp))
      ∗ (if beginsLoad n then iprop(emp) else homeD c inp n (jof (n + 1)))) : sProp 𝕄) := by
    intro n
    by_cases h : beginsLoad n
    · simp only [if_pos h]; unfold homeD homeV
      iintro ⟨%g, H, %hg⟩
      isplitl [H]
      · iexists g; isplitl [H]; · iexact H
        ipureintro
        have h' := h; unfold beginsLoad iof at h'
        exact hg (n - 47) (by omega) (by omega) (Fin.ext (by show (n - 47) % 48 = (n + 1) % 48; omega)) (by unfold iof; omega)
      iempintro
    · simp only [if_neg h]
      iintro H
      isplitr; · iempintro
      iexact H
  unfold ringP startPre keptP
  iintro ⟨H1, H2, H3, H4, H5, H6, H7, H8⟩
  ihave H1' := (e1 t.val) $$ H1
  icases H1' with ⟨H1, H1k⟩
  ihave H3' := (e2 t.val) $$ H3
  icases H3' with ⟨H3, H3k⟩
  ihave H7' := (e3 t.val) $$ H7
  icases H7' with ⟨H7, H7k⟩
  isplitl [H1 H5 H7 H3]
  · isplitl [H1]; · iexact H1
    isplitl [H5]; · iexact H5
    isplitl [H7]; · iexact H7
    iexact H3
  isplitl [H4]; · iexact H4
  isplitl [H3k]; · iexact H3k
  isplitl [H1k]; · iexact H1k
  isplitl [H2]; · iexact H2
  isplitl [H6]; · iexact H6
  isplitl [H7k]; · iexact H7k
  iexact H8

theorem ring_close (t : Fin cfg0.N) (Xd : Tile F) :
    iprop(keptP c inp t.val ∗ (if waitsStore t.val then homeV c (jof (t.val + 46)) (dyAt inp (t.val - 2)) else iprop(emp)) ∗ scellP c (sof (t.val + 1))
        ∗ (if beginsLoad t.val then loadV c (sof (t.val + 1)) (jof (t.val + 1)) (dyAt inp (t.val - 47)) else iprop(slotA c (sof (t.val + 1)) ∗ lcellP c (sof (t.val + 1))))
        ∗ lcellP c (sof t.val)
        ∗ (if iof t.val < 11 then storeV c (sof t.val) (jof t.val) (dyAt inp t.val) else iprop(slotA c (sof t.val) ∗ scellP c (sof t.val) ∗ homeV c (jof t.val) Xd)))
      ⊢ ringP c inp (t.val + 1) := by
  have hn : t.val < 1152 := Nat.lt_of_lt_of_eq t.isLt N_0
  generalize t.val = n at hn ⊢
  have e1 : iprop((if waitsStore n then iprop(emp) else homeD c inp n (jof (n + 46))) ∗ (if waitsStore n then homeV c (jof (n + 46)) (dyAt inp (n - 2)) else iprop(emp)))
      ⊢ homeD c inp (n + 1) (jof (n + 46)) := by
    by_cases h : waitsStore n
    · simp only [if_pos h]; unfold homeV homeD
      iintro ⟨-, ⟨%g, H, %hg⟩⟩
      iexists g; isplitl [H]; · iexact H
      ipureintro
      intro m h1 h2 h3 h4
      have h3' : m % 48 = (n + 46) % 48 := congrArg Fin.val h3
      have h' := h.1
      have : m = n - 2 := by omega
      rw [this]; exact hg
    · simp only [if_neg h]
      iintro ⟨H, -⟩
      iapply (homeD_mono c inp n _ (by intro h; have h : (n + 46) % 48 = n % 48 := congrArg Fin.val h; omega)); iexact H
  have e2 : iprop((if beginsLoad n then iprop(emp) else homeD c inp n (jof (n + 1)))
        ∗ (if beginsLoad n then loadV c (sof (n + 1)) (jof (n + 1)) (dyAt inp (n - 47)) else iprop(slotA c (sof (n + 1)) ∗ lcellP c (sof (n + 1)))))
      ⊢ ldB c inp (n + 1) := by
    unfold ldB
    by_cases h : beginsLoad n
    · simp only [if_pos h, if_pos ((beginsLoad_iff n hn).mp h)]
      rw [show n + 1 - 48 = n - 47 by omega]
      iintro ⟨-, H⟩; iexact H
    · simp only [if_neg h, if_neg (mt (beginsLoad_iff n hn).mpr h)]
      iintro ⟨H, H1, H2⟩
      isplitl [H1]; · iexact H1
      isplitl [H2]; · iexact H2
      iapply (homeD_mono c inp n _ (by intro h; have h : (n + 1) % 48 = n % 48 := congrArg Fin.val h; omega)); iexact H
  have e3 : (if iof n < 11 then storeV c (sof n) (jof n) (dyAt inp n) else iprop(slotA c (sof n) ∗ scellP c (sof n) ∗ homeV c (jof n) Xd))
      ⊢ stB c inp (n + 1) (n + 1 + 1) := by
    unfold stB
    rw [show sof (n + 1 + 1 + 1) = sof n from Fin.ext (by show (n + 1 + 1 + 1) % 3 = n % 3; omega), show jof (n + 1 + 1 + 46) = jof n from Fin.ext (by show (n + 1 + 1 + 46) % 48 = n % 48; omega),
      show n + 1 + 1 - 2 = n by omega]
    by_cases h : iof n < 11
    · simp only [if_pos h, if_pos (show waitsStore (n + 1 + 1) from ⟨by omega, h⟩)]; exact .rfl
    · simp only [if_neg h, if_neg (show ¬ waitsStore (n + 1 + 1) from fun hw => h hw.2)]
      unfold homeV homeD
      iintro ⟨H1, H2, ⟨%g, H3, -⟩⟩
      isplitl [H1]; · iexact H1
      isplitl [H2]; · iexact H2
      iexists g; isplitl [H3]; · iexact H3
      ipureintro
      intro m h1 h2 h3 h4
      have h3' : m % 48 = n % 48 := congrArg Fin.val h3
      have : m = n := by omega
      subst this; exact absurd h4 h
  unfold ringP keptP
  rw [rest_open, rest_close]
  iintro ⟨⟨K1, K2, K3, K4, K5, K6⟩, H1, H2, H3, H4, H5⟩
  isplitl [K2]
  · iapply (stB_mono c inp n (n + 1) (by intro h; have h : (n + 1 + 46) % 48 = n % 48 := congrArg Fin.val h; omega)); iexact K2
  isplitl [H5]; · iapply e3; iexact H5
  isplitl [K4 H3]
  · iapply e2
    isplitl [K4]; · iexact K4
    iexact H3
  isplitl [H2]; · iexact H2
  isplitl [K3]; · iexact K3
  isplitl [H4]
  · rw [show sof (n + 1 + 2) = sof n from Fin.ext (by show (n + 1 + 2) % 3 = n % 3; omega)]; iexact H4
  isplitl [K5]
  · iapply (homeD_mono c inp n _ (by intro h; have h : (n + 2) % 48 = n % 48 := congrArg Fin.val h; omega)); iexact K5
  isplitl [K1 H1]
  · iapply e1
    isplitl [K1]; · iexact K1
    iexact H1
  iapply (homes_mono c inp n); iexact K6

end

end Cert.Proof.Ideal

end
-- ==== Proof.Ideal.Room.lean ====
/-
  THE ARRAYS IN PIECES: the accumulator of `dy` is its 48 column blocks and the ring its three slots; at the first point
  and after the last nothing is in flight, so what is held there is those pieces whole.
-/
module

public import proofs.«01_k».proof.Proof.Ideal.Phi
public import proofs.«01_k».proof.Proof.Gen.KernelIdeal.Frame

@[expose] public section

set_option maxRecDepth 8192
set_option maxHeartbeats 4000000

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (UU nD τ) ℕ

abbrev B48 (j : Fin 48) : Finset S24576x1536.Idx := (Rect.unit (s := S24576x1536) (blkOff j) S512x1536.size (blkOff_inb j)).set
abbrev B3 (s : Fin 3) : Finset S3x512x1536.Idx := (Rect.unit (s := S3x512x1536) (slotOff s) S1x512x1536.size (slotOff_inb s)).set

omit [FloatOps F] [Named F] in
theorem blk_set (j : Fin 48) : (blk j).view.set = B48 j := View.set_slice_whole _ _
omit [FloatOps F] [Named F] in
theorem rslot_set (s : Fin 3) : (rslot s).view.set = B3 s := (View.set_reshape _ _).trans (View.set_slice_whole _ _)

theorem mem_B48 (j : Fin 48) (y : S24576x1536.Idx) : y ∈ B48 j ↔ 512 * j.val ≤ (y 0).val ∧ (y 0).val < 512 * j.val + 512 := by
  rw [Rect.mem_set_unit]
  have h1 : (y 1).val < 1536 := (y 1).isLt
  constructor
  · intro H; exact H 0
  · intro H i; fin_cases i
    · show 512 * j.val ≤ (y 0).val ∧ (y 0).val < 512 * j.val + 512; exact H
    · show 0 ≤ (y 1).val ∧ (y 1).val < 0 + 1536; omega
theorem mem_B3 (s : Fin 3) (y : S3x512x1536.Idx) : y ∈ B3 s ↔ (y 0).val = s.val := by
  rw [Rect.mem_set_unit]
  have h1 : (y 1).val < 512 := (y 1).isLt
  have h2 : (y 2).val < 1536 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 512; omega
    · show 0 ≤ (y 2).val ∧ (y 2).val < 0 + 1536; omega
theorem B48_disjoint : ∀ b b' : Fin 48, b ≠ b' → Disjoint (B48 b) (B48 b') := by
  intro b b' hne; rw [Finset.disjoint_left]; intro y hy hy'; rw [mem_B48] at hy hy'; exact hne (Fin.ext (by omega))
theorem B48_cover : (Finset.univ : Finset (Fin 48)).biUnion B48 = Finset.univ := by
  ext y; simp only [Finset.mem_biUnion, Finset.mem_univ, true_and, iff_true]
  have h0 : (y 0).val < 24576 := (y 0).isLt
  exact ⟨⟨(y 0).val / 512, by omega⟩, by rw [mem_B48]; show 512 * ((y 0).val / 512) ≤ (y 0).val ∧ (y 0).val < 512 * ((y 0).val / 512) + 512; omega⟩
theorem B3_disjoint : ∀ s s' : Fin 3, s ≠ s' → Disjoint (B3 s) (B3 s') := by
  intro s s' hne; rw [Finset.disjoint_left]; intro y hy hy'; rw [mem_B3] at hy hy'; exact hne (Fin.ext (hy.symm.trans hy'))
theorem B3_cover : (Finset.univ : Finset (Fin 3)).biUnion B3 = Finset.univ := by
  ext y; simp only [Finset.mem_biUnion, Finset.mem_univ, true_and, iff_true]; exact ⟨(y 0).cast (by decide), by rw [mem_B3]; rfl⟩

theorem bigSep_fin3 (Φ : Fin 3 → sProp 𝕄) : bigSep Finset.univ Φ = iprop(Φ 0 ∗ Φ 1 ∗ Φ 2) :=
  bigSep_univ_eq_bigSepL [(0 : Fin 3), (1 : Fin 3), (2 : Fin 3)] (by decide) (by decide) Φ

section
variable (c : Dev nD) (inp : ℕ → Inputs F)

theorem homeP_eq (j : Fin 48) (g) : homeP c j g = (((c : Thread nD τ).loc main_v5_5) ↦[B48 j]{fullShare} g : sProp 𝕄) :=
  congrArg (fun S => (_ ↦[S]{fullShare} g : sProp 𝕄)) (blk_set j)
theorem slotP_eq (s : Fin 3) (f) : slotP c s f = (((c : Thread nD τ).loc cc0_scratch1) ↦[B3 s]{fullShare} f : sProp 𝕄) :=
  congrArg (fun S => (_ ↦[S]{fullShare} f : sProp 𝕄)) (rslot_set s)

theorem acc_split (f : Buf (Elt F) ((c : Thread nD τ).loc main_v5_5)) :
    (((c : Thread nD τ).loc main_v5_5) ↦{fullShare} f : sProp 𝕄) ⊢ bigSep Finset.univ fun j => iprop(∃ g, homeP c j g) := by
  rw [Ring.pointsTo_blocks (ℓ := (c : Thread nD τ).loc main_v5_5) B48 B48_disjoint B48_cover]
  have h : ∀ j, (((c : Thread nD τ).loc main_v5_5) ↦[B48 j]{fullShare} f : sProp 𝕄) ⊢ iprop(∃ g, homeP c j g) := fun j => by
    refine (BIBase.Entails.of_eq (homeP_eq c j f).symm).trans ?_
    iintro H; iexists f; iexact H
  exact bigSep_mono fun j _ => h j

theorem ring_split :
    iprop(∃ f : Buf (Elt F) ((c : Thread nD τ).loc cc0_scratch1), ((c : Thread nD τ).loc cc0_scratch1) ↦{fullShare} f)
      ⊢ (iprop(slotA c 0 ∗ slotA c 1 ∗ slotA c 2) : sProp 𝕄) := by
  unfold slotA
  iintro ⟨%f, H⟩
  ihave H2 := (BIBase.Entails.of_eq ((Ring.pointsTo_blocks (Ix := Unit) (Name := ℕ) (U := UU nD τ) (Lvl := ℕ) (q := fullShare) (ℓ := (c : Thread nD τ).loc cc0_scratch1) B3 B3_disjoint B3_cover f).trans (bigSep_fin3 _))) $$ H
  icases H2 with ⟨H0, H1, H2⟩
  isplitl [H0]
  · iexists f; iapply (BIBase.Entails.of_eq (slotP_eq c 0 f).symm); iexact H0
  isplitl [H1]
  · iexists f; iapply (BIBase.Entails.of_eq (slotP_eq c 1 f).symm); iexact H1
  · iexists f; iapply (BIBase.Entails.of_eq (slotP_eq c 2 f).symm); iexact H2
theorem ring_join :
    iprop(slotA c 0 ∗ slotA c 1 ∗ slotA c 2)
      ⊢ (iprop(∃ f : Buf (Elt F) ((c : Thread nD τ).loc cc0_scratch1), ((c : Thread nD τ).loc cc0_scratch1) ↦{fullShare} f) : sProp 𝕄) := by
  unfold slotA
  iintro ⟨⟨%f0, H0⟩, ⟨%f1, H1⟩, ⟨%f2, H2⟩⟩
  iapply (Ring.pointsTo_blocks_join_exists (ℓ := (c : Thread nD τ).loc cc0_scratch1) B3 B3_disjoint B3_cover f0)
  irw [bigSep_fin3]
  isplitl [H0]
  · iexists f0; iapply (BIBase.Entails.of_eq (slotP_eq c 0 f0)); iexact H0
  isplitl [H1]
  · iexists f1; iapply (BIBase.Entails.of_eq (slotP_eq c 1 f1)); iexact H1
  · iexists f2; iapply (BIBase.Entails.of_eq (slotP_eq c 2 f2)); iexact H2

/-- Everything at rest. -/
def restP : sProp 𝕄 :=
  iprop((slotA c 0 ∗ slotA c 1 ∗ slotA c 2) ∗ lcellP c 0 ∗ lcellP c 1 ∗ lcellP c 2 ∗ scellP c 0 ∗ scellP c 1 ∗ scellP c 2)

theorem homes_roles (n : ℕ) (Φ : Fin 48 → sProp 𝕄) :
    bigSep Finset.univ Φ = iprop(Φ (jof (n + 46)) ∗ Φ (jof (n + 47)) ∗ Φ (jof n) ∗ Φ (jof (n + 1)) ∗ bigSep (restSet n) Φ) := by
  have e : (Finset.univ : Finset (Fin 48)) = insert (jof (n + 46)) (insert (jof (n + 47)) (insert (jof n) (insert (jof (n + 1)) (restSet n)))) := by
    ext j; simp only [restSet, Finset.mem_insert, Finset.mem_filter, Finset.mem_univ, _root_.true_and, jof, Fin.ext_iff, ne_eq, _root_.true_iff, not_true_eq_false, _root_.and_false, _root_.false_and, not_false_eq_true, _root_.or_false, _root_.false_or]; have := j.isLt; omega
  have d1 : jof (n + 46) ∉ insert (jof (n + 47)) (insert (jof n) (insert (jof (n + 1)) (restSet n))) := by
    simp only [restSet, Finset.mem_insert, Finset.mem_filter, Finset.mem_univ, _root_.true_and, jof, Fin.ext_iff, ne_eq, _root_.true_iff, not_true_eq_false, _root_.and_false, _root_.false_and, not_false_eq_true, _root_.or_false, _root_.false_or]; omega
  have d2 : jof (n + 47) ∉ insert (jof n) (insert (jof (n + 1)) (restSet n)) := by
    simp only [restSet, Finset.mem_insert, Finset.mem_filter, Finset.mem_univ, _root_.true_and, jof, Fin.ext_iff, ne_eq, _root_.true_iff, not_true_eq_false, _root_.and_false, _root_.false_and, not_false_eq_true, _root_.or_false, _root_.false_or]; omega
  have d3 : jof n ∉ insert (jof (n + 1)) (restSet n) := by
    simp only [restSet, Finset.mem_insert, Finset.mem_filter, Finset.mem_univ, _root_.true_and, jof, Fin.ext_iff, ne_eq, _root_.true_iff, not_true_eq_false, _root_.and_false, _root_.false_and, not_false_eq_true, _root_.or_false, _root_.false_or]; omega
  have d4 : jof (n + 1) ∉ restSet n := by
    simp only [restSet, Finset.mem_filter, Finset.mem_univ, _root_.true_and, jof, Fin.ext_iff, ne_eq, _root_.true_iff, not_true_eq_false, _root_.and_false, _root_.false_and, not_false_eq_true, _root_.or_false, _root_.false_or]
  rw [e, bigSep_insert d1, bigSep_insert d2, bigSep_insert d3, bigSep_insert d4]; rfl

theorem ring_first : iprop(bigSep Finset.univ (fun j => iprop(∃ g, homeP c j g)) ∗ restP c) ⊢ (ringP c inp 0 : sProp 𝕄) := by
  have h0 : ∀ j, iprop(∃ g, homeP c j g) ⊢ homeD c inp 0 j := fun j => by
    unfold homeD
    iintro ⟨%g, H⟩; iexists g; isplitl [H]; · iexact H
    ipureintro; intro m h; omega
  have hm : bigSep Finset.univ (fun j => iprop(∃ g, homeP c j g)) ⊢ (bigSep Finset.univ (homeD c inp 0) : sProp 𝕄) :=
    bigSep_mono fun j _ => h0 j
  refine (show iprop(bigSep Finset.univ (fun j => iprop(∃ g, homeP c j g)) ∗ restP c) ⊢ iprop(bigSep Finset.univ (homeD c inp 0) ∗ restP c) from by
    iintro ⟨H, HR⟩; isplitl [H]; · iapply hm; iexact H
    iexact HR).trans ?_
  rw [homes_roles 0]
  unfold ringP restP stB ldB
  rw [if_neg (show ¬ waitsStore 0 by decide), if_neg (show ¬ waitsStore (0 + 1) by decide), if_neg (show ¬ waitsLoad 0 by decide)]
  iintro ⟨⟨H1, H2, H3, H4, H5⟩, ⟨S0, S1, S2⟩, L0, L1, L2, T0, T1, T2⟩
  isplitl [S1 T1 H1]
  · isplitl [S1]; · iexact S1
    isplitl [T1]; · iexact T1
    iexact H1
  isplitl [S2 T2 H2]
  · isplitl [S2]; · iexact S2
    isplitl [T2]; · iexact T2
    iexact H2
  isplitl [S0 L0 H3]
  · isplitl [S0]; · iexact S0
    isplitl [L0]; · iexact L0
    iexact H3
  isplitl [T0]; · iexact T0
  isplitl [L1]; · iexact L1
  isplitl [L2]; · iexact L2
  isplitl [H4]; · iexact H4
  iexact H5

theorem ring_last : (ringP c inp 1152 : sProp 𝕄) ⊢ restP c := by
  unfold ringP restP stB ldB
  rw [if_neg (show ¬ waitsStore 1152 by decide), if_neg (show ¬ waitsStore (1152 + 1) by decide), if_neg (show ¬ waitsLoad 1152 by decide)]
  rw [show sof (1152 + 1) = 1 from rfl, show sof (1152 + 1 + 1) = 2 from rfl, show sof 1152 = 0 from rfl]
  iintro ⟨⟨S1, T1, -⟩, ⟨S2, T2, -⟩, ⟨S0, L0, -⟩, T0, L1, L2, -, -⟩
  isplitl [S0 S1 S2]
  · isplitl [S0]; · iexact S0
    isplitl [S1]; · iexact S1
    iexact S2
  isplitl [L0]; · iexact L0
  isplitl [L1]; · iexact L1
  isplitl [L2]; · iexact L2
  isplitl [T0]; · iexact T0
  isplitl [T1]; · iexact T1
  iexact T2

end

end Cert.Proof.Ideal

end
-- ==== Proof.Ideal.Data.lean ====
/-
  THE PROOF DATA of the pipeline: what each point reads, the states after the points, what each window's staging buffer
  holds before and after each point, and when each window is written back.
-/
module

public import proofs.«01_k».proof.Proof.Ideal.Room
public import Idealize.ShloMosaic.Lib.Pipeline.TableIdle

@[expose] public section

set_option maxRecDepth 8192
set_option maxHeartbeats 4000000

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
open Idealize.ShloMosaic.Pipeline (Dat Cfg Window BodyObligation cellOf)
local notation "𝕄" => MT nD τ sig Unit (Elt F) ℕ (UU nD τ) ℕ

variable (m : (ℓ : Loc nD τ sig) → Buf (Elt F) ℓ) (ρ : Dev nD → PrngReg)

/-! ## The kernel's own semaphores -/

abbrev osem : Fin 6 → SemLoc sig := fun
  | 0 => .dma (lsm 0).sem | 1 => .dma (lsm 1).sem | 2 => .dma (lsm 2).sem
  | 3 => .dma (ssm 0).sem | 4 => .dma (ssm 1).sem | 5 => .dma (ssm 2).sem
theorem ownSemFacts : Pipeline.OwnSemFacts spec0 osem := by decide

theorem ownSems0_eq (c : Dev nD) : (Pipeline.ownSems0 (Ix := Unit) (Name := ℕ) (U := UU nD τ) (Lvl := ℕ) (Val := Elt F) (τ := τ) osem c : sProp 𝕄)
    = iprop(lcellP c 0 ∗ lcellP c 1 ∗ lcellP c 2 ∗ scellP c 0 ∗ scellP c 1 ∗ scellP c 2) :=
  bigSep_univ_eq_bigSepL [(0 : Fin 6), (1 : Fin 6), (2 : Fin 6), (3 : Fin 6), (4 : Fin 6), (5 : Fin 6)] (by decide) (by decide) _

/-! ## What each point reads, and the states after the points -/

/-- What point `t` reads. -/
def inpT (c : Dev nD) (t : Fin cfg0.N) : Inputs F where
  bi := BitVec.ofNat 32 ((grid0.coords t) 1).val
  bj := BitVec.ofNat 32 ((grid0.coords t) 2).val
  t := the1 (iblk m c 0 t)
  b := the1 (iblk m c 1 t)
  x := iblk m c 2 t
  y := iblk m c 3 t
  xs := iblk m c 4 t
  ys := iblk m c 5 t
def inp (c : Dev nD) (n : ℕ) : Inputs F := inpT m c ⟨n % 1152, Nat.lt_of_lt_of_eq (Nat.mod_lt _ (by decide)) N_0.symm⟩
theorem inp_at (c : Dev nD) (t : Fin cfg0.N) : inp m c t.val = inpT m c t :=
  congrArg (inpT m c) (Fin.ext (Nat.mod_eq_of_lt (Nat.lt_of_lt_of_eq t.isLt N_0)))

theorem stateV_step (inp : ℕ → Inputs F) (n : ℕ) :
    pointV (inp n) (startV (iof n = 0) (n % 48 = 0) ⟨(stateV inp (n - 1)).dx, dyAt inp (n - 48), (stateV inp (n - 1)).sm⟩) = stateV inp n := by
  conv_rhs => rw [stateV]
  rfl

/-! ## The pipeline's proof data -/

/-- Before point `n`. -/
def PhiP (c : Dev nD) (n : ℕ) : sProp 𝕄 := iprop(ringP c (inp m c) n ∗ accB c (inp m c) n)

def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay27 (sm0 (stateV (inp m c) t.val).sm)
    | ⟨7, _⟩ => k0_pay26 (inpT m c t).t (stateV (inp m c) t.val).dx
    | ⟨8, _⟩ => k0_pay8 (inpT m c t).t (up (stateV (inp m c) t.val).dy)
    | ⟨9, _⟩ => k0_pay28 (sm1 (stateV (inp m c) t.val).sm)
    | ⟨10, _⟩ => k0_pay9 (k0_pay29 (sm2 (stateV (inp m c) t.val).sm))
  Φ n := PhiP m c n.val
  q _ := fullShare
  owed _ := 0

theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem after_w2 (c : Dev nD) (t : Fin cfg0.N) : (dats m 0 c).after 2 t = iblk m c 2 t := by dsimp only [dats]
theorem after_w3 (c : Dev nD) (t : Fin cfg0.N) : (dats m 0 c).after 3 t = iblk m c 3 t := by dsimp only [dats]
theorem after_w4 (c : Dev nD) (t : Fin cfg0.N) : (dats m 0 c).after 4 t = iblk m c 4 t := by dsimp only [dats]
theorem after_w5 (c : Dev nD) (t : Fin cfg0.N) : (dats m 0 c).after 5 t = iblk m c 5 t := by dsimp only [dats]
theorem after_w6 (c : Dev nD) (t : Fin cfg0.N) : (dats m 0 c).after 6 t = k0_pay27 (sm0 (stateV (inp m c) t.val).sm) := by dsimp only [dats]
theorem after_w7 (c : Dev nD) (t : Fin cfg0.N) : (dats m 0 c).after 7 t = k0_pay26 (inpT m c t).t (stateV (inp m c) t.val).dx := by dsimp only [dats]
theorem after_w8 (c : Dev nD) (t : Fin cfg0.N) : (dats m 0 c).after 8 t = k0_pay8 (inpT m c t).t (up (stateV (inp m c) t.val).dy) := by dsimp only [dats]
theorem after_w9 (c : Dev nD) (t : Fin cfg0.N) : (dats m 0 c).after 9 t = k0_pay28 (sm1 (stateV (inp m c) t.val).sm) := by dsimp only [dats]
theorem after_w10 (c : Dev nD) (t : Fin cfg0.N) : (dats m 0 c).after 10 t = k0_pay9 (k0_pay29 (sm2 (stateV (inp m c) t.val).sm)) := by dsimp only [dats]

theorem before_w0 (c : Dev nD) (t : Fin cfg0.N) (d) : (dats m 0 c).before 0 t d = iblk m c 0 t :=
  ((dats m 0 c).before_in_eq_fetched 0 rfl (fun _ => rfl) (fun _ _ _ => rfl) (fun t => by rw [after_w0]; unfold Dat.blockOf iblk; rfl) t d).trans
    (by unfold Dat.fetched Dat.blockOf iblk; rfl)
theorem before_w1 (c : Dev nD) (t : Fin cfg0.N) (d) : (dats m 0 c).before 1 t d = iblk m c 1 t :=
  ((dats m 0 c).before_in_eq_fetched 1 rfl (fun _ => rfl) (fun _ _ _ => rfl) (fun t => by rw [after_w1]; unfold Dat.blockOf iblk; rfl) t d).trans
    (by unfold Dat.fetched Dat.blockOf iblk; rfl)
theorem before_w2 (c : Dev nD) (t : Fin cfg0.N) (d) : (dats m 0 c).before 2 t d = iblk m c 2 t :=
  ((dats m 0 c).before_in_eq_fetched 2 rfl (fun _ => rfl) (fun _ _ _ => rfl) (fun t => by rw [after_w2]; unfold Dat.blockOf iblk; rfl) t d).trans
    (by unfold Dat.fetched Dat.blockOf iblk; rfl)
theorem before_w3 (c : Dev nD) (t : Fin cfg0.N) (d) : (dats m 0 c).before 3 t d = iblk m c 3 t :=
  ((dats m 0 c).before_in_eq_fetched 3 rfl (fun _ => rfl) (fun _ _ _ => rfl) (fun t => by rw [after_w3]; unfold Dat.blockOf iblk; rfl) t d).trans
    (by unfold Dat.fetched Dat.blockOf iblk; rfl)
theorem before_w4 (c : Dev nD) (t : Fin cfg0.N) (d) : (dats m 0 c).before 4 t d = iblk m c 4 t :=
  ((dats m 0 c).before_in_eq_fetched 4 rfl (fun _ => rfl) (fun _ _ _ => rfl) (fun t => by rw [after_w4]; unfold Dat.blockOf iblk; rfl) t d).trans
    (by unfold Dat.fetched Dat.blockOf iblk; rfl)
theorem before_w5 (c : Dev nD) (t : Fin cfg0.N) (d) : (dats m 0 c).before 5 t d = iblk m c 5 t :=
  ((dats m 0 c).before_in_eq_fetched 5 rfl (fun _ => rfl) (fun _ _ _ => rfl) (fun t => by rw [after_w5]; unfold Dat.blockOf iblk; rfl) t d).trans
    (by unfold Dat.fetched Dat.blockOf iblk; rfl)

/-! ## The body obligation -/

theorem defs_tc : (defs₀ (F := F)) .tc cfg0.body
    = fun a => cc0_siglip_fwd_bwd (grid0.coords a.1) (win0_0.stage (a.2 0)) (hstage0_0 ((a.2 0).cast nbuf0_0)) (win0_1.stage (a.2 1)) (hstage0_1 ((a.2 1).cast nbuf0_1))
        (win0_2.stage (a.2 2)) (hstage0_2 ((a.2 2).cast nbuf0_2)) (win0_3.stage (a.2 3)) (hstage0_3 ((a.2 3).cast nbuf0_3))
        (win0_4.stage (a.2 4)) (hstage0_4 ((a.2 4).cast nbuf0_4)) (win0_5.stage (a.2 5)) (hstage0_5 ((a.2 5).cast nbuf0_5))
        (win0_6.stage (a.2 6)) (hstage0_6 ((a.2 6).cast nbuf0_6)) (win0_7.stage (a.2 7)) (hstage0_7 ((a.2 7).cast nbuf0_7))
        (win0_8.stage (a.2 8)) (hstage0_8 ((a.2 8).cast nbuf0_8)) (win0_9.stage (a.2 9)) (hstage0_9 ((a.2 9).cast nbuf0_9))
        (win0_10.stage (a.2 10)) (hstage0_10 ((a.2 10).cast nbuf0_10))
        accM (Memref.isWhole_whole _) (Memref.whole cc0_scratch0) (Memref.isWhole_whole _) bufM (Memref.isWhole_whole _)
        (Memref.whole cc0_scratch2) (Memref.isWhole_whole _) (Memref.whole cc0_scratch3) (Memref.isWhole_whole _) cc0_scratch4 cc0_scratch5 := rfl
theorem prog_eq (t : Fin cfg0.N) : (defs₀ (F := F)) .tc cfg0.body (cfg0.bodyArgs t (cfg0.slots t)) = bodyAt0 t :=
  (congrFun defs_tc _).trans rfl

section Windows
variable (c : Dev nD) (t : Fin cfg0.N)

theorem idle_cond8 (w : Fin cfg0.W) (hw : w = 6 ∨ w = 7 ∨ w = 9 ∨ w = 10) : cfg0.idle w (grid0.coords t) = !decide (t.val % 48 = 47) := by
  have e : cfg0.idle w (grid0.coords t) = !(k0_cond8 (grid0.coords t) == 1#1) := by
    rcases hw with rfl | rfl | rfl | rfl <;> rfl
  rw [e]; congr 1
  by_cases h : t.val % 48 = 47
  · rw [(cond8_iff t).mpr h, decide_eq_true h]; rfl
  · rw [decide_eq_false h]; exact beq_eq_false_iff_ne.mpr (mt (cond8_iff t).mp h)
theorem idle_cond7 : cfg0.idle 8 (grid0.coords t) = !decide (iof t.val = 11) := by
  have e : cfg0.idle 8 (grid0.coords t) = !(k0_cond7 (grid0.coords t) == 1#1) := rfl
  rw [e]; congr 1
  by_cases h : iof t.val = 11
  · rw [(cond7_iff t).mpr h, decide_eq_true h]; rfl
  · rw [decide_eq_false h]; exact beq_eq_false_iff_ne.mpr (mt (cond7_iff t).mp h)

theorem flush0_8 : (cfg0.win 8).flush t = true ↔ iof t.val = 11 := by
  rw [Window.flush_eq_flushF]
  revert t; exact (by decide +kernel : ∀ t : Fin cfg0.N, (cfg0.win 8).flushF t = true ↔ iof t.val = 11)

/-- A result window, written at the points where `p` holds and left alone elsewhere, is as the pipeline wants it. -/
theorem out_window (w : Fin cfg0.W) (p : Prop) [Decidable p] (hi : cfg0.idle w (cfg0.grid.coords t) = !decide p) (hf : ¬ p → (cfg0.win w).flush t = false) (d)
    (f : Buf (Elt F) (((cfg0.win w).stage (cfg0.slots t w)).view.loc (c : Thread nD τ)))
    (h : ((cfg0.win w).stage (cfg0.slots t w)).view.read (Elt F) f = (dats m 0 c).before w t d) :
    outP c ((cfg0.win w).stage (cfg0.slots t w)) p f ((dats m 0 c).after w t) ⊢ (dats m 0 c).leavesExact w t := by
  unfold outP
  by_cases hp : p
  · rw [if_pos hp, show (dats m 0 c).leavesExact w t = owns (c : Thread nD τ) ((cfg0.win w).stage (cfg0.slots t w)) fullShare ((dats m 0 c).after w t) by
      unfold Dat.leavesExact; rw [hi, decide_eq_true hp]; rfl]
    unfold owns
    iintro ⟨%g, H, %hg⟩
    iexists g; isplitr; · ipureintro; exact hg
    iexact H
  · rw [if_neg hp, (dats m 0 c).leavesExact_idle w t (by rw [hi, decide_eq_false hp]; rfl) (hf hp)]
    unfold owns
    iintro H
    iexists d; iexists f; isplitr; · ipureintro; exact h
    iexact H

/-- An input window, left as found. -/
theorem in_window (w : Fin cfg0.W) (hi : cfg0.idle w (cfg0.grid.coords t) = false)
    (f : Buf (Elt F) (((cfg0.win w).stage (cfg0.slots t w)).view.loc (c : Thread nD τ)))
    (h : ((cfg0.win w).stage (cfg0.slots t w)).view.read (Elt F) f = (dats m 0 c).after w t) :
    (((cfg0.win w).stage (cfg0.slots t w)).view.loc (c : Thread nD τ) ↦[((cfg0.win w).stage (cfg0.slots t w)).view.set]{fullShare} f : sProp 𝕄)
      ⊢ (dats m 0 c).leavesExact w t := by
  rw [show (dats m 0 c).leavesExact w t = owns (c : Thread nD τ) ((cfg0.win w).stage (cfg0.slots t w)) fullShare ((dats m 0 c).after w t) by
      unfold Dat.leavesExact; rw [hi]]
  unfold owns
  iintro H
  iexists f; isplitr; · ipureintro; exact h
  iexact H

end Windows

end Cert.Proof.Ideal

end
-- ==== Proof.Ideal.Oblig.lean ====
/-
  THE BODY OBLIGATION: from what is held before a point, the body runs and leaves what is held before the next, every
  window's staging buffer as the pipeline's proof data say.
-/
module

public import proofs.«01_k».proof.Proof.Ideal.Data

@[expose] public section

set_option maxRecDepth 8192
set_option maxHeartbeats 4000000

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
open Idealize.ShloMosaic.Pipeline (Dat Cfg Window BodyObligation cellOf)
local notation "𝕄" => MT nD τ sig Unit (Elt F) ℕ (UU nD τ) ℕ

variable (m : (ℓ : Loc nD τ sig) → Buf (Elt F) ℓ)

set_option backward.isDefEq.respectTransparency.types false in
theorem body_obligation (c : Dev nD) : BodyObligation (dats (F := F) m 0 c) (defs₀ (F := F)) 𝒱₀ () Set.univ := fun t => by
  show iprop((dats m 0 c).Φ t.castSucc ∗ (dats m 0 c).owesAt () t.castSucc
        ∗ bigSep Finset.univ fun w : Fin cfg0.W => iprop(∃ d, owns (c : Thread nD τ) ((cfg0.win w).stage (cfg0.slots t w)) fullShare ((dats m 0 c).before w t d)))
      ⊢ wp frame (wpE (defs₀ (F := F)) 𝒱₀ (c : Thread nD τ) none) Set.univ (defs₀ .tc cfg0.body (cfg0.bodyArgs t (cfg0.slots t))) fun _ =>
          iprop((dats m 0 c).Φ t.succ ∗ (dats m 0 c).owesAt () t.succ ∗ bigSep Finset.univ fun w : Fin cfg0.W => (dats m 0 c).leavesExact w t)
  rw [bigSep_W0, bigSep_W0]
  beta_reduce
  rw [show (dats m 0 c).Φ t.castSucc = iprop(ringP c (inp m c) t.val ∗ accB c (inp m c) t.val) from rfl,
    show (dats m 0 c).Φ t.succ = iprop(ringP c (inp m c) (t.val + 1) ∗ accB c (inp m c) (t.val + 1)) from rfl]
  unfold Dat.owesAt Pipeline.owesWithin
  rw [show (dats m 0 c).owed t.castSucc = 0 from rfl, show (dats m 0 c).owed t.succ = 0 from rfl]
  unfold owns
  iintro ⟨⟨HR, HA⟩, ⟨%W, -, HW⟩, ⟨%d0, %g0, %h0, H0⟩, ⟨%d1, %g1, %h1, H1⟩, ⟨%d2, %g2, %h2, H2⟩, ⟨%d3, %g3, %h3, H3⟩, ⟨%d4, %g4, %h4, H4⟩, ⟨%d5, %g5, %h5, H5⟩, ⟨%d6, %g6, %h6, H6⟩, ⟨%d7, %g7, %h7, H7⟩, ⟨%d8, %g8, %h8, H8⟩, ⟨%d9, %g9, %h9, H9⟩, ⟨%d10, %g10, %h10, H10⟩⟩
  have hI := inp_at m c t
  have hb := body_run c t (win0_0.stage (cfg0.slots t 0)) (hstage0_0 ((cfg0.slots t 0).cast nbuf0_0)) (win0_1.stage (cfg0.slots t 1)) (hstage0_1 ((cfg0.slots t 1).cast nbuf0_1))
    (win0_2.stage (cfg0.slots t 2)) (hstage0_2 ((cfg0.slots t 2).cast nbuf0_2)) (win0_3.stage (cfg0.slots t 3)) (hstage0_3 ((cfg0.slots t 3).cast nbuf0_3))
    (win0_4.stage (cfg0.slots t 4)) (hstage0_4 ((cfg0.slots t 4).cast nbuf0_4)) (win0_5.stage (cfg0.slots t 5)) (hstage0_5 ((cfg0.slots t 5).cast nbuf0_5))
    (win0_6.stage (cfg0.slots t 6)) (hstage0_6 ((cfg0.slots t 6).cast nbuf0_6)) (win0_7.stage (cfg0.slots t 7)) (hstage0_7 ((cfg0.slots t 7).cast nbuf0_7))
    (win0_8.stage (cfg0.slots t 8)) (hstage0_8 ((cfg0.slots t 8).cast nbuf0_8)) (win0_9.stage (cfg0.slots t 9)) (hstage0_9 ((cfg0.slots t 9).cast nbuf0_9))
    (win0_10.stage (cfg0.slots t 10)) (hstage0_10 ((cfg0.slots t 10).cast nbuf0_10))
    (Memref.whole cc0_scratch0) (Memref.isWhole_whole _) (Memref.whole cc0_scratch2) (Memref.isWhole_whole _) (Memref.whole cc0_scratch3) (Memref.isWhole_whole _)
    (jof (t.val + 46)) (dyAt (inp m c) (t.val - 2)) (dyAt (inp m c) (t.val - 47)) (inp m c t.val)
    ⟨(stateV (inp m c) (t.val - 1)).dx, dyAt (inp m c) (t.val - 48), (stateV (inp m c) (t.val - 1)).sm⟩ g0 g1
    (by rw [hI]; rfl) (by rw [hI]; rfl)
    (by rw [hI]; exact congrArg (the1 (F := F)) (h0.trans (before_w0 m c t d0)).symm)
    (by rw [hI]; exact congrArg (the1 (F := F)) (h1.trans (before_w1 m c t d1)).symm)
    g6 g7 g8 g9 g10 W
  rw [stateV_step (inp m c) t.val] at hb
  sl_rw [prog_eq t]
  iapply hb
  ihave HR' := (ring_open c (inp m c) t) $$ HR
  icases HR' with ⟨HP, HSc, HH, HK⟩
  isplitl [H0 H1 H2 H3 H4 H5]
  · unfold inP
    isplitl [H0]; · iexact H0
    isplitl [H1]; · iexact H1
    iexists g2, g3, g4, g5
    isplitl [H2]; · iexact H2
    isplitl [H3]; · iexact H3
    isplitl [H4]; · iexact H4
    isplitl [H5]; · iexact H5
    ipureintro
    rw [hI]
    exact ⟨h2.trans (before_w2 m c t d2), h3.trans (before_w3 m c t d3), h4.trans (before_w4 m c t d4), h5.trans (before_w5 m c t d5)⟩
  isplitl [HP]; · iexact HP
  isplitl [HSc]; · iexact HSc
  isplitl [HH]; · iexact HH
  isplitl [HA]; · iapply (show accB c (inp m c) t.val ⊢ accPre c t (Memref.whole cc0_scratch0) (Memref.whole cc0_scratch2) (Memref.whole cc0_scratch3)
      ⟨(stateV (inp m c) (t.val - 1)).dx, dyAt (inp m c) (t.val - 48), (stateV (inp m c) (t.val - 1)).sm⟩ from .rfl); iexact HA
  isplitl [H6]; · iexact H6
  isplitl [H7]; · iexact H7
  isplitl [H8]; · iexact H8
  isplitl [H9]; · iexact H9
  isplitl [H10]; · iexact H10
  isplitl [HW]; · iexact HW
  iintro %r ⟨HI, HS, HT, HL, HC, ⟨%f17, H17⟩, HA, HB, HO, ⟨%W', HW⟩⟩
  isplitl [HK HS HT HL HC HB H17 HA]
  · isplitl [HK HS HT HL HC HB]
    · iapply (ring_close c (inp m c) t (dyAt (inp m c) (t.val - 48)))
      isplitl [HK]; · iexact HK
      isplitl [HS]; · iexact HS
      isplitl [HT]; · iexact HT
      isplitl [HL]; · iexact HL
      isplitl [HC]; · iexact HC
      iexact HB
    unfold accP accB
    icases HA with ⟨%f15, %f18, H15, H18, %h⟩
    iexists f15, f17, f18
    isplitl [H15]; · iexact H15
    isplitl [H17]; · iexact H17
    isplitl [H18]; · iexact H18
    ipureintro
    exact fun _ => h
  isplitl [HW]
  · iexists W'; isplitr; · ipureintro; exact fun _ _ => Or.inl trivial
    iexact HW
  unfold inP
  icases HI with ⟨H0, H1, ⟨%g2', %g3', %g4', %g5', H2, H3, H4, H5, %hr⟩⟩
  unfold outsP
  icases HO with ⟨O6, O7, O8, O9, O10⟩
  rw [hI] at hr
  isplitl [H0]; · iapply (in_window m c t 0 rfl g0 ((h0.trans (before_w0 m c t d0)).trans (after_w0 m c t).symm)); iexact H0
  isplitl [H1]; · iapply (in_window m c t 1 rfl g1 ((h1.trans (before_w1 m c t d1)).trans (after_w1 m c t).symm)); iexact H1
  isplitl [H2]; · iapply (in_window m c t 2 rfl g2' (hr.1.trans (after_w2 m c t).symm)); iexact H2
  isplitl [H3]; · iapply (in_window m c t 3 rfl g3' (hr.2.1.trans (after_w3 m c t).symm)); iexact H3
  isplitl [H4]; · iapply (in_window m c t 4 rfl g4' (hr.2.2.1.trans (after_w4 m c t).symm)); iexact H4
  isplitl [H5]; · iapply (in_window m c t 5 rfl g5' (hr.2.2.2.trans (after_w5 m c t).symm)); iexact H5
  isplitl [O6]
  · iapply (out_window m c t 6 (t.val % 48 = 47) (idle_cond8 t 6 (by decide)) (fun h => Bool.eq_false_iff.mpr (mt (flush0_6 t).mp h)) d6 g6 h6)
    iexact O6
  isplitl [O7]
  · iapply (out_window m c t 7 (t.val % 48 = 47) (idle_cond8 t 7 (by decide)) (fun h => Bool.eq_false_iff.mpr (mt (flush0_7 t).mp h)) d7 g7 h7)
    rw [hI]; iexact O7
  isplitl [O8]
  · iapply (out_window m c t 8 (iof t.val = 11) (idle_cond7 t) (fun h => Bool.eq_false_iff.mpr (mt (flush0_8 t).mp h)) d8 g8 h8)
    rw [hI]; iexact O8
  isplitl [O9]
  · iapply (out_window m c t 9 (t.val % 48 = 47) (idle_cond8 t 9 (by decide)) (fun h => Bool.eq_false_iff.mpr (mt (flush0_9 t).mp h)) d9 g9 h9)
    iexact O9
  · iapply (out_window m c t 10 (t.val % 48 = 47) (idle_cond8 t 10 (by decide)) (fun h => Bool.eq_false_iff.mpr (mt (flush0_10 t).mp h)) d10 g10 h10)
    iexact O10

end Cert.Proof.Ideal

end
-- ==== Proof.Ideal.Launch.lean ====
/-
  THE LAUNCH: every execution of the program terminates, with the windows' arrays at what was written back, the
  arguments as launched and every semaphore at zero.
-/
module

public import proofs.«01_k».proof.Proof.Ideal.Oblig

@[expose] public section

set_option maxRecDepth 8192
set_option maxHeartbeats 4000000

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
open Idealize.ShloMosaic.Pipeline (Dat Cfg Window BodyObligation cellOf)
local notation "𝕄" => MT nD τ sig Unit (Elt F) ℕ (UU nD τ) ℕ

variable (m : (ℓ : Loc nD τ sig) → Buf (Elt F) ℓ) (ρ : Dev nD → PrngReg)

def u₀ : UU nD τ := (Rounds.initOf (Pipeline.cells cfgs cellOf_inj) (Pipeline.launchToks cfgs cellOf_inj), 1)
/-- Held from the launch to the first point: the accumulator's column blocks and the semaphores at zero. -/
def intoP (c : Dev nD) : sProp 𝕄 := iprop(bigSep Finset.univ (fun j => iprop(∃ g, homeP c j g)) ∗ Pipeline.ownSems0 osem c)
/-- Held beside the pipeline: the arguments no window stages. -/
def besideP (c : Dev nD) : sProp 𝕄 :=
  iprop((((c : Thread nD τ).loc main_arg1) ↦{fullShare} V m c main_arg1) ∗ (((c : Thread nD τ).loc main_arg3) ↦{fullShare} V m c main_arg3)
    ∗ (((c : Thread nD τ).loc main_arg4) ↦{fullShare} V m c main_arg4) ∗ (((c : Thread nD τ).loc main_arg5) ↦{fullShare} V m c main_arg5))
def QY (c : Dev nD) (s : MemSt nD τ sig (Elt F)) : Prop :=
  s.mem ((c : Thread nD τ).loc main_arg1) = V m c main_arg1 ∧ s.mem ((c : Thread nD τ).loc main_arg3) = V m c main_arg3
    ∧ s.mem ((c : Thread nD τ).loc main_arg4) = V m c main_arg4 ∧ s.mem ((c : Thread nD τ).loc main_arg5) = V m c main_arg5
def finalA (c : Dev nD) (w : Fin cfg0.W) : Buf (Elt F) ((cfg0.win w).arr.view.loc (c : Thread nD τ)) := (dats m 0 c).arrAt w cfg0.N
def QC : PUnit × MemSt nD τ sig (Elt F) → Prop := fun r =>
  ∀ c : Dev nD, (∀ w : Fin cfg0.W, r.2.mem ((cfg0.win w).arr.view.loc (c : Thread nD τ)) = finalA m c w) ∧ QY m c r.2

theorem first_phi (c : Dev nD) : iprop(intoP c ∗ Pipeline.scopedRest spec0 c) ⊢ PhiP m c 0 := by
  rw [scopedRest0_eq]
  unfold intoP PhiP; rw [ownSems0_eq]
  iintro ⟨⟨HB, L0, L1, L2, T0, T1, T2⟩, ⟨%f15, H15⟩, H16, ⟨%f17, H17⟩, ⟨%f18, H18⟩⟩
  ihave Hs := (ring_split c) $$ H16
  isplitl [HB Hs L0 L1 L2 T0 T1 T2]
  · iapply (ring_first c (inp m c))
    isplitl [HB]; · iexact HB
    unfold restP
    isplitl [Hs]; · iexact Hs
    isplitl [L0]; · iexact L0
    isplitl [L1]; · iexact L1
    isplitl [L2]; · iexact L2
    isplitl [T0]; · iexact T0
    isplitl [T1]; · iexact T1
    iexact T2
  unfold accB
  rw [Memref.view_whole, Memref.view_whole, Memref.view_whole, View.set_whole, View.set_whole, View.set_whole]
  iexists f15, f17, f18
  isplitl [H15]; · iexact H15
  isplitl [H17]; · iexact H17
  isplitl [H18]; · iexact H18
  ipureintro; intro h; exact absurd rfl h

theorem last_phi (c : Dev nD) : PhiP m c 1152 ⊢ (iprop(emp ∗ Pipeline.ownSems0 osem c ∗ Pipeline.scopedRest spec0 c) : sProp 𝕄) := by
  rw [scopedRest0_eq]
  unfold PhiP; rw [ownSems0_eq]
  unfold accB
  rw [Memref.view_whole, Memref.view_whole, Memref.view_whole, View.set_whole, View.set_whole, View.set_whole]
  iintro ⟨HR, ⟨%f15, %f17, %f18, H15, H17, H18, -⟩⟩
  ihave H := (ring_last c (inp m c)) $$ HR
  unfold restP
  icases H with ⟨Hs, L0, L1, L2, T0, T1, T2⟩
  isplitr; · iempintro
  isplitl [L0 L1 L2 T0 T1 T2]
  · isplitl [L0]; · iexact L0
    isplitl [L1]; · iexact L1
    isplitl [L2]; · iexact L2
    isplitl [T0]; · iexact T0
    isplitl [T1]; · iexact T1
    iexact T2
  isplitl [H15]; · iexists f15; iexact H15
  isplitl [Hs]; · iapply (ring_join c); iexact Hs
  isplitl [H17]; · iexists f17; iexact H17
  iexists f18; iexact H18

set_option backward.isDefEq.respectTransparency.types false in
theorem run_main : θ_run defs (onTc (τ := τ) (main (F := F))) ⟨m, fun _ => 0, ρ⟩ (fun r => QC m r ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := Pipeline.hmain_prefix cfgs 0 defs₀ 𝒱₀ m main hostOps0 hostOps0_sub hostOps0_fresh main_chain)
    (hA := fun _ _ => rfl)
    (X := intoP) (Y := fun _ => iprop(emp)) (Z := besideP m)
    (hX := fun c => by
      rw [unscopedRest0_eq]
      unfold intoP besideP
      iintro ⟨⟨H1, H3, H4, H5, -, HB⟩, HS, -, -, -⟩; imodintro
      isplitl [HB HS]
      · isplitl [HB]; · iapply (acc_split c); iexact HB
        iexact HS
      isplitl [H1]; · iexact H1
      isplitl [H3]; · iexact H3
      isplitl [H4]; · iexact H4
      iexact H5)
    (hin := fun c => first_phi m c)
    (hout := fun c => by
      rw [show (dats m 0 c).Φ (Fin.last cfg0.N) = PhiP m c 1152 from congrArg (PhiP m c) N_0]
      exact last_phi m c)
    (QY := QY m)
    (hY := fun c s' => by
      unfold besideP
      iintro ⟨-, ⟨H1, H3, H4, H5⟩, HSI⟩
      icombine HSI H1 gives %h1
      icombine HSI H3 gives %h3
      icombine HSI H4 gives %h4
      icombine HSI H5 gives %h5
      imodintro
      isplitr
      · ipureintro
        exact ⟨Buf.eq_of_forall_mem_univ h1, Buf.eq_of_forall_mem_univ h3, Buf.eq_of_forall_mem_univ h4, Buf.eq_of_forall_mem_univ h5⟩
      iexact HSI)
    (hQ := fun _ hh hz => ⟨hh, hz⟩)

/-- The arguments after the run are as launched. -/
theorem args_kept (c : Dev nD) (s : MemSt nD τ sig (Elt F)) (hw : ∀ w : Fin cfg0.W, s.mem ((cfg0.win w).arr.view.loc (c : Thread nD τ)) = finalA m c w) (hy : QY m c s) :
    s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5) :=
  ⟨(hw 2).trans (((dats m 0 c).arrAt_in 2 rfl _).trans (V_main_arg0 m c)), hy.1.trans (V_main_arg1 m c),
    (hw 3).trans (((dats m 0 c).arrAt_in 3 rfl _).trans (V_main_arg2 m c)), hy.2.1.trans (V_main_arg3 m c),
    hy.2.2.1.trans (V_main_arg4 m c), hy.2.2.2.trans (V_main_arg5 m c)⟩

/-- At any float values, the frame. -/
theorem frame_any :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ hh => ⟨fun c => args_kept m c _ (hh.1 c).1 (hh.1 c).2, hh.2⟩) (run_main m ρ)

end Cert.Proof.Ideal

end
-- ==== Proof.Value.Math.lean ====
/-
  THE MATHEMATICS OF THE RESULTS, over the extended reals and apart from both programs. The rows are numbered by natural
  numbers, so that a block of rows is a stretch of numbers; the two functions of one logit are the loss and the slope.
-/
module

public import Idealize.ShloMosaic.PureOps.Ideal
public import Idealize.ShloMosaic.PureOps.IdealRules
public import Idealize.ShloMosaic.Lib.Pointwise

@[expose] public section

set_option maxRecDepth 16384

noncomputable section

namespace Cert.Proof.Value

open Idealize.ShloMosaic

/-- What the results depend on: the two numbers, the embeddings row by row, their scales. -/
structure Args where
  t : EReal
  b : EReal
  X : ℕ → ℕ → Fin 1536 → EReal
  Y : ℕ → ℕ → Fin 1536 → EReal
  xs : ℕ → ℕ → EReal
  ys : ℕ → ℕ → EReal

/-- The loss of a logit, and its slope. -/
def spOf (z : EReal) : EReal := Ideal.log (1 + Ideal.exp z)
def pOf (z : EReal) : EReal := Ideal.div (Ideal.exp z) (1 + Ideal.exp z)

/-- One over the number of rows. -/
abbrev invS : EReal := ((1 / 24576 : ℝ) : EReal)

namespace Args
variable (A : Args) (n i j : ℕ)

/-- The scaled product of row `i` of `x` and row `j` of `y`; the logit, negated on the diagonal; the slope. -/
def a : EReal := (∑ d, A.Y n j d * A.X n i d) * (A.t * A.xs n i) * A.ys n j
def z : EReal := if i = j then 0 - (A.a n i j + A.b) else A.a n i j + A.b
def g : EReal := if i = j then 0 - pOf (A.z n i j) else pOf (A.z n i j)

/-- The summands of the five results. -/
def lossT : EReal := spOf (A.z n i j)
def dtT : EReal := A.g n i j * A.a n i j
def dxT (d : Fin 1536) : EReal := A.g n i j * (A.ys n j * invS) * A.Y n j d
def dyT (d : Fin 1536) : EReal := A.g n i j * (A.xs n i * invS) * A.X n i d

/-- The five results. -/
def loss : EReal := ∑ j ∈ Finset.range 24576, A.lossT n i j
def dt : EReal := (∑ j ∈ Finset.range 24576, A.dtT n i j) * invS
def db : EReal := (∑ j ∈ Finset.range 24576, A.g n i j) * invS
def dx (d : Fin 1536) : EReal := A.t * ∑ j ∈ Finset.range 24576, A.dxT n i j d
def dy (d : Fin 1536) : EReal := A.t * ∑ i ∈ Finset.range 24576, A.dyT n i j d

end Args

/-! ## One logit -/

theorem exp_coe (r : ℝ) : Ideal.exp (r : EReal) = (Real.exp r : EReal) := rfl
theorem exp_bot : Ideal.exp ⊥ = 0 := rfl
theorem exp_top : Ideal.exp ⊤ = ⊤ := rfl
theorem log_top : Ideal.log ⊤ = ⊤ := rfl
theorem log_pos (r : ℝ) (h : 0 < r) : Ideal.log (r : EReal) = (Real.log r : EReal) := if_neg (not_le.mpr h)
theorem log_one : Ideal.log 1 = 0 := (log_pos 1 one_pos).trans (by rw [Real.log_one, EReal.coe_zero])
theorem coe_max (r s : ℝ) : ((max r s : ℝ) : EReal) = max (r : EReal) (s : EReal) := EReal.coe_strictMono.monotone.map_max
theorem sp_coe (r : ℝ) : Ideal.log (1 + Ideal.exp ((r : ℝ) : EReal)) = ((Real.log (1 + Real.exp r) : ℝ) : EReal) := by
  have h : (0 : ℝ) < 1 + Real.exp r := by positivity
  rw [exp_coe, ← EReal.coe_one, ← EReal.coe_add, log_pos _ h]

/-- The two-sided form of the loss of a logit. -/
theorem sp_two_sided (z : EReal) : max z 0 + Ideal.log (1 + Ideal.exp (-max z (-z))) = spOf z := by
  unfold spOf
  induction z with
  | bot => rw [EReal.neg_bot, max_eq_right bot_le, max_eq_right bot_le, EReal.neg_top, exp_bot, add_zero, log_one, add_zero]
  | top => rw [max_eq_left le_top, max_eq_left le_top, EReal.neg_top, exp_bot, add_zero, log_one, add_zero, exp_top,
      EReal.add_top_of_ne_bot (by decide), log_top]
  | coe r =>
    rw [← EReal.coe_neg, ← coe_max, ← EReal.coe_neg, ← EReal.coe_zero, ← coe_max, sp_coe, sp_coe, ← EReal.coe_add]
    congr 1
    rcases le_total 0 r with h | h
    · rw [max_eq_left h, max_eq_left (by linarith)]
      have : 1 + Real.exp r = Real.exp r * (1 + Real.exp (-r)) := by
        rw [mul_add, mul_one, ← Real.exp_add, add_neg_cancel, Real.exp_zero, add_comm]
      rw [this, Real.log_mul (Real.exp_ne_zero _) (by positivity), Real.log_exp]
    · rw [max_eq_right h, max_eq_right (by linarith), neg_neg, zero_add]

/-- The form with the two far branches: one is never taken, the other adds nothing. -/
theorem sp_far (z w : EReal) : (if Ideal.exp z < ⊥ then w else Ideal.log (1 + Ideal.exp z)) + max (z - ⊤) 0 = spOf z := by
  rw [if_neg not_lt_bot, sub_eq_add_neg, EReal.neg_top, EReal.add_bot, max_eq_right bot_le, add_zero]
  rfl

theorem div_coe_of_pos (r s : ℝ) (h : 0 < s) : Ideal.div (r : EReal) (s : EReal) = ((r / s : ℝ) : EReal) := by
  unfold Ideal.div
  rw [if_neg (by rw [← EReal.coe_zero, EReal.coe_eq_coe_iff]; exact h.ne'), ← EReal.coe_inv, ← EReal.coe_mul, div_eq_mul_inv]

/-- At a real logit the slope, on the diagonal or off it, is the sigmoid of the logit less one on the diagonal. -/
theorem slope_of_real (l : ℝ) (diag : Prop) [Decidable diag] :
    (if diag then 0 - pOf (0 - (l : EReal)) else pOf (l : EReal))
      = Ideal.logistic (l : EReal) - (if diag then 1 else 0) := by
  have hp (r : ℝ) : pOf (r : EReal) = ((Real.exp r / (1 + Real.exp r) : ℝ) : EReal) := by
    unfold pOf
    rw [exp_coe, ← EReal.coe_one, ← EReal.coe_add, div_coe_of_pos _ _ (by positivity)]
  have hs : Ideal.logistic (l : EReal) = ((1 / (1 + Real.exp (-l)) : ℝ) : EReal) := by
    rw [Ideal.logistic, ← EReal.coe_neg, exp_coe, ← EReal.coe_one, ← EReal.coe_add, div_coe_of_pos _ _ (by positivity)]
  rw [hs]
  split
  · rw [← EReal.coe_zero, ← EReal.coe_sub, hp, ← EReal.coe_one, ← EReal.coe_sub, ← EReal.coe_sub, zero_sub, zero_sub]
    congr 1
    have : (1 + Real.exp (-l)) ≠ 0 := by positivity
    field_simp
    ring
  · rw [hp, sub_zero, Real.exp_neg]
    congr 1
    have := Real.exp_pos l
    field_simp
    ring

/-! ## Sums -/

theorem sum_mul_real {ι : Type} (s : Finset ι) (f : ι → EReal) (c : EReal) (h0 : 0 ≤ c) (h1 : c ≠ ⊤) :
    (∑ k ∈ s, f k) * c = ∑ k ∈ s, f k * c := by
  classical
  induction s using Finset.induction_on with
  | empty => simp
  | insert k s hk ih => rw [Finset.sum_insert hk, Finset.sum_insert hk, EReal.right_distrib_of_nonneg_of_ne_top h0 h1, ih]

theorem invS_nonneg : 0 ≤ invS := EReal.coe_nonneg.mpr (by norm_num)
theorem invS_ne_top : invS ≠ ⊤ := EReal.coe_ne_top _

/-- A sum over eight times as many numbers, taken by remainder. -/
theorem sum_by_eight (f : ℕ → EReal) (n : ℕ) :
    ∑ s ∈ Finset.range 8, ∑ r ∈ Finset.range n, f (r * 8 + s) = ∑ j ∈ Finset.range (n * 8), f j := by
  rw [Finset.sum_comm]
  induction n with
  | zero => simp
  | succ n ih => rw [Finset.sum_range_succ, ih, Nat.succ_mul, Finset.sum_range_add]

/-- The number of rows as the programs spell it, and the division by it. -/
theorem ofBits_rows : Ideal.ofBits .f32 0x46C00000#32 = ((24576 : ℝ) : EReal) := by
  simp [Ideal.ofBits, Ideal.ieee, -EReal.coe_mul]; norm_num
theorem div_rows (x : EReal) : Ideal.div x ((24576 : ℝ) : EReal) = x * invS := by
  unfold Ideal.div
  rw [if_neg (by rw [← EReal.coe_zero, EReal.coe_eq_coe_iff]; norm_num), ← EReal.coe_inv, ← one_div]

end Cert.Proof.Value

end
-- ==== Proof.Value.Tile.lean ====
/-
  THE TILES OF ONE TRIP, AT AN INDEX. What the payloads of a trip compute, read at one element over the extended reals.
-/
module

public import proofs.«01_k».proof.Proof.Ideal.Vals
public import proofs.«01_k».proof.Proof.Value.Math

@[expose] public section

set_option maxRecDepth 16384

noncomputable section

namespace Cert.Proof.Value

open Cert.KernelIdeal Cert.KernelIdeal.Gen Cert.Proof.Ideal
open Idealize.ShloMosaic
open Idealize.ShloMosaic.TcCoe

theorem trips_eq : k0_t1_loop.trips = 4 := by decide
theorem trip_lt (k : Fin k0_t1_loop.trips) : k.val < 4 := k.isLt
/-- Row `p` of trip `k`. -/
abbrev row (k : Fin k0_t1_loop.trips) (p : Fin 512) : Fin 2048 := ⟨512 * k.val + p.val, by have := trip_lt k; omega⟩

theorem off10_eq : ∀ k : Fin k0_t1_loop.trips, k0_off10 k = ![0, 512 * k.val, 0] := by decide
theorem off11_eq : ∀ k : Fin k0_t1_loop.trips, k0_off11 k = ![0, 0, 512 * k.val] := by decide
theorem off12_eq : ∀ k : Fin k0_t1_loop.trips, k0_off12 k = ![0, 0, 512 * k.val] := by decide
theorem off13_eq : ∀ k : Fin k0_t1_loop.trips, k0_off13 k = ![1, 0, 512 * k.val] := by decide
theorem off14_eq : ∀ k : Fin k0_t1_loop.trips, k0_off14 k = ![2, 0, 512 * k.val] := by decide
theorem off16_eq : ∀ k : Fin k0_t1_loop.trips, k0_off16 k = ![512 * k.val, 0] := by decide

variable (I : Inputs Ideal) (k : Fin k0_t1_loop.trips)

theorem xk_at (p : Fin 512) (d : Fin 1536) : xk I k (ix3 0 p d) = I.x (ix3 0 (row k p) d) := by
  show I.x _ = I.x _
  congr 1
  funext a; apply Fin.ext
  match a with
  | ⟨0, _⟩ => show k0_off10 k 0 + 1 * 0 = 0; rw [off10_eq]; rfl
  | ⟨1, _⟩ => show k0_off10 k 1 + 1 * p.val = 512 * k.val + p.val; rw [off10_eq, one_mul]; rfl
  | ⟨2, _⟩ => show k0_off10 k 2 + 1 * d.val = d.val; rw [off10_eq, one_mul]; exact Nat.zero_add _

theorem xsk_at (p : Fin 512) : xsk I k (ix3 0 0 p) = I.xs (ix3 0 0 (row k p)) := by
  show I.xs _ = I.xs _
  congr 1
  funext a; apply Fin.ext
  match a with
  | ⟨0, _⟩ => show k0_off11 k 0 + 1 * 0 = 0; rw [off11_eq]; rfl
  | ⟨1, _⟩ => show k0_off11 k 1 + 1 * 0 = 0; rw [off11_eq]; rfl
  | ⟨2, _⟩ => show k0_off11 k 2 + 1 * p.val = 512 * k.val + p.val; rw [off11_eq, one_mul]; rfl

theorem ysb_at (q : Fin 512) (l : Fin 128) : ysb I (ix2 q l) = I.ys (ix3 0 0 q) := by
  pointwise [k0_pay4]

theorem spread_at (v : Vec Ideal S512x128 .f32) (f : Fin 512 → Ideal .f32) (h : ∀ q l, v (ix2 q l) = f q) (q p : Fin 512) :
    k0_pay13 v (ix2 q p) = f q := by
  pointwise [k0_pay13, h]
  split_ifs <;> rfl

theorem prodT_at (q p : Fin 512) : prodT I k (ix2 q p)
    = (∑ d : Fin 1536, I.y (ix3 0 q d) * I.x (ix3 0 (row k p) d)) * (I.t * I.xs (ix3 0 0 (row k p))) * I.ys (ix3 0 0 q) := by
  have e := spread_at (ysb I) (fun q => I.ys (ix3 0 0 q)) (ysb_at I) q p
  unfold prodT k0_pay14
  pointwise [k0_pay10, k0_pay11, k0_pay12, e]
  rw [xsk_at]
  congr 2
  exact Finset.sum_congr rfl fun d _ => by rw [xk_at]

/-- The word comparison that tells the diagonal. -/
theorem diag_word {q p ii jj k : ℕ} (hq : q < 512) (hp : p < 512) (hi : ii < 12) (hj : jj < 48) (hk : k < 4) :
    BitVec.ofNat 32 q - BitVec.ofNat 32 p
        = BitVec.ofNat 32 ii * 2048#32 + BitVec.ofNat 32 k * 512#32 - BitVec.ofNat 32 jj * 512#32
      ↔ 2048 * ii + (512 * k + p) = 512 * jj + q := by
  rw [← BitVec.toNat_inj]
  simp only [BitVec.toNat_sub, BitVec.toNat_add, BitVec.toNat_mul, BitVec.toNat_ofNat]
  omega

/-- What point `(n, ii, jj)` reads: its blocks are stretches of the rows. -/
structure Reads (A : Args) (I : Inputs Ideal) (n ii jj : ℕ) : Prop where
  ii_lt : ii < 12
  jj_lt : jj < 48
  bi : I.bi = BitVec.ofNat 32 ii
  bj : I.bj = BitVec.ofNat 32 jj
  t : I.t = A.t
  b : I.b = A.b
  x : ∀ (p : Fin 2048) (d : Fin 1536), I.x (ix3 0 p d) = A.X n (2048 * ii + p.val) d
  y : ∀ (q : Fin 512) (d : Fin 1536), I.y (ix3 0 q d) = A.Y n (512 * jj + q.val) d
  xs : ∀ p : Fin 2048, I.xs (ix3 0 0 p) = A.xs n (2048 * ii + p.val)
  ys : ∀ q : Fin 512, I.ys (ix3 0 0 q) = A.ys n (512 * jj + q.val)

variable {A : Args} {I : Inputs Ideal} {n ii jj : ℕ} (R : Reads A I n ii jj) (k : Fin k0_t1_loop.trips)

include R

theorem prodT_eq (q p : Fin 512) : prodT I k (ix2 q p) = A.a n (2048 * ii + (row k p).val) (512 * jj + q.val) := by
  rw [prodT_at, R.t, R.xs, R.ys]
  unfold Args.a
  congr 2
  exact Finset.sum_congr rfl fun d _ => by rw [R.x, R.y]

theorem maskT_eq (q p : Fin 512) : maskT I k (ix2 q p)
    = BitVec.ofBool (decide (2048 * ii + (row k p).val = 512 * jj + q.val)) := by
  unfold maskT k0_pay15
  pointwise []
  rw [R.bi, R.bj]
  have hk := trip_lt k
  have e : Scf.iv (0#32) (1#32) k.val = BitVec.ofNat 32 k.val := by
    unfold Scf.iv; simp
  rw [e]
  exact congrArg BitVec.ofBool (decide_eq_decide.mpr (diag_word q.isLt p.isLt R.ii_lt R.jj_lt hk))

/-- The logit, negated on the diagonal. -/
abbrev zT (I : Inputs Ideal) (k : Fin k0_t1_loop.trips) : FVec Ideal S512x512 .f32 :=
  k0_pay16 I.bi I.bj I.t I.b 0#32 1#32 k (xk I k) I.y (xsk I k) (ysb I)

theorem zT_eq (q p : Fin 512) : zT I k (ix2 q p) = A.z n (2048 * ii + (row k p).val) (512 * jj + q.val) := by
  have ea := prodT_eq R k q p
  have em := maskT_eq R k q p
  unfold zT k0_pay16
  pointwise [ea, em]
  rw [R.b]
  rfl

theorem expT_eq (q p : Fin 512) : k0_pay17 I.bi I.bj I.t I.b 0#32 1#32 k (xk I k) I.y (xsk I k) (ysb I) (ix2 q p)
    = Ideal.exp (A.z n (2048 * ii + (row k p).val) (512 * jj + q.val)) := by
  have ez := zT_eq R k q p
  have hc : Named.named (F := Ideal) (φ := .f32) κ "exp_cap" 0x42A00000#32 = (⊤ : EReal) := IdealRules.named_const.ideal_named_scalar _ _ _ _ rfl
  unfold k0_pay17
  pointwise [ez, hc]
  exact congrArg Ideal.exp (min_eq_left le_top)

theorem lossT_eq (m : Vec Ideal S1x8x512 .f32) (s : Fin 8) (p : Fin 512) :
    k0_pay23 (zT I k)
          (k0_pay17 I.bi I.bj I.t I.b 0#32 1#32 k (xk I k) I.y (xsk I k) (ysb I))
          (k0_pay18 I.bi I.bj I.t I.b 0#32 1#32 k (xk I k) I.y (xsk I k) (ysb I))
          (k0_pay20 I.bi I.bj I.t I.b 0#32 1#32 k (xk I k) I.y (xsk I k) (ysb I))
          k0_pay21 m (ix3 0 s p)
      = m (ix3 0 s p) + ∑ r : Fin 64, A.lossT n (2048 * ii + (row k p).val) (512 * jj + (r.val * 8 + s.val)) := by
  have ez := zT_eq R k
  have ee := expT_eq R k
  have hc : Named.named (F := Ideal) (φ := .f32) κ "exp_cap" 0x42A00000#32 = (⊤ : EReal) := IdealRules.named_const.ideal_named_scalar _ _ _ _ rfl
  have hl : Named.named (F := Ideal) (φ := .f32) κ "log1p_small" 0x38D1B717#32 = (⊥ : EReal) := IdealRules.named_const.ideal_named_scalar _ _ _ _ rfl
  unfold k0_pay23
  pointwise [k0_pay18, k0_pay20, ez, ee, hc, hl]
  exact congrArg (m (ix3 0 s p) + ·) (Finset.sum_congr rfl fun r _ => sp_far _ _)

theorem sgT_eq (q p : Fin 512) : sgT I k (ix2 q p) = pOf (A.z n (2048 * ii + (row k p).val) (512 * jj + q.val)) := by
  have ee := expT_eq R k q p
  unfold sgT k0_pay19
  pointwise [k0_pay18, ee]
  rfl

theorem gT_eq (q p : Fin 512) : gT I k (ix2 q p) = A.g n (2048 * ii + (row k p).val) (512 * jj + q.val) := by
  have em := maskT_eq R k q p
  have es := sgT_eq R k q p
  unfold gT k0_pay22
  pointwise [em, es]
  rfl

theorem dtT_eq (m : Vec Ideal S1x8x512 .f32) (s : Fin 8) (p : Fin 512) :
    k0_pay24 (prodT I k) (maskT I k) (sgT I k) m (ix3 0 s p)
      = m (ix3 0 s p) + ∑ r : Fin 64, A.dtT n (2048 * ii + (row k p).val) (512 * jj + (r.val * 8 + s.val)) := by
  have ea := prodT_eq R k
  have eg : ∀ q p, k0_pay22 (maskT I k) (sgT I k) (ix2 q p) = _ := gT_eq R k
  unfold k0_pay24
  pointwise [ea, eg]
  rfl

theorem dbT_eq (m : Vec Ideal S1x8x512 .f32) (s : Fin 8) (p : Fin 512) :
    k0_pay5 (k0_pay25 (maskT I k) (sgT I k) m) (ix3 0 s p)
      = m (ix3 0 s p) + ∑ r : Fin 64, A.g n (2048 * ii + (row k p).val) (512 * jj + (r.val * 8 + s.val)) := by
  have eg : ∀ q p, k0_pay22 (maskT I k) (sgT I k) (ix2 q p) = _ := gT_eq R k
  unfold k0_pay5 k0_pay25
  pointwise [eg]

theorem dyT_eq (X : Tile Ideal) (q : Fin 512) (d : Fin 1536) : dyT I k X (ix2 q d)
    = X (ix2 q d) + ∑ p : Fin 512, A.dyT n (2048 * ii + (512 * k.val + p.val)) (512 * jj + q.val) d := by
  have eg := gT_eq R k
  have hs : Named.named (F := Ideal) (φ := .f32) κ "inv_s" 0x382AAAAB#32 = invS := IdealRules.named_const.ideal_named_scalar _ _ _ _ rfl
  unfold dyT k0_pay6
  pointwise [eg, hs, k0_pay10, k0_pay12]
  exact congrArg (X (ix2 q d) + ·) (Finset.sum_congr rfl fun p _ => by rw [xsk_at, xk_at, R.xs, R.x]; rfl)

theorem dxT_eq (v : Vec Ideal S512x1536 .f32) (p : Fin 512) (d : Fin 1536) :
    k0_pay7 (k0_pay11 I.y) (k0_pay13 (ysb I)) (gT I k) v (ix2 p d)
    = v (ix2 p d) + ∑ q : Fin 512, A.dxT n (2048 * ii + (row k p).val) (512 * jj + q.val) d := by
  have eg := gT_eq R k
  have es := spread_at (ysb I) (fun q => I.ys (ix3 0 0 q)) (ysb_at I)
  have hs : Named.named (F := Ideal) (φ := .f32) κ "inv_s" 0x382AAAAB#32 = invS := IdealRules.named_const.ideal_named_scalar _ _ _ _ rfl
  unfold k0_pay7
  pointwise [eg, hs, es, k0_pay11]
  exact congrArg (v (ix2 p d) + ·) (Finset.sum_congr rfl fun q _ => by rw [R.ys, R.y]; rfl)

end Cert.Proof.Value

end
-- ==== Proof.Value.Point.lean ====
/-
  ONE POINT, AT AN INDEX. The four trips of a point add to the rows of the running gradient of `x` and to the columns
  of the sums the terms of the point's column block, and to the tile of `y` the terms of its row block.
-/
module

public import proofs.«01_k».proof.Proof.Value.Tile

@[expose] public section

set_option maxRecDepth 16384

noncomputable section

namespace Cert.Proof.Value

open Cert.KernelIdeal Cert.KernelIdeal.Gen Cert.Proof.Ideal
open Idealize.ShloMosaic
open Idealize.ShloMosaic.TcCoe

/-! ## Windows of the sums and of the running gradient -/

section Windows
variable {α : Type}

theorem put3_in (m : S3x8x2048.Idx → α) (off : Fin 3 → ℕ) {c o : ℕ} (ho : off = ![c, 0, o]) (w : S1x8x512.Idx → α)
    (ch : Fin 3) (s : Fin 8) (r : Fin 2048) (p : Fin 512) (hc : ch.val = c) (hr : r.val = o + p.val) :
    VecWindow.put (s := S3x8x2048) m off S1x8x512.size w (ix3 ch s r) = w (ix3 0 s p) := by
  subst ho
  unfold VecWindow.put
  rw [dif_pos (fun a => match a with
    | ⟨0, _⟩ => (show c ≤ ch.val ∧ ch.val < c + 1 by omega)
    | ⟨1, _⟩ => (show 0 ≤ s.val ∧ s.val < 0 + 8 by omega)
    | ⟨2, _⟩ => (show o ≤ r.val ∧ r.val < o + 512 by omega))]
  congr 1
  funext a; apply Fin.ext
  match a with
  | ⟨0, _⟩ => show ch.val - c = 0; omega
  | ⟨1, _⟩ => show s.val - 0 = s.val; omega
  | ⟨2, _⟩ => show r.val - o = p.val; omega

theorem put3_out (m : S3x8x2048.Idx → α) (off : Fin 3 → ℕ) {c o : ℕ} (ho : off = ![c, 0, o]) (w : S1x8x512.Idx → α)
    (ch : Fin 3) (s : Fin 8) (r : Fin 2048) (h : ch.val ≠ c ∨ r.val < o ∨ o + 512 ≤ r.val) :
    VecWindow.put (s := S3x8x2048) m off S1x8x512.size w (ix3 ch s r) = m (ix3 ch s r) := by
  subst ho
  unfold VecWindow.put
  rw [dif_neg]
  intro H
  have h0 : c ≤ ch.val ∧ ch.val < c + 1 := H 0
  have h2 : o ≤ r.val ∧ r.val < o + 512 := H 2
  omega

theorem window3 (m : S3x8x2048.Idx → α) (off : Fin 3 → ℕ) {c o : ℕ} (ho : off = ![c, 0, o])
    (inb : ∀ a, off a + S1x8x512.size a ≤ S3x8x2048.size a)
    (ch : Fin 3) (s : Fin 8) (r : Fin 2048) (p : Fin 512) (hc : ch.val = c) (hr : r.val = o + p.val) :
    VecWindow.window (s := S3x8x2048) m off S1x8x512.size inb (ix3 0 s p) = m (ix3 ch s r) := by
  subst ho
  unfold VecWindow.window
  congr 1
  funext a; apply Fin.ext
  match a with
  | ⟨0, _⟩ => show c + 1 * 0 = ch.val; omega
  | ⟨1, _⟩ => show 0 + 1 * s.val = s.val; omega
  | ⟨2, _⟩ => show o + 1 * p.val = r.val; omega

theorem put2_in (m : S2048x1536.Idx → α) (off : Fin 2 → ℕ) {o : ℕ} (ho : off = ![o, 0]) (w : S512x1536.Idx → α)
    (r : Fin 2048) (d : Fin 1536) (p : Fin 512) (hr : r.val = o + p.val) :
    VecWindow.put (s := S2048x1536) m off S512x1536.size w (ix2 r d) = w (ix2 p d) := by
  subst ho
  unfold VecWindow.put
  rw [dif_pos (fun a => match a with
    | ⟨0, _⟩ => (show o ≤ r.val ∧ r.val < o + 512 by omega)
    | ⟨1, _⟩ => (show 0 ≤ d.val ∧ d.val < 0 + 1536 by omega))]
  congr 1
  funext a; apply Fin.ext
  match a with
  | ⟨0, _⟩ => show r.val - o = p.val; omega
  | ⟨1, _⟩ => show d.val - 0 = d.val; omega

theorem put2_out (m : S2048x1536.Idx → α) (off : Fin 2 → ℕ) {o : ℕ} (ho : off = ![o, 0]) (w : S512x1536.Idx → α)
    (r : Fin 2048) (d : Fin 1536) (h : r.val < o ∨ o + 512 ≤ r.val) :
    VecWindow.put (s := S2048x1536) m off S512x1536.size w (ix2 r d) = m (ix2 r d) := by
  subst ho
  unfold VecWindow.put
  rw [dif_neg]
  intro H
  have h0 : o ≤ r.val ∧ r.val < o + 512 := H 0
  omega

theorem window2 (m : S2048x1536.Idx → α) (off : Fin 2 → ℕ) {o : ℕ} (ho : off = ![o, 0])
    (inb : ∀ a, off a + S512x1536.size a ≤ S2048x1536.size a)
    (r : Fin 2048) (d : Fin 1536) (p : Fin 512) (hr : r.val = o + p.val) :
    VecWindow.window (s := S2048x1536) m off S512x1536.size inb (ix2 p d) = m (ix2 r d) := by
  subst ho
  unfold VecWindow.window
  congr 1
  funext a; apply Fin.ext
  match a with
  | ⟨0, _⟩ => show o + 1 * p.val = r.val; omega
  | ⟨1, _⟩ => show 0 + 1 * d.val = d.val; omega

end Windows

/-! ## One trip -/

/-- The term each of the three running sums adds up. -/
def Args.sumT (A : Args) (ch : Fin 3) (n i j : ℕ) : EReal :=
  if ch.val = 0 then A.lossT n i j else if ch.val = 1 then A.dtT n i j else A.g n i j

variable {A : Args} {I : Inputs Ideal} {n ii jj : ℕ} (R : Reads A I n ii jj)

include R

section Trip
variable (k : Fin k0_t1_loop.trips)

theorem smT_at (m : Vec Ideal S3x8x2048 .f32) (ch : Fin 3) (s : Fin 8) (r : Fin 2048) : smT I k m (ix3 ch s r)
    = if 512 * k.val ≤ r.val ∧ r.val < 512 * k.val + 512
      then m (ix3 ch s r) + ∑ x : Fin 64, A.sumT ch n (2048 * ii + r.val) (512 * jj + (x.val * 8 + s.val)) else m (ix3 ch s r) := by
  unfold smT
  by_cases h : 512 * k.val ≤ r.val ∧ r.val < 512 * k.val + 512
  · rw [if_pos h]
    obtain ⟨p, hp⟩ : ∃ p : Fin 512, r.val = 512 * k.val + p.val := ⟨⟨r.val - 512 * k.val, by omega⟩, by dsimp only; omega⟩
    have hr : r = row k p := Fin.ext hp
    by_cases h2 : ch.val = 2
    · rw [put3_in _ _ (off14_eq k) _ ch s r p h2 hp, dbT_eq R, window3 m _ (off14_eq k) _ ch s r p h2 hp, hr]
      simp only [Args.sumT, h2, OfNat.ofNat_ne_zero, OfNat.ofNat_ne_one, if_false]
    rw [put3_out _ _ (off14_eq k) _ ch s r (.inl h2)]
    by_cases h1 : ch.val = 1
    · rw [put3_in _ _ (off13_eq k) _ ch s r p h1 hp, dtT_eq R, window3 m _ (off13_eq k) _ ch s r p h1 hp, hr]
      simp only [Args.sumT, h1, one_ne_zero, if_false, if_true]
    rw [put3_out _ _ (off13_eq k) _ ch s r (.inl h1)]
    have h0 : ch.val = 0 := by omega
    rw [put3_in _ _ (off12_eq k) _ ch s r p h0 hp, lossT_eq R, window3 m _ (off12_eq k) _ ch s r p h0 hp, hr]
    simp only [Args.sumT, h0, if_true]
  · rw [if_neg h, put3_out _ _ (off14_eq k) _ ch s r (by omega), put3_out _ _ (off13_eq k) _ ch s r (by omega),
      put3_out _ _ (off12_eq k) _ ch s r (by omega)]

theorem dxT_at (m : Vec Ideal S2048x1536 .f32) (r : Fin 2048) (d : Fin 1536) : Ideal.dxT I k m (ix2 r d)
    = if 512 * k.val ≤ r.val ∧ r.val < 512 * k.val + 512
      then m (ix2 r d) + ∑ q : Fin 512, A.dxT n (2048 * ii + r.val) (512 * jj + q.val) d else m (ix2 r d) := by
  unfold Ideal.dxT
  by_cases h : 512 * k.val ≤ r.val ∧ r.val < 512 * k.val + 512
  · rw [if_pos h]
    obtain ⟨p, hp⟩ : ∃ p : Fin 512, r.val = 512 * k.val + p.val := ⟨⟨r.val - 512 * k.val, by omega⟩, by dsimp only; omega⟩
    have hr : r = row k p := Fin.ext hp
    rw [put2_in _ _ (off16_eq k) _ r d p hp, dxT_eq R, window2 m _ (off16_eq k) _ r d p hp, hr]
  · rw [if_neg h, put2_out _ _ (off16_eq k) _ r d (by omega)]

end Trip

/-! ## The four trips -/

theorem trips_sm (S : St Ideal) (ch : Fin 3) (s : Fin 8) (r : Fin 2048) (K : ℕ) (hK : K ≤ 4) : (tripsV I S K).sm (ix3 ch s r)
    = if r.val < 512 * K
      then S.sm (ix3 ch s r) + ∑ x : Fin 64, A.sumT ch n (2048 * ii + r.val) (512 * jj + (x.val * 8 + s.val)) else S.sm (ix3 ch s r) := by
  induction K with
  | zero => rw [if_neg (by omega)]; rfl
  | succ K ih =>
    rw [show tripsV I S (K + 1) = tripV I ⟨K, hK⟩ (tripsV I S K) from tripsV_succ I S ⟨K, hK⟩]
    refine (smT_at R ⟨K, hK⟩ _ ch s r).trans ?_
    rw [ih (by omega)]
    dsimp only
    split_ifs <;> first | rfl | omega

theorem trips_dx (S : St Ideal) (r : Fin 2048) (d : Fin 1536) (K : ℕ) (hK : K ≤ 4) : (tripsV I S K).dx (ix2 r d)
    = if r.val < 512 * K
      then S.dx (ix2 r d) + ∑ q : Fin 512, A.dxT n (2048 * ii + r.val) (512 * jj + q.val) d else S.dx (ix2 r d) := by
  induction K with
  | zero => rw [if_neg (by omega)]; rfl
  | succ K ih =>
    rw [show tripsV I S (K + 1) = tripV I ⟨K, hK⟩ (tripsV I S K) from tripsV_succ I S ⟨K, hK⟩]
    refine (dxT_at R ⟨K, hK⟩ _ r d).trans ?_
    rw [ih (by omega)]
    dsimp only
    split_ifs <;> first | rfl | omega

theorem trips_dy (S : St Ideal) (q : Fin 512) (d : Fin 1536) (K : ℕ) (hK : K ≤ 4) : (tripsV I S K).dy (ix2 q d)
    = S.dy (ix2 q d) + ∑ i ∈ Finset.range (512 * K), A.dyT n (2048 * ii + i) (512 * jj + q.val) d := by
  induction K with
  | zero => rw [Nat.mul_zero, Finset.sum_range_zero, add_zero]; rfl
  | succ K ih =>
    rw [show tripsV I S (K + 1) = tripV I ⟨K, hK⟩ (tripsV I S K) from tripsV_succ I S ⟨K, hK⟩]
    refine (dyT_eq R ⟨K, hK⟩ _ q d).trans ?_
    rw [ih (by omega), Nat.mul_succ, Finset.sum_range_add, ← add_assoc, Finset.sum_range (fun x => A.dyT n (2048 * ii + (512 * K + x)) (512 * jj + q.val) d)]

/-- What a point adds. -/
theorem point_sm (S : St Ideal) (ch : Fin 3) (s : Fin 8) (r : Fin 2048) : (pointV I S).sm (ix3 ch s r)
    = S.sm (ix3 ch s r) + ∑ x ∈ Finset.range 64, A.sumT ch n (2048 * ii + r.val) (512 * jj + (x * 8 + s.val)) := by
  refine (trips_sm R S ch s r 4 le_rfl).trans ?_
  rw [if_pos r.isLt, Finset.sum_range]
theorem point_dx (S : St Ideal) (r : Fin 2048) (d : Fin 1536) : (pointV I S).dx (ix2 r d)
    = S.dx (ix2 r d) + ∑ q ∈ Finset.range 512, A.dxT n (2048 * ii + r.val) (512 * jj + q) d := by
  refine (trips_dx R S r d 4 le_rfl).trans ?_
  rw [if_pos r.isLt, Finset.sum_range]
theorem point_dy (S : St Ideal) (q : Fin 512) (d : Fin 1536) : (pointV I S).dy (ix2 q d)
    = S.dy (ix2 q d) + ∑ i ∈ Finset.range 2048, A.dyT n (2048 * ii + i) (512 * jj + q.val) d :=
  trips_dy R S q d 4 le_rfl

end Cert.Proof.Value

end
-- ==== Proof.Value.State.lean ====
/-
  THE STATE AFTER EVERY POINT, AT AN INDEX: the running sums and the gradient of `x` hold the terms of the column
  blocks reached so far, the tile of `y` those of the row blocks reached so far.
-/
module

public import proofs.«01_k».proof.Proof.Value.Point

@[expose] public section

set_option maxRecDepth 16384

noncomputable section

namespace Cert.Proof.Value

open Cert.KernelIdeal Cert.KernelIdeal.Gen Cert.Proof.Ideal
open Idealize.ShloMosaic
open Idealize.ShloMosaic.TcCoe

theorem zeros2 (j) : (k0_pay2 (F := Ideal)) j = 0 := by
  unfold k0_pay2
  rw [← ix2_eta j]
  pointwise []
theorem zeros3 (j) : (k0_pay3 (F := Ideal)) j = 0 := by
  unfold k0_pay3
  rw [← ix3_eta j]
  pointwise []
theorem zerosDn (q : Fin 512) (d : Fin 1536) : dn (F := Ideal) (k0_pay1 (F := Ideal)) (ix2 q d) = 0 := by
  unfold k0_pay1
  pointwise []

variable {A : Args} {inp : ℕ → Inputs Ideal} (H : ∀ n < 1152, Reads A (inp n) (n / 576) (n / 48 % 12) (n % 48))

include H

theorem state_sm (ch : Fin 3) (s : Fin 8) (r : Fin 2048) (n : ℕ) (hn : n < 1152) : (stateV inp n).sm (ix3 ch s r)
    = ∑ x ∈ Finset.range (64 * (n % 48 + 1)), A.sumT ch (n / 576) (2048 * (n / 48 % 12) + r.val) (x * 8 + s.val) := by
  induction n using Nat.strong_induction_on with
  | _ n ih =>
    rw [stateV, point_sm (H _ hn)]
    dsimp only
    by_cases h : n % 48 = 0
    · rw [dif_pos h, zeros3, zero_add, h]
      refine Finset.sum_congr rfl fun x hx => ?_
      congr 1; omega
    · rw [dif_neg h, ih (n - 1) (by omega) (by omega), Nat.mul_add_one 64 (n % 48), Finset.sum_range_add,
        show 64 * ((n - 1) % 48 + 1) = 64 * (n % 48) by omega, show (n - 1) / 576 = n / 576 by omega,
        show (n - 1) / 48 % 12 = n / 48 % 12 by omega]
      congr 1
      refine Finset.sum_congr rfl fun x hx => ?_
      congr 1; omega

theorem state_dx (r : Fin 2048) (d : Fin 1536) (n : ℕ) (hn : n < 1152) : (stateV inp n).dx (ix2 r d)
    = ∑ x ∈ Finset.range (512 * (n % 48 + 1)), A.dxT (n / 576) (2048 * (n / 48 % 12) + r.val) x d := by
  induction n using Nat.strong_induction_on with
  | _ n ih =>
    rw [stateV, point_dx (H _ hn)]
    dsimp only
    by_cases h : n % 48 = 0
    · rw [dif_pos h, zeros2, zero_add, h]
      refine Finset.sum_congr rfl fun x hx => ?_
      congr 1; omega
    · rw [dif_neg h, ih (n - 1) (by omega) (by omega), Nat.mul_add_one 512 (n % 48), Finset.sum_range_add,
        show 512 * ((n - 1) % 48 + 1) = 512 * (n % 48) by omega, show (n - 1) / 576 = n / 576 by omega,
        show (n - 1) / 48 % 12 = n / 48 % 12 by omega]

theorem state_dy (q : Fin 512) (d : Fin 1536) (n : ℕ) (hn : n < 1152) : (stateV inp n).dy (ix2 q d)
    = ∑ x ∈ Finset.range (2048 * (n / 48 % 12 + 1)), A.dyT (n / 576) x (512 * (n % 48) + q.val) d := by
  induction n using Nat.strong_induction_on with
  | _ n ih =>
    rw [stateV, point_dy (H _ hn)]
    dsimp only
    by_cases h : n / 48 % 12 = 0
    · rw [dif_pos h, zerosDn, zero_add, h]
      refine Finset.sum_congr rfl fun x hx => ?_
      congr 1; omega
    · rw [dif_neg h, ih (n - 48) (by omega) (by omega), Nat.mul_add_one 2048 (n / 48 % 12), Finset.sum_range_add,
        show 2048 * ((n - 48) / 48 % 12 + 1) = 2048 * (n / 48 % 12) by omega, show (n - 48) / 576 = n / 576 by omega,
        show (n - 48) % 48 = n % 48 by omega]

end Cert.Proof.Value

end
-- ==== Proof.Value.Read.lean ====
/-
  WHAT THE POINTS READ: the numbers the two programs' results are functions of, as arrays, and that every point of the
  kernel reads the rows its coordinates name.
-/
module

public import proofs.«01_k».proof.Proof.Value.State
public import proofs.«01_k».proof.Proof.Ideal.Launch
public import Idealize.ShloMosaic.Lib.Pipeline.ValueKit

@[expose] public section

set_option maxRecDepth 16384

noncomputable section

namespace Cert.Proof.Value

open Cert.KernelIdeal Cert.KernelIdeal.Gen Cert.Proof.Ideal
open Idealize.ShloMosaic
open Idealize.ShloMosaic.TcCoe

/-- The mathematics' arguments from the six arrays: row numbers are taken below the number of rows. -/
def argsOf (X : FVec Ideal S2x24576x1536 .fp8e4m3) (xs : FVec Ideal S2x24576 .f32) (Y : FVec Ideal S2x24576x1536 .fp8e4m3)
    (ys : FVec Ideal S2x24576 .f32) (lt b : FVec Ideal S_ .f32) : Args where
  t := Ideal.exp (lt (fun a => a.elim0))
  b := b (fun a => a.elim0)
  X n i d := X (ix3 ⟨n % 2, Nat.mod_lt _ (by decide)⟩ ⟨i % 24576, Nat.mod_lt _ (by decide)⟩ d)
  Y n i d := Y (ix3 ⟨n % 2, Nat.mod_lt _ (by decide)⟩ ⟨i % 24576, Nat.mod_lt _ (by decide)⟩ d)
  xs n i := xs (ix2 ⟨n % 2, Nat.mod_lt _ (by decide)⟩ ⟨i % 24576, Nat.mod_lt _ (by decide)⟩)
  ys n i := ys (ix2 ⟨n % 2, Nat.mod_lt _ (by decide)⟩ ⟨i % 24576, Nat.mod_lt _ (by decide)⟩)

variable (m : (ℓ : Loc nD τ sig) → Buf (Elt Ideal) ℓ)

/-- The arguments as the memory holds them. -/
def argsAt (c : Dev nD) : Args :=
  argsOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

theorem idxIn : ∀ t : Fin cfg0.N, win0_0.index t = ![0] ∧ win0_1.index t = ![0]
    ∧ win0_2.index t = ![t.val / 576, t.val / 48 % 12, 0] ∧ win0_3.index t = ![t.val / 576, t.val % 48, 0]
    ∧ win0_4.index t = ![t.val / 576, 0, t.val / 48 % 12] ∧ win0_5.index t = ![t.val / 576, 0, t.val % 48]
    ∧ (grid0.coords t 1).val = t.val / 48 % 12 ∧ (grid0.coords t 2).val = t.val % 48 :=
  (by decide +kernel : ∀ t : Fin grid0.N, _)

theorem readsT (c : Dev nD) (t : Fin cfg0.N) : Reads (argsAt m c) (inpT m c t) (t.val / 576) (t.val / 48 % 12) (t.val % 48) where
  ii_lt := Nat.mod_lt _ (by decide)
  jj_lt := Nat.mod_lt _ (by decide)
  bi := by rw [← (idxIn t).2.2.2.2.2.2.1]; rfl
  bj := by rw [← (idxIn t).2.2.2.2.2.2.2]; rfl
  t := by
    show the1 (iblk m c 0 t) = Ideal.exp (m ((c : Thread nD τ).loc main_arg4) (fun a => a.elim0))
    unfold the1
    blk_simp [iblk]
    entry_read
    pointwise []
    rfl
  b := by
    show the1 (iblk m c 1 t) = m ((c : Thread nD τ).loc main_arg5) (fun a => a.elim0)
    unfold the1
    blk_simp [iblk]
    entry_read
    rfl
  x p d := by
    have ht : t.val < 1152 := Nat.lt_of_lt_of_eq t.isLt N_0
    show iblk m c 2 t (ix3 0 p d) = m ((c : Thread nD τ).loc main_arg0) _
    blk_ext [iblk, V, idxIn t]
  y q d := by
    have ht : t.val < 1152 := Nat.lt_of_lt_of_eq t.isLt N_0
    show iblk m c 3 t (ix3 0 q d) = m ((c : Thread nD τ).loc main_arg2) _
    blk_ext [iblk, V, idxIn t]
  xs p := by
    have ht : t.val < 1152 := Nat.lt_of_lt_of_eq t.isLt N_0
    show iblk m c 4 t (ix3 0 0 p) = m ((c : Thread nD τ).loc main_arg1) _
    blk_simp [iblk]
    entry_read
    pointwise []
    blk_ext [idxIn t]
  ys q := by
    have ht : t.val < 1152 := Nat.lt_of_lt_of_eq t.isLt N_0
    show iblk m c 5 t (ix3 0 0 q) = m ((c : Thread nD τ).loc main_arg3) _
    blk_simp [iblk]
    entry_read
    pointwise []
    blk_ext [idxIn t]

theorem readsN (c : Dev nD) (n : ℕ) (hn : n < 1152) : Reads (argsAt m c) (inp m c n) (n / 576) (n / 48 % 12) (n % 48) := by
  have h := readsT m c ⟨n, Nat.lt_of_lt_of_eq hn N_0.symm⟩
  rw [← inp_at] at h
  exact h

end Cert.Proof.Value

end
-- ==== Proof.Value.Stored.lean ====
/-
  WHAT THE KERNEL RETURNS, AT AN INDEX: what a point writes back, from the state after it, and the five result arrays.
-/
module

public import proofs.«01_k».proof.Proof.Value.Read

@[expose] public section

set_option maxRecDepth 16384

noncomputable section

namespace Cert.Proof.Value

open Cert.KernelIdeal Cert.KernelIdeal.Gen Cert.Proof.Ideal
open Idealize.ShloMosaic
open Idealize.ShloMosaic.TcCoe

/-! ## What is stored, from the state -/

theorem sm0_at (M : Vec Ideal S3x8x2048 .f32) (s : Fin 8) (p : Fin 2048) : sm0 M (ix3 0 s p) = M (ix3 0 s p) := by
  unfold sm0 VecWindow.window
  congr 1
  funext a; apply Fin.ext
  match a with
  | ⟨0, _⟩ => rfl
  | ⟨1, _⟩ => show 0 + 1 * s.val = s.val; omega
  | ⟨2, _⟩ => show 0 + 1 * p.val = p.val; omega
theorem sm1_at (M : Vec Ideal S3x8x2048 .f32) (s : Fin 8) (p : Fin 2048) : sm1 M (ix3 0 s p) = M (ix3 1 s p) := by
  unfold sm1 VecWindow.window
  congr 1
  funext a; apply Fin.ext
  match a with
  | ⟨0, _⟩ => rfl
  | ⟨1, _⟩ => show 0 + 1 * s.val = s.val; omega
  | ⟨2, _⟩ => show 0 + 1 * p.val = p.val; omega
theorem sm2_at (M : Vec Ideal S3x8x2048 .f32) (s : Fin 8) (p : Fin 2048) : sm2 M (ix3 0 s p) = M (ix3 2 s p) := by
  unfold sm2 VecWindow.window
  congr 1
  funext a; apply Fin.ext
  match a with
  | ⟨0, _⟩ => rfl
  | ⟨1, _⟩ => show 0 + 1 * s.val = s.val; omega
  | ⟨2, _⟩ => show 0 + 1 * p.val = p.val; omega

theorem inv_s_named : (Named.named (F := Ideal) (φ := .f32) κ "inv_s" 0x382AAAAB#32 : EReal) = invS :=
  IdealRules.named_const.ideal_named_scalar _ _ _ _ rfl

theorem pay27_at (w : Vec Ideal S1x8x2048 .f32) (p : Fin 2048) : k0_pay27 w (ix3 0 0 p) = ∑ s : Fin 8, w (ix3 0 s p) := by
  unfold k0_pay27
  pointwise []
theorem pay28_at (w : Vec Ideal S1x8x2048 .f32) (p : Fin 2048) : k0_pay28 w (ix3 0 0 p) = (∑ s : Fin 8, w (ix3 0 s p)) * invS := by
  unfold k0_pay28
  pointwise [inv_s_named]
theorem pay29_at (w : Vec Ideal S1x8x2048 .f32) (p : Fin 2048) : k0_pay9 (k0_pay29 w) (ix3 0 0 p) = (∑ s : Fin 8, w (ix3 0 s p)) * invS := by
  unfold k0_pay9 k0_pay29
  pointwise [inv_s_named]
theorem pay26_at (t : EReal) (D : Vec Ideal S2048x1536 .f32) (r : Fin 2048) (d : Fin 1536) : k0_pay26 t D (ix3 0 r d) = t * D (ix2 r d) := by
  unfold k0_pay26
  pointwise []
theorem pay8_at (t : EReal) (X : Vec Ideal S512x1536 .f32) (q : Fin 512) (d : Fin 1536) : k0_pay8 t (up X) (ix3 0 q d) = t * X (ix2 q d) := by
  unfold k0_pay8 up
  pointwise []

/-! ## What is stored at the last column block, and at the last row block -/

variable {A : Args} {inp : ℕ → Inputs Ideal} (H : ∀ n < 1152, Reads A (inp n) (n / 576) (n / 48 % 12) (n % 48))

include H

theorem rows_sum (ch : Fin 3) (p : Fin 2048) (n : ℕ) (hn : n < 1152) (hl : n % 48 = 47) :
    ∑ s : Fin 8, (stateV inp n).sm (ix3 ch s p) = ∑ j ∈ Finset.range 24576, A.sumT ch (n / 576) (2048 * (n / 48 % 12) + p.val) j := by
  rw [Finset.sum_congr rfl fun s _ => state_sm H ch s p n hn, hl]
  exact (Finset.sum_range (fun s => ∑ x ∈ Finset.range 3072, A.sumT ch (n / 576) (2048 * (n / 48 % 12) + p.val) (x * 8 + s))).symm.trans
    (sum_by_eight (A.sumT ch (n / 576) (2048 * (n / 48 % 12) + p.val)) 3072)

theorem loss_stored (p : Fin 2048) (n : ℕ) (hn : n < 1152) (hl : n % 48 = 47) :
    k0_pay27 (sm0 (stateV inp n).sm) (ix3 0 0 p) = A.loss (n / 576) (2048 * (n / 48 % 12) + p.val) := by
  rw [pay27_at, Finset.sum_congr rfl fun s _ => sm0_at _ s p, rows_sum H 0 p n hn hl]
  rfl
theorem dt_stored (p : Fin 2048) (n : ℕ) (hn : n < 1152) (hl : n % 48 = 47) :
    k0_pay28 (sm1 (stateV inp n).sm) (ix3 0 0 p) = A.dt (n / 576) (2048 * (n / 48 % 12) + p.val) := by
  rw [pay28_at, Finset.sum_congr rfl fun s _ => sm1_at _ s p, rows_sum H 1 p n hn hl]
  rfl
theorem db_stored (p : Fin 2048) (n : ℕ) (hn : n < 1152) (hl : n % 48 = 47) :
    k0_pay9 (k0_pay29 (sm2 (stateV inp n).sm)) (ix3 0 0 p) = A.db (n / 576) (2048 * (n / 48 % 12) + p.val) := by
  rw [pay29_at, Finset.sum_congr rfl fun s _ => sm2_at _ s p, rows_sum H 2 p n hn hl]
  rfl
theorem dx_stored (r : Fin 2048) (d : Fin 1536) (n : ℕ) (hn : n < 1152) (hl : n % 48 = 47) :
    k0_pay26 (inp n).t (stateV inp n).dx (ix3 0 r d) = A.dx (n / 576) (2048 * (n / 48 % 12) + r.val) d := by
  rw [pay26_at, state_dx H r d n hn, hl, (H n hn).t]
  rfl
theorem dy_stored (q : Fin 512) (d : Fin 1536) (n : ℕ) (hn : n < 1152) (hl : n / 48 % 12 = 11) :
    k0_pay8 (inp n).t (up (stateV inp n).dy) (ix3 0 q d) = A.dy (n / 576) (512 * (n % 48) + q.val) d := by
  rw [pay8_at, state_dy H q d n hn, hl, (H n hn).t]
  rfl

end Cert.Proof.Value

end
-- ==== Proof.Value.Final.lean ====
/-
  THE KERNEL'S FIVE RESULT ARRAYS: the blocks written back cover each of them, and every block holds the mathematics'
  values of its rows.
-/
module

public import proofs.«01_k».proof.Proof.Value.Stored

@[expose] public section

set_option maxRecDepth 16384

noncomputable section

namespace Cert.Proof.Value

open Cert.KernelIdeal Cert.KernelIdeal.Gen Cert.Proof.Ideal
open Idealize.ShloMosaic
open Idealize.ShloMosaic.TcCoe

/-- The mathematics' results as arrays. -/
def lossArr (A : Args) : FVec Ideal S2x1x24576 .f32 := fun y => A.loss (y 0).val (y 2).val
def dtArr (A : Args) : FVec Ideal S2x1x24576 .f32 := fun y => A.dt (y 0).val (y 2).val
def dbArr (A : Args) : FVec Ideal S2x1x24576 .f32 := fun y => A.db (y 0).val (y 2).val
def dxArr (A : Args) : FVec Ideal S2x24576x1536 .bf16 := fun y => A.dx (y 0).val (y 1).val (y 2)
def dyArr (A : Args) : FVec Ideal S2x24576x1536 .bf16 := fun y => A.dy (y 0).val (y 1).val (y 2)

variable (m : (ℓ : Loc nD τ sig) → Buf (Elt Ideal) ℓ)

theorem idxOut : ∀ t : Fin cfg0.N, win0_6.index t = ![t.val / 576, 0, t.val / 48 % 12] ∧ win0_7.index t = ![t.val / 576, t.val / 48 % 12, 0]
    ∧ win0_9.index t = ![t.val / 576, 0, t.val / 48 % 12] ∧ win0_10.index t = ![t.val / 576, 0, t.val / 48 % 12] :=
  (by decide +kernel : ∀ t : Fin grid0.N, _)
theorem idxOut8 : ∀ t : Fin cfg0.N, t.val / 48 % 12 = 11 → win0_8.index t = ![t.val / 576, t.val % 48, 0] :=
  (by decide +kernel : ∀ t : Fin grid0.N, _)

theorem lt_points (t : Fin cfg0.N) : t.val < 1152 := Nat.lt_of_lt_of_eq t.isLt N_0

theorem finalLoss (c : Dev nD) : (dats m 0 c).arrAt 6 cfg0.N = lossArr (argsAt m c) := by
  refine (dats m 0 c).arrAt_eq_of_covers 6 _ (by decide +kernel) fun t hf y => ?_
  blk_simp
  rw [after_w6]
  idx_vars y
  obtain rfl : y0 = 0 := Subsingleton.elim _ _
  obtain rfl : y1 = 0 := Subsingleton.elim _ _
  rw [loss_stored (readsN m c) y2 t.val (lt_points t) ((flush0_6 t).mp hf)]
  unfold lossArr
  blk_simp [idxOut t]
  congr 1 <;> omega

theorem finalDt (c : Dev nD) : (dats m 0 c).arrAt 9 cfg0.N = dtArr (argsAt m c) := by
  refine (dats m 0 c).arrAt_eq_of_covers 9 _ (by decide +kernel) fun t hf y => ?_
  blk_simp
  rw [after_w9]
  idx_vars y
  obtain rfl : y0 = 0 := Subsingleton.elim _ _
  obtain rfl : y1 = 0 := Subsingleton.elim _ _
  rw [dt_stored (readsN m c) y2 t.val (lt_points t) ((flush0_9 t).mp hf)]
  unfold dtArr
  blk_simp [idxOut t]
  congr 1 <;> omega

theorem finalDb (c : Dev nD) : (dats m 0 c).arrAt 10 cfg0.N = dbArr (argsAt m c) := by
  refine (dats m 0 c).arrAt_eq_of_covers 10 _ (by decide +kernel) fun t hf y => ?_
  blk_simp
  rw [after_w10]
  idx_vars y
  obtain rfl : y0 = 0 := Subsingleton.elim _ _
  obtain rfl : y1 = 0 := Subsingleton.elim _ _
  rw [db_stored (readsN m c) y2 t.val (lt_points t) ((flush0_10 t).mp hf)]
  unfold dbArr
  blk_simp [idxOut t]
  congr 1 <;> omega

theorem finalDx (c : Dev nD) : (dats m 0 c).arrAt 7 cfg0.N = dxArr (argsAt m c) := by
  refine (dats m 0 c).arrAt_eq_of_covers 7 _ (by decide +kernel) fun t hf y => ?_
  blk_simp
  rw [after_w7]
  idx_vars y
  obtain rfl : y0 = 0 := Subsingleton.elim _ _
  rw [← inp_at, dx_stored (readsN m c) y1 y2 t.val (lt_points t) ((flush0_7 t).mp hf)]
  unfold dxArr
  blk_simp [idxOut t]
  congr 1
  · omega
  · exact Fin.ext (by blk_simp [idxOut t])

theorem finalDy (c : Dev nD) : (dats m 0 c).arrAt 8 cfg0.N = dyArr (argsAt m c) := by
  refine (dats m 0 c).arrAt_eq_of_covers 8 _ (by decide +kernel) fun t hf y => ?_
  blk_simp
  rw [after_w8]
  idx_vars y
  obtain rfl : y0 = 0 := Subsingleton.elim _ _
  have hl : t.val / 48 % 12 = 11 := (flush0_8 t).mp hf
  rw [← inp_at, dy_stored (readsN m c) y1 y2 t.val (lt_points t) hl]
  unfold dyArr
  blk_simp [idxOut8 t hl]
  congr 1
  · omega
  · exact Fin.ext (by blk_simp [idxOut8 t hl])

end Cert.Proof.Value

end
-- ==== Proof.Value.Ref.lean ====
/-
  WHAT THE REFERENCE COMPUTES, AT AN INDEX: its products, logits, slopes and five results are the mathematics' own.
-/
module

public import proofs.«01_k».proof.Proof.Gen.ReferenceIdeal.Skeleton
public import proofs.«01_k».proof.Proof.Value.Math

@[expose] public section

set_option maxRecDepth 16384

noncomputable section

namespace Cert.Proof.Value.Ref

open Cert.ReferenceIdeal Cert.ReferenceIdeal.Gen
open Idealize.ShloMosaic
open Idealize.ShloMosaic.TcCoe

/-- The arrays hold the mathematics' arguments. -/
structure Holds (A : Args) (X Y : Vec Ideal S2x24576x1536 .fp8e4m3) (xs ys : Vec Ideal S2x24576 .f32) : Prop where
  X : ∀ (n : Fin 2) (i : Fin 24576) (d : Fin 1536), X (ix3 n i d) = A.X n.val i.val d
  Y : ∀ (n : Fin 2) (i : Fin 24576) (d : Fin 1536), Y (ix3 n i d) = A.Y n.val i.val d
  xs : ∀ (n : Fin 2) (i : Fin 24576), xs (ix2 n i) = A.xs n.val i.val
  ys : ∀ (n : Fin 2) (i : Fin 24576), ys (ix2 n i) = A.ys n.val i.val

variable {A : Args} {X Y : Vec Ideal S2x24576x1536 .fp8e4m3} {xs ys : Vec Ideal S2x24576 .f32} (H : Holds A X Y xs ys)

/-- The diagonal's test. -/
theorem diag_at (n : Fin 2) (i j : Fin 24576) : k0_pay4 (ix3 n i j) = if i.val = j.val then 1#1 else 0#1 := by
  unfold k0_pay4
  pointwise []
  have e : BitVec.ofNat 32 i.val = BitVec.ofNat 32 j.val ↔ i.val = j.val := by
    rw [← BitVec.toNat_inj, BitVec.toNat_ofNat, BitVec.toNat_ofNat]; omega
  by_cases h : i.val = j.val
  · rw [if_pos h, h]; simp [IntOp.cmpi]
  · rw [if_neg h]
    exact congrArg BitVec.ofBool (beq_eq_false_iff_ne.mpr (mt e.mp h))

include H

theorem xq_at (n : Fin 2) (i : Fin 24576) (d : Fin 1536) : k0_pay1 X xs (ix3 n i d) = A.X n.val i.val d * A.xs n.val i.val := by
  unfold k0_pay1
  pointwise [H.X, H.xs]
theorem yq_at (n : Fin 2) (i : Fin 24576) (d : Fin 1536) : k0_pay2 Y ys (ix3 n i d) = A.Y n.val i.val d * A.ys n.val i.val := by
  unfold k0_pay2
  pointwise [H.Y, H.ys]

theorem raw_at (n : Fin 2) (i j : Fin 24576) : A.t * k0_pay3 X Y xs ys (ix3 n i j) = A.a n.val i.val j.val := by
  unfold k0_pay3 Args.a
  pointwise [H.X, H.Y, H.xs, H.ys]
  rw [Finset.sum_congr rfl fun d _ => mul_comm (A.X n.val i.val d) (A.Y n.val j.val d)]
  ac_rfl

theorem z_at (n : Fin 2) (i j : Fin 24576) : k0_pay5 X Y xs ys A.t A.b (ix3 n i j) = A.z n.val i.val j.val := by
  unfold k0_pay5 Args.z
  pointwise [diag_at, raw_at H]
  split_ifs <;> rfl

theorem g_at (n : Fin 2) (i j : Fin 24576) : k0_pay11 k0_pay4 (k0_pay5 X Y xs ys A.t A.b) (ix3 n i j) = A.g n.val i.val j.val * invS := by
  unfold k0_pay11 Args.g
  pointwise [diag_at, z_at H, ofBits_rows]
  rw [div_rows]
  split_ifs <;> rfl

theorem loss_at (n : Fin 2) (i : Fin 24576) :
    k0_pay12 (k0_pay6 X Y xs ys A.t A.b) (k0_pay8 X Y xs ys A.t A.b) (k0_pay9 X Y xs ys A.t A.b) (k0_pay10 X Y xs ys A.t A.b) (ix3 n 0 i)
      = A.loss n.val i.val := by
  unfold k0_pay12 k0_pay6 k0_pay8 k0_pay9 k0_pay10 k0_pay7 Args.loss
  pointwise [z_at H]
  rw [Finset.sum_range]
  refine Finset.sum_congr rfl fun x _ => ?_
  rw [if_neg (not_not.mpr rfl), zero_sub]
  exact sp_two_sided _

theorem dt_at (n : Fin 2) (i : Fin 24576) :
    k0_pay13 A.t (k0_pay3 X Y xs ys) k0_pay4 (k0_pay5 X Y xs ys A.t A.b) (ix3 n 0 i) = A.dt n.val i.val := by
  unfold k0_pay13 Args.dt
  pointwise [g_at H, raw_at H]
  rw [Finset.sum_range, sum_mul_real _ _ _ invS_nonneg invS_ne_top]
  exact Finset.sum_congr rfl fun x _ => mul_right_comm _ _ _

theorem db_at (n : Fin 2) (i : Fin 24576) :
    k0_pay14 k0_pay4 (k0_pay5 X Y xs ys A.t A.b) (ix3 n 0 i) = A.db n.val i.val := by
  unfold k0_pay14 Args.db
  pointwise [g_at H]
  rw [Finset.sum_range, sum_mul_real _ _ _ invS_nonneg invS_ne_top]

theorem dx_at (n : Fin 2) (i : Fin 24576) (d : Fin 1536) :
    k0_pay16 A.t (k0_pay2 Y ys) k0_pay4 (k0_pay5 X Y xs ys A.t A.b) (ix3 n i d) = A.dx n.val i.val d := by
  unfold k0_pay16 k0_pay15 Args.dx
  pointwise [g_at H, yq_at H]
  rw [Finset.sum_range]
  exact congrArg (A.t * ·) (Finset.sum_congr rfl fun x _ => by unfold Args.dxT; ac_rfl)

theorem dy_at (n : Fin 2) (j : Fin 24576) (d : Fin 1536) :
    k0_pay17 A.t (k0_pay1 X xs) k0_pay4 (k0_pay5 X Y xs ys A.t A.b) (ix3 n j d) = A.dy n.val j.val d := by
  unfold k0_pay17 k0_pay15 Args.dy
  pointwise [g_at H, xq_at H]
  rw [Finset.sum_range (fun i => A.dyT n.val i j.val d)]
  exact congrArg (A.t * ·) (Finset.sum_congr rfl fun x _ => by unfold Args.dyT; ac_rfl)

end Cert.Proof.Value.Ref

end
-- ==== Proof.Value.RefFinal.lean ====
/-
  THE REFERENCE'S FIVE RESULT ARRAYS: its one point leaves each of its five values over the whole arguments, and these
  are the mathematics' own.
-/
module

public import proofs.«01_k».proof.Proof.Gen.ReferenceIdeal.Value
public import proofs.«01_k».proof.Proof.Value.Ref
public import proofs.«01_k».proof.Proof.Value.Final
public import Idealize.ShloMosaic.Lib.Pipeline.ValueKit
public import Idealize.ShloMosaic.Lib.Pipeline.ReadBack

@[expose] public section

set_option maxRecDepth 16384

noncomputable section

namespace Cert.Proof.Value.Ref

open Cert.ReferenceIdeal Cert.ReferenceIdeal.Gen
open Idealize.ShloMosaic
open Idealize.ShloMosaic.TcCoe

variable (m : (ℓ : Loc nD τ sig) → Buf (Elt Ideal) ℓ)

theorem idx : ∀ t : Fin cfg0.N, win0_0.index t = ![0] ∧ win0_1.index t = ![0] ∧ win0_2.index t = ![0, 0, 0] ∧ win0_3.index t = ![0, 0, 0]
    ∧ win0_4.index t = ![0, 0] ∧ win0_5.index t = ![0, 0] ∧ win0_6.index t = ![0, 0, 0] ∧ win0_7.index t = ![0, 0, 0]
    ∧ win0_8.index t = ![0, 0, 0] ∧ win0_9.index t = ![0, 0, 0] ∧ win0_10.index t = ![0, 0, 0] :=
  (by decide +kernel : ∀ t : Fin grid0.N, _)

/-- The mathematics' arguments as the memory holds them. -/
def argsRef (c : Dev nD) : Args :=
  argsOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

theorem holds (c : Dev nD) : Holds (argsRef m c) (iblk m c 2 t0_0) (iblk m c 3 t0_0) (iblk m c 4 t0_0) (iblk m c 5 t0_0) where
  X n i d := by
    show iblk m c 2 t0_0 (ix3 n i d) = m ((c : Thread nD τ).loc main_arg0) _
    blk_ext [iblk, V, idx t0_0]
  Y n i d := by
    show iblk m c 3 t0_0 (ix3 n i d) = m ((c : Thread nD τ).loc main_arg2) _
    blk_ext [iblk, V, idx t0_0]
  xs n i := by
    show iblk m c 4 t0_0 (ix2 n i) = m ((c : Thread nD τ).loc main_arg1) _
    blk_ext [iblk, V, idx t0_0]
  ys n i := by
    show iblk m c 5 t0_0 (ix2 n i) = m ((c : Thread nD τ).loc main_arg3) _
    blk_ext [iblk, V, idx t0_0]

theorem t_at (c : Dev nD) (h : 0 < S1.numel) : (iblk m c 0 t0_0) (Shape.Idx.first (s := S1) h) = (argsRef m c).t := by
  show _ = Ideal.exp (m ((c : Thread nD τ).loc main_arg4) (fun a => a.elim0))
  blk_simp [iblk]
  entry_read
  pointwise []
  rfl
theorem b_at (c : Dev nD) (h : 0 < S1.numel) : (iblk m c 1 t0_0) (Shape.Idx.first (s := S1) h) = (argsRef m c).b := by
  show _ = m ((c : Thread nD τ).loc main_arg5) (fun a => a.elim0)
  blk_simp [iblk]
  entry_read
  rfl

theorem finalLoss (c : Dev nD) : (dats m 0 c).arrAt 6 cfg0.N = lossArr (argsRef m c) := by
  refine (dats m 0 c).arrAt_eq_of_after_last 6 t0_0 (by decide +kernel) _ fun j => ?_
  blk_simp
  rw [after0_6]
  unfold outsAt0
  dsimp only
  frame_out
  simp only [read_unread_whole]
  rw [t_at, b_at]
  idx_vars j
  obtain rfl : j1 = 0 := Subsingleton.elim _ _
  exact loss_at (holds m c) j0 j2

theorem finalDx (c : Dev nD) : (dats m 0 c).arrAt 7 cfg0.N = dxArr (argsRef m c) := by
  refine (dats m 0 c).arrAt_eq_of_after_last 7 t0_0 (by decide +kernel) _ fun j => ?_
  blk_simp
  rw [after0_7]
  unfold outsAt0
  dsimp only
  frame_out
  simp only [read_unread_whole]
  rw [t_at, b_at]
  idx_vars j
  exact dx_at (holds m c) j0 j1 j2

theorem finalDy (c : Dev nD) : (dats m 0 c).arrAt 8 cfg0.N = dyArr (argsRef m c) := by
  refine (dats m 0 c).arrAt_eq_of_after_last 8 t0_0 (by decide +kernel) _ fun j => ?_
  blk_simp
  rw [after0_8]
  unfold outsAt0
  dsimp only
  frame_out
  simp only [read_unread_whole]
  rw [t_at, b_at]
  idx_vars j
  exact dy_at (holds m c) j0 j1 j2

theorem finalDt (c : Dev nD) : (dats m 0 c).arrAt 9 cfg0.N = dtArr (argsRef m c) := by
  refine (dats m 0 c).arrAt_eq_of_after_last 9 t0_0 (by decide +kernel) _ fun j => ?_
  blk_simp
  rw [after0_9]
  unfold outsAt0
  dsimp only
  frame_out
  simp only [read_unread_whole]
  rw [t_at, b_at]
  idx_vars j
  obtain rfl : j1 = 0 := Subsingleton.elim _ _
  exact dt_at (holds m c) j0 j2

theorem finalDb (c : Dev nD) : (dats m 0 c).arrAt 10 cfg0.N = dbArr (argsRef m c) := by
  refine (dats m 0 c).arrAt_eq_of_after_last 10 t0_0 (by decide +kernel) _ fun j => ?_
  blk_simp
  rw [after0_10]
  unfold outsAt0
  dsimp only
  frame_out
  simp only [read_unread_whole]
  rw [t_at, b_at]
  idx_vars j
  obtain rfl : j1 = 0 := Subsingleton.elim _ _
  exact db_at (holds m c) j0 j2

end Cert.Proof.Value.Ref

end
-- ==== Proof.Real.Names.lean ====
/-
  NAMES AND SCHEDULE of the kernel's own transfers. The kernel keeps the running gradient of one block of 512
  columns (`dy`) in a ring of three VMEM slots and parks it, between two row blocks, in a big array in HBM (the
  accumulator). At point `n = (batch * 12 + row block) * 48 + column block` it uses slot `n % 3`. This file names
  slot `s`, column block `j` of the accumulator, and the two semaphores of each slot, and puts every offset and
  condition the kernel computes in closed form over the number `n` of the point.
-/
module

public import proofs.«01_k».proof.Defs
public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.KitQuiescent
public import Idealize.ShloMosaic.Lib.Ring
public import Idealize.ShloMosaic.Lib.Affine
public import Idealize.ShloMosaic.Lib.Tactic

@[expose] public section

noncomputable section

namespace Cert.Proof.Real

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra: the pipeline's, beside the counters the kernel's own transfers use. -/
abbrev UU (nD : Nat) (τ : Topo) : Type := UR sig nD τ × Counters
abbrev EP : Emb (UR sig nD τ) (MT nD τ sig Unit (Elt F) ℕ (UU nD τ) ℕ) := embL
abbrev 𝒱₀ : Variants := Variants.none

/-! ## Canonical names -/

/-- The slot that point `n` uses. -/
def sof (n : ℕ) : Fin 3 := ⟨n % 3, Nat.mod_lt _ (by decide)⟩
/-- The column block of point `n`. -/
def jof (n : ℕ) : Fin 48 := ⟨n % 48, Nat.mod_lt _ (by decide)⟩
/-- The row block of point `n`. -/
def iof (n : ℕ) : ℕ := n / 48 % 12

abbrev accM : Memref sig .tc .hbm S24576x1536 .f32 := Memref.whole main_v5_5
abbrev bufM : Memref sig .tc .vmem S3x512x1536 .f32 := Memref.whole cc0_scratch1

abbrev blkOff (j : Fin 48) : Fin 2 → Nat := ![512 * j.val, 0]
theorem blkOff_inb (j : Fin 48) : ∀ a, blkOff j a + S512x1536.size a ≤ S24576x1536.size a := by
  have := j.isLt; intro a; fin_cases a
  · show 512 * j.val + 512 ≤ 24576; omega
  · show 0 + 1536 ≤ 1536; omega
abbrev slotOff (s : Fin 3) : Fin 3 → Nat := ![s.val, 0, 0]
theorem slotOff_inb (s : Fin 3) : ∀ a, slotOff s a + S1x512x1536.size a ≤ S3x512x1536.size a := by
  have := s.isLt; intro a; fin_cases a
  · show s.val + 1 ≤ 3; omega
  · show 0 + 512 ≤ 512; omega
  · show 0 + 1536 ≤ 1536; omega
abbrev semOff (s : Fin 3) : Fin 1 → Nat := ![s.val]
theorem semOff_inb (s : Fin 3) : ∀ a, semOff s a + S1.size a ≤ S3.size a := by
  have := s.isLt; intro a; fin_cases a; show s.val + 1 ≤ 3; omega

/-- Column block `j` of the accumulator, as the body slices it. -/
def blk (j : Fin 48) : Memref sig .tc .hbm S512x1536 .f32 :=
  accM.slice (Rect.unit (s := S24576x1536) (blkOff j) S512x1536.size (blkOff_inb j)) (fun _ => rfl)
/-- Slot `s` of the ring, as the body slices and squeezes it. -/
def rslot (s : Fin 3) : Memref sig .tc .vmem S512x1536 .f32 :=
  (bufM.slice (Rect.unit (s := S3x512x1536) (slotOff s) S1x512x1536.size (slotOff_inb s)) (fun _ => rfl)).squeeze S512x1536 squeezes_S1x512x1536_S512x1536
/-- The semaphore of the load into slot `s`. -/
def lsm (s : Fin 3) : DmaSems sig S_ := (cc0_scratch4.slice (Rect.unit (s := S3) (semOff s) S1.size (semOff_inb s))).squeeze S_ squeezes_S1_S_
/-- The semaphore of the store out of slot `s`. -/
def ssm (s : Fin 3) : DmaSems sig S_ := (cc0_scratch5.slice (Rect.unit (s := S3) (semOff s) S1.size (semOff_inb s))).squeeze S_ squeezes_S1_S_

instance (s : Fin 3) : ClosedOff (slotOff s) := ⟨slotOff s, rfl⟩
instance (j : Fin 48) : ClosedOff (blkOff j) := ⟨blkOff j, rfl⟩

/-! ## The kernel's conditions, at the number of the point -/

theorem cond1_iff (t : Fin cfg0.N) : k0_cond1 (grid0.coords t) = 1#1 ↔ 2 ≤ t.val ∧ iof (t.val - 2) < 11 := by
  revert t; exact (by decide +kernel : ∀ t : Fin grid0.N, k0_cond1 (grid0.coords t) = 1#1 ↔ 2 ≤ t.val ∧ iof (t.val - 2) < 11)
theorem cond2_iff (t : Fin cfg0.N) : k0_cond2 (grid0.coords t) = 1#1 ↔ t.val + 1 < 1152 ∧ 0 < iof (t.val + 1) := by
  revert t; exact (by decide +kernel : ∀ t : Fin grid0.N, k0_cond2 (grid0.coords t) = 1#1 ↔ t.val + 1 < 1152 ∧ 0 < iof (t.val + 1))
theorem cond3_iff (t : Fin cfg0.N) : k0_cond3 (grid0.coords t) = 1#1 ↔ 0 < iof t.val := by
  revert t; exact (by decide +kernel : ∀ t : Fin grid0.N, k0_cond3 (grid0.coords t) = 1#1 ↔ 0 < iof t.val)
theorem cond4_iff (t : Fin cfg0.N) : k0_cond4 (grid0.coords t) = 1#1 ↔ iof t.val = 0 := by
  revert t; exact (by decide +kernel : ∀ t : Fin grid0.N, k0_cond4 (grid0.coords t) = 1#1 ↔ iof t.val = 0)
/-- The condition under which the two accumulators in VMEM are cleared: the first column block. -/
theorem cond5_iff (t : Fin cfg0.N) :
    Scalar.cmpi .ne (Scalar.extui (Scalar.cmpi .eq (BitVec.ofNat 32 ((grid0.coords t) 2).val) 0#32) : BitVec 32) 0#32 = 1#1 ↔ t.val % 48 = 0 := by
  revert t; exact (by decide +kernel : ∀ t : Fin grid0.N, Scalar.cmpi .ne (Scalar.extui (Scalar.cmpi .eq (BitVec.ofNat 32 ((grid0.coords t) 2).val) 0#32) : BitVec 32) 0#32 = 1#1 ↔ t.val % 48 = 0)
theorem cond6_iff (t : Fin cfg0.N) : k0_cond6 (grid0.coords t) = 1#1 ↔ iof t.val < 11 := by
  revert t; exact (by decide +kernel : ∀ t : Fin grid0.N, k0_cond6 (grid0.coords t) = 1#1 ↔ iof t.val < 11)
theorem cond7_iff (t : Fin cfg0.N) : k0_cond7 (grid0.coords t) = 1#1 ↔ iof t.val = 11 := by
  revert t; exact (by decide +kernel : ∀ t : Fin grid0.N, k0_cond7 (grid0.coords t) = 1#1 ↔ iof t.val = 11)
theorem cond8_iff (t : Fin cfg0.N) : k0_cond8 (grid0.coords t) = 1#1 ↔ t.val % 48 = 47 := by
  revert t; exact (by decide +kernel : ∀ t : Fin grid0.N, k0_cond8 (grid0.coords t) = 1#1 ↔ t.val % 48 = 47)

/-! ## The kernel's offsets -/

theorem off1_eq (t : Fin cfg0.N) (h : k0_cond1 (grid0.coords t) = 1#1) : k0_off1 (grid0.coords t) = semOff (sof (t.val + 1)) := by
  revert t; exact (by decide +kernel : ∀ t : Fin grid0.N, k0_cond1 (grid0.coords t) = 1#1 → k0_off1 (grid0.coords t) = semOff (sof (t.val + 1)))
theorem off2_eq (t : Fin cfg0.N) (h : k0_cond1 (grid0.coords t) = 1#1) : k0_off2 (grid0.coords t) = slotOff (sof (t.val + 1)) := by
  revert t; exact (by decide +kernel : ∀ t : Fin grid0.N, k0_cond1 (grid0.coords t) = 1#1 → k0_off2 (grid0.coords t) = slotOff (sof (t.val + 1)))
theorem off3_eq (t : Fin cfg0.N) : k0_off3 (grid0.coords t) = semOff (sof (t.val + 1)) := by
  revert t; exact (by decide +kernel : ∀ t : Fin grid0.N, k0_off3 (grid0.coords t) = semOff (sof (t.val + 1)))
theorem off4_eq (t : Fin cfg0.N) : k0_off4 (grid0.coords t) = slotOff (sof (t.val + 1)) := by
  revert t; exact (by decide +kernel : ∀ t : Fin grid0.N, k0_off4 (grid0.coords t) = slotOff (sof (t.val + 1)))
theorem off5_eq (t : Fin cfg0.N) : k0_off5 (grid0.coords t) = blkOff (jof (t.val + 1)) := by
  revert t; exact (by decide +kernel : ∀ t : Fin grid0.N, k0_off5 (grid0.coords t) = blkOff (jof (t.val + 1)))
theorem off6_eq (t : Fin cfg0.N) : k0_off6 (grid0.coords t) = semOff (sof t.val) := by
  revert t; exact (by decide +kernel : ∀ t : Fin grid0.N, k0_off6 (grid0.coords t) = semOff (sof t.val))
theorem off7_eq (t : Fin cfg0.N) : k0_off7 (grid0.coords t) = slotOff (sof t.val) := by
  revert t; exact (by decide +kernel : ∀ t : Fin grid0.N, k0_off7 (grid0.coords t) = slotOff (sof t.val))
theorem off8_eq (t : Fin cfg0.N) : k0_off8 (grid0.coords t) = blkOff (jof t.val) := by
  revert t; exact (by decide +kernel : ∀ t : Fin grid0.N, k0_off8 (grid0.coords t) = blkOff (jof t.val))
theorem off9_eq (t : Fin cfg0.N) : k0_off9 (grid0.coords t) = slotOff (sof t.val) := by
  revert t; exact (by decide +kernel : ∀ t : Fin grid0.N, k0_off9 (grid0.coords t) = slotOff (sof t.val))
theorem off15_eq (t : Fin cfg0.N) : k0_off15 (grid0.coords t) = slotOff (sof t.val) := by
  revert t; exact (by decide +kernel : ∀ t : Fin grid0.N, k0_off15 (grid0.coords t) = slotOff (sof t.val))
theorem off17_eq (t : Fin cfg0.N) : k0_off17 (grid0.coords t) = semOff (sof t.val) := by
  revert t; exact (by decide +kernel : ∀ t : Fin grid0.N, k0_off17 (grid0.coords t) = semOff (sof t.val))
theorem off18_eq (t : Fin cfg0.N) : k0_off18 (grid0.coords t) = blkOff (jof t.val) := by
  revert t; exact (by decide +kernel : ∀ t : Fin grid0.N, k0_off18 (grid0.coords t) = blkOff (jof t.val))
theorem off19_eq (t : Fin cfg0.N) : k0_off19 (grid0.coords t) = slotOff (sof t.val) := by
  revert t; exact (by decide +kernel : ∀ t : Fin grid0.N, k0_off19 (grid0.coords t) = slotOff (sof t.val))
theorem off20_eq (t : Fin cfg0.N) : k0_off20 (grid0.coords t) = slotOff (sof t.val) := by
  revert t; exact (by decide +kernel : ∀ t : Fin grid0.N, k0_off20 (grid0.coords t) = slotOff (sof t.val))

instance (t : Fin cfg0.N) : ClosedOff (k0_off9 (grid0.coords t)) := ⟨slotOff (sof t.val), off9_eq t⟩
instance (t : Fin cfg0.N) : ClosedOff (k0_off15 (grid0.coords t)) := ⟨slotOff (sof t.val), off15_eq t⟩
instance (t : Fin cfg0.N) : ClosedOff (k0_off20 (grid0.coords t)) := ⟨slotOff (sof t.val), off20_eq t⟩

/-! ## The body's slices under their names -/

private theorem lsm_congr {off : Fin 1 → Nat} {s : Fin 3} (e : off = semOff s) (hh) :
    (cc0_scratch4.slice (Rect.unit (s := S3) off S1.size hh)).squeeze S_ squeezes_S1_S_ = lsm s :=
  congrArg (fun A : DmaSems sig S1 => A.squeeze S_ squeezes_S1_S_) (SemArray.slice_unit_congr _ e _ _)
private theorem ssm_congr {off : Fin 1 → Nat} {s : Fin 3} (e : off = semOff s) (hh) :
    (cc0_scratch5.slice (Rect.unit (s := S3) off S1.size hh)).squeeze S_ squeezes_S1_S_ = ssm s :=
  congrArg (fun A : DmaSems sig S1 => A.squeeze S_ squeezes_S1_S_) (SemArray.slice_unit_congr _ e _ _)
private theorem rslot_congr {off : Fin 3 → Nat} {s : Fin 3} (e : off = slotOff s) (hh hs) :
    (bufM.slice (Rect.unit (s := S3x512x1536) off S1x512x1536.size hh) hs).squeeze S512x1536 squeezes_S1x512x1536_S512x1536 = rslot s :=
  congrArg (fun M : Memref sig .tc .vmem S1x512x1536 .f32 => M.squeeze S512x1536 squeezes_S1x512x1536_S512x1536) (Memref.slice_unit_congr _ e _ _ _ _)
private theorem blk_congr {off : Fin 2 → Nat} {j : Fin 48} (e : off = blkOff j) (hh hs) :
    (accM.slice (Rect.unit (s := S24576x1536) off S512x1536.size hh) hs) = blk j :=
  Memref.slice_unit_congr _ e _ _ _ (fun _ => rfl)

section Canon
variable (t : Fin cfg0.N)
@[sl_canon] theorem sem1 (h : k0_cond1 (grid0.coords t) = 1#1) (hh) : (cc0_scratch5.slice (Rect.unit (s := S3) (k0_off1 (grid0.coords t)) S1.size hh)).squeeze S_ squeezes_S1_S_ = ssm (sof (t.val + 1)) := ssm_congr (off1_eq t h) _
@[sl_canon] theorem sem3 (hh) : (cc0_scratch4.slice (Rect.unit (s := S3) (k0_off3 (grid0.coords t)) S1.size hh)).squeeze S_ squeezes_S1_S_ = lsm (sof (t.val + 1)) := lsm_congr (off3_eq t) _
@[sl_canon] theorem sem6 (hh) : (cc0_scratch4.slice (Rect.unit (s := S3) (k0_off6 (grid0.coords t)) S1.size hh)).squeeze S_ squeezes_S1_S_ = lsm (sof t.val) := lsm_congr (off6_eq t) _
@[sl_canon] theorem sem17 (hh) : (cc0_scratch5.slice (Rect.unit (s := S3) (k0_off17 (grid0.coords t)) S1.size hh)).squeeze S_ squeezes_S1_S_ = ssm (sof t.val) := ssm_congr (off17_eq t) _
@[sl_canon] theorem slot2 (h : k0_cond1 (grid0.coords t) = 1#1) (hh hs) : (bufM.slice (Rect.unit (s := S3x512x1536) (k0_off2 (grid0.coords t)) S1x512x1536.size hh) hs).squeeze S512x1536 squeezes_S1x512x1536_S512x1536 = rslot (sof (t.val + 1)) := rslot_congr (off2_eq t h) _ _
@[sl_canon] theorem slot4 (hh hs) : (bufM.slice (Rect.unit (s := S3x512x1536) (k0_off4 (grid0.coords t)) S1x512x1536.size hh) hs).squeeze S512x1536 squeezes_S1x512x1536_S512x1536 = rslot (sof (t.val + 1)) := rslot_congr (off4_eq t) _ _
@[sl_canon] theorem slot7 (hh hs) : (bufM.slice (Rect.unit (s := S3x512x1536) (k0_off7 (grid0.coords t)) S1x512x1536.size hh) hs).squeeze S512x1536 squeezes_S1x512x1536_S512x1536 = rslot (sof t.val) := rslot_congr (off7_eq t) _ _
@[sl_canon] theorem slot19 (hh hs) : (bufM.slice (Rect.unit (s := S3x512x1536) (k0_off19 (grid0.coords t)) S1x512x1536.size hh) hs).squeeze S512x1536 squeezes_S1x512x1536_S512x1536 = rslot (sof t.val) := rslot_congr (off19_eq t) _ _
@[sl_canon] theorem blk1 (hh hs) : (accM.slice (Rect.unit (s := S24576x1536) ![0, 0] S512x1536.size hh) hs) = blk 0 := blk_congr (by decide) _ _
@[sl_canon] theorem blk5 (hh hs) : (accM.slice (Rect.unit (s := S24576x1536) (k0_off5 (grid0.coords t)) S512x1536.size hh) hs) = blk (jof (t.val + 1)) := blk_congr (off5_eq t) _ _
@[sl_canon] theorem blk8 (hh hs) : (accM.slice (Rect.unit (s := S24576x1536) (k0_off8 (grid0.coords t)) S512x1536.size hh) hs) = blk (jof t.val) := blk_congr (off8_eq t) _ _
@[sl_canon] theorem blk18 (hh hs) : (accM.slice (Rect.unit (s := S24576x1536) (k0_off18 (grid0.coords t)) S512x1536.size hh) hs) = blk (jof t.val) := blk_congr (off18_eq t) _ _
end Canon

end Cert.Proof.Real

end
-- ==== Proof.Real.Vals.lean ====
/-
  WHAT ONE POINT COMPUTES, as functions of arrays. A point reads a block of rows of `x` and of `y` with their scales,
  and two numbers; it changes three arrays: the running gradient of `x`, the running gradient of its column block of
  `y`, and the running sums. It does so in four trips of 512 rows. The functions here are the generated payloads put
  together in the order of the program; nothing is rewritten.
-/
module

public import proofs.«01_k».proof.Defs
public import proofs.«01_k».proof.Proof.Gen.Kernel.Skeleton
public import Idealize.ShloMosaic.Lib.VecWindow

@[expose] public section

noncomputable section

namespace Cert.Proof.Real

open Cert.Kernel Cert.Kernel.Gen
open Idealize.ShloMosaic
open Idealize.ShloMosaic.TcCoe

variable {F : FTy → Type} [FloatOps F]

/-- A tile of the gradient of `y`. -/
abbrev Tile (F : FTy → Type) : Type := S512x1536.Idx → Elt F .f32

/-- What a point reads: its coordinates as words, the two numbers, the blocks of `x` and `y`, their scales. -/
structure Inputs (F : FTy → Type) where
  bi : BitVec 32
  bj : BitVec 32
  t : Elt F .f32
  b : Elt F .f32
  x : Vec F S1x2048x1536 .fp8e4m3
  y : Vec F S1x512x1536 .fp8e4m3
  xs : Vec F S1x1x2048 .f32
  ys : Vec F S1x1x512 .f32

/-- What a point changes: the running gradient of `x`, the running gradient of a column block of `y`, the sums. -/
structure St (F : FTy → Type) where
  dx : Vec F S2048x1536 .f32
  dy : Tile F
  sm : Vec F S3x8x2048 .f32

/-- A tile as the ring holds it (one slot high), and back. -/
abbrev up (X : Tile F) : Vec F S1x512x1536 .f32 := shapeCast S1x512x1536 X squeezes_S1x512x1536_S512x1536.numel_eq.symm
abbrev dn (w : Vec F S1x512x1536 .f32) : Tile F := shapeCast S512x1536 w squeezes_S1x512x1536_S512x1536.numel_eq

section Trip
variable (I : Inputs F) (k : Fin k0_t1_loop.trips)

/-- The rows of `x` of trip `k`, their scales, and the scales of `y` spread over a tile. -/
abbrev xk : Vec F S1x512x1536 .fp8e4m3 := VecWindow.window I.x (k0_off10 k) S1x512x1536.size (k0_off10_inb k)
abbrev xsk : Vec F S1x1x512 .f32 := VecWindow.window I.xs (k0_off11 k) S1x1x512.size (k0_off11_inb k)
abbrev ysb : Vec F S512x128 .f32 := k0_pay4 I.ys

/-- The products, the mask of the diagonal, and the quotient the derivative is read off. -/
abbrev prodT : FVec F S512x512 .f32 := k0_pay14 I.t (xk I k) I.y (xsk I k) (ysb I)
abbrev maskT : IVec S512x512 1 := k0_pay15 I.bi I.bj 0#32 1#32 k
abbrev sgT : FVec F S512x512 .f32 := k0_pay19 I.bi I.bj I.t I.b 0#32 1#32 k (xk I k) I.y (xsk I k) (ysb I)
abbrev gT : FVec F S512x512 .f32 := k0_pay22 (maskT I k) (sgT I k)

/-- The sums after trip `k`. -/
def smT (m : Vec F S3x8x2048 .f32) : Vec F S3x8x2048 .f32 :=
  VecWindow.put
    (VecWindow.put
      (VecWindow.put m (k0_off12 k) S1x8x512.size
        (k0_pay23 (k0_pay16 I.bi I.bj I.t I.b 0#32 1#32 k (xk I k) I.y (xsk I k) (ysb I))
          (k0_pay17 I.bi I.bj I.t I.b 0#32 1#32 k (xk I k) I.y (xsk I k) (ysb I))
          (k0_pay18 I.bi I.bj I.t I.b 0#32 1#32 k (xk I k) I.y (xsk I k) (ysb I))
          (k0_pay20 I.bi I.bj I.t I.b 0#32 1#32 k (xk I k) I.y (xsk I k) (ysb I))
          k0_pay21
          (VecWindow.window m (k0_off12 k) S1x8x512.size (k0_off12_inb k))))
      (k0_off13 k) S1x8x512.size
      (k0_pay24 (prodT I k) (maskT I k) (sgT I k) (VecWindow.window m (k0_off13 k) S1x8x512.size (k0_off13_inb k))))
    (k0_off14 k) S1x8x512.size
    (k0_pay5 (k0_pay25 (maskT I k) (sgT I k) (VecWindow.window m (k0_off14 k) S1x8x512.size (k0_off14_inb k))))

/-- The gradient of `y` after trip `k`. -/
def dyT (X : Tile F) : Tile F := dn (k0_pay6 (k0_pay10 (xk I k)) (k0_pay12 (xsk I k)) (gT I k) (up X))

/-- The gradient of `x` after trip `k`. -/
def dxT (A : Vec F S2048x1536 .f32) : Vec F S2048x1536 .f32 :=
  VecWindow.put A (k0_off16 k) S512x1536.size
    (k0_pay7 (k0_pay11 I.y) (k0_pay13 (ysb I)) (gT I k) (VecWindow.window A (k0_off16 k) S512x1536.size (k0_off16_inb k)))

def tripV (s : St F) : St F := ⟨dxT I k s.dx, dyT I k s.dy, smT I k s.sm⟩

end Trip

/-- The state after the first `k` trips. -/
def tripsV (I : Inputs F) (s : St F) : ℕ → St F
  | 0 => s
  | k + 1 => if h : k < k0_t1_loop.trips then tripV I ⟨k, h⟩ (tripsV I s k) else tripsV I s k

theorem tripsV_succ (I : Inputs F) (s : St F) (k : Fin k0_t1_loop.trips) :
    tripsV I s (k.val + 1) = tripV I k (tripsV I s k.val) := dif_pos k.isLt

/-- The state after the point. -/
def pointV (I : Inputs F) (s : St F) : St F := tripsV I s k0_t1_loop.trips

/-- The state a point starts from: the first row block clears the tile of `y`, the first column block the rest. -/
def startV (zi zj : Prop) [Decidable zi] [Decidable zj] (s : St F) : St F :=
  ⟨if zj then k0_pay2 else s.dx, if zi then dn k0_pay1 else s.dy, if zj then k0_pay3 else s.sm⟩

/-- The states after every point, given what each reads: the tile of `y` comes from 48 points before. -/
def stateV (inp : ℕ → Inputs F) (n : ℕ) : St F :=
  pointV (inp n)
    ⟨if h : n % 48 = 0 then k0_pay2 else (stateV inp (n - 1)).dx,
      if h : n / 48 % 12 = 0 then dn k0_pay1 else (stateV inp (n - 48)).dy,
      if h : n % 48 = 0 then k0_pay3 else (stateV inp (n - 1)).sm⟩
  termination_by n
  decreasing_by all_goals omega

end Cert.Proof.Real

end
-- ==== Proof.Real.Pieces.lean ====
/-
  THE PIECES the body works on: a slot of the ring held with a matrix in it, a column block of the accumulator held
  with a matrix in it, a load or a store between the two in flight.
-/
module

public import proofs.«01_k».proof.Proof.Real.Names
public import proofs.«01_k».proof.Proof.Real.Vals

@[expose] public section

noncomputable section

namespace Cert.Proof.Real

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

section
variable (c : Dev nD)

abbrev lcellP (s : Fin 3) : sProp 𝕄 := semVal ((c : Thread nD τ), SemLoc.dma (lsm s).sem) 0
abbrev scellP (s : Fin 3) : sProp 𝕄 := semVal ((c : Thread nD τ), SemLoc.dma (ssm s).sem) 0
/-- Slot `s` held at contents `f`; column block `j` of the accumulator held at contents `g`. -/
abbrev slotP (s : Fin 3) (f : Buf (Elt F) ((rslot s).view.loc (c : Thread nD τ))) : sProp 𝕄 :=
  (rslot s).view.loc (c : Thread nD τ) ↦[(rslot s).view.set]{fullShare} f
abbrev homeP (j : Fin 48) (g : Buf (Elt F) ((blk j).view.loc (c : Thread nD τ))) : sProp 𝕄 :=
  (blk j).view.loc (c : Thread nD τ) ↦[(blk j).view.set]{fullShare} g
/-- What a load of block `j` at `g` leaves in slot `s`; what a store of slot `s` at `f` leaves in block `j`. -/
abbrev loaded (s : Fin 3) (j : Fin 48) (f : Buf (Elt F) ((rslot s).view.loc (c : Thread nD τ))) (g : Buf (Elt F) ((blk j).view.loc (c : Thread nD τ))) : Buf (Elt F) ((rslot s).view.loc (c : Thread nD τ)) :=
  (rslot s).view.writes (Elt F) f [⟨Rect.whole S512x1536, ReadAs.same.apply ((blk j).view.read (Elt F) g)⟩]
abbrev stored (s : Fin 3) (j : Fin 48) (f : Buf (Elt F) ((rslot s).view.loc (c : Thread nD τ))) (g : Buf (Elt F) ((blk j).view.loc (c : Thread nD τ))) : Buf (Elt F) ((blk j).view.loc (c : Thread nD τ)) :=
  (blk j).view.writes (Elt F) g [⟨Rect.whole S512x1536, ReadAs.same.apply ((rslot s).view.read (Elt F) f)⟩]
/-- A load, a store, in flight. -/
abbrev loadP (s : Fin 3) (j : Fin 48) (f : Buf (Elt F) ((rslot s).view.loc (c : Thread nD τ))) (g : Buf (Elt F) ((blk j).view.loc (c : Thread nD τ))) : sProp 𝕄 :=
  Transfers.Flight countersEmb (c : Thread nD τ) (SemLoc.dma (lsm s).sem) () 98304 iprop(slotP c s (loaded c s j f g) ∗ homeP c j g)
abbrev storeP (s : Fin 3) (j : Fin 48) (f : Buf (Elt F) ((rslot s).view.loc (c : Thread nD τ))) (g : Buf (Elt F) ((blk j).view.loc (c : Thread nD τ))) : sProp 𝕄 :=
  Transfers.Flight countersEmb (c : Thread nD τ) (SemLoc.dma (ssm s).sem) () 98304 iprop(homeP c j (stored c s j f g) ∗ slotP c s f)

end

/-! ## The same, holding a given matrix -/

section
variable (c : Dev nD)

/-- Slot `s` held, whatever is in it; slot `s` holding the matrix `X`. -/
def slotA (s : Fin 3) : sProp 𝕄 := iprop(∃ f, slotP c s f)
def slotV (s : Fin 3) (X : Tile F) : sProp 𝕄 := iprop(∃ f, slotP c s f ∗ ⌜(rslot s).view.read (Elt F) f = X⌝)
/-- Column block `j` of the accumulator holding the matrix `X`. -/
def homeV (j : Fin 48) (X : Tile F) : sProp 𝕄 := iprop(∃ g, homeP c j g ∗ ⌜(blk j).view.read (Elt F) g = X⌝)
/-- The matrix `X` on its way from column block `j` into slot `s`, and from slot `s` into column block `j`. -/
def loadV (s : Fin 3) (j : Fin 48) (X : Tile F) : sProp 𝕄 := iprop(∃ f g, loadP c s j f g ∗ ⌜(blk j).view.read (Elt F) g = X⌝)
def storeV (s : Fin 3) (j : Fin 48) (X : Tile F) : sProp 𝕄 := iprop(∃ f g, storeP c s j f g ∗ ⌜(rslot s).view.read (Elt F) f = X⌝)

/-- A whole-shape piece, written last, is what the view reads. -/
theorem read_writes_whole {sig : RefSig} {κ : Kind} {sp : Space} {s : Shape} {e : EltTy} {Val : EltTy → Type} (v : View sig κ sp s e)
    (f : v.ty.Contents Val) (w : (Rect.whole s).shape.Idx → Val e) :
    v.read Val (v.writes Val f [⟨Rect.whole s, w⟩]) = w := by
  funext y
  have h := View.read_writes_cons_emb v f (Rect.whole s) w [] y
  rwa [Rect.emb_whole_apply] at h

/-- The slot loaded whole through the ring is the tile it holds, one slot high. -/
theorem readAt_slot (s : Fin 3) {off : Fin 3 → Nat} (e : off = slotOff s) (inb) (f : Buf (Elt F) ((rslot s).view.loc (c : Thread nD τ))) :
    bufM.view.readAt (Elt F) (Rect.unit (s := S3x512x1536) off S1x512x1536.size inb).toLoadRect f = up ((rslot s).view.read (Elt F) f) := by
  subst e
  funext z
  show bufM.view.read (Elt F) f _ = bufM.view.read (Elt F) f ((Rect.unit (s := S3x512x1536) (slotOff s) S1x512x1536.size (slotOff_inb s)).emb (Shape.reshapeEquiv _ (Shape.reshapeEquiv _ z)))
  rw [Shape.reshapeEquiv_reshapeEquiv, Shape.reshapeEquiv_self]
  rfl

/-- The tile a slot holds after the slot is stored whole through the ring. -/
theorem read_slot_write (s : Fin 3) {off : Fin 3 → Nat} (e : off = slotOff s) (inb) (f : Buf (Elt F) ((rslot s).view.loc (c : Thread nD τ)))
    (w : (Rect.unit (s := S3x512x1536) off S1x512x1536.size inb).shape.Idx → Elt F .f32) :
    (rslot s).view.read (Elt F) ((bufM.access (Rect.unit (s := S3x512x1536) off S1x512x1536.size inb)).write (Elt F) f w Finset.univ) = dn w := by
  subst e
  funext y
  have h := View.read_write_univ (Val := Elt F) (v := bufM.view.slice (Rect.unit (s := S3x512x1536) (slotOff s) S1x512x1536.size inb)) f w
  exact congrFun h (Shape.reshapeEquiv squeezes_S1x512x1536_S512x1536.numel_eq y)

theorem read_loaded (s : Fin 3) (j : Fin 48) (f g) :
    (rslot s).view.read (Elt F) (loaded c s j f g) = (blk j).view.read (Elt F) g :=
  read_writes_whole _ _ _

theorem read_stored (s : Fin 3) (j : Fin 48) (f g) :
    (blk j).view.read (Elt F) (stored c s j f g) = (rslot s).view.read (Elt F) f :=
  read_writes_whole _ _ _

end

end Cert.Proof.Real

end
-- ==== Proof.Real.Start.lean ====
/-
  THE START OF THE BODY: the two numbers are read; the store begun two points ago is waited for, if there was one; the
  load for the next point is begun, if it needs one; and the load for this point is waited for, if there is one.
-/
module

public import proofs.«01_k».proof.Proof.Real.Pieces

@[expose] public section

set_option maxRecDepth 8192
set_option maxHeartbeats 4000000

noncomputable section

namespace Cert.Proof.Real

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

variable (c : Dev nD) (t : Fin cfg0.N)
  (arg3 : Memref sig .tc .smem S1 .f32) (harg3 : arg3.IsWhole) (arg4 : Memref sig .tc .smem S1 .f32) (harg4 : arg4.IsWhole)
  (arg5 : Memref sig .tc .vmem S1x2048x1536 .fp8e4m3) (harg5 : arg5.IsWhole) (arg6 : Memref sig .tc .vmem S1x512x1536 .fp8e4m3) (harg6 : arg6.IsWhole)
  (arg7 : Memref sig .tc .vmem S1x1x2048 .f32) (harg7 : arg7.IsWhole) (arg8 : Memref sig .tc .vmem S1x1x512 .f32) (harg8 : arg8.IsWhole)
  (arg9 : Memref sig .tc .vmem S1x1x2048 .f32) (harg9 : arg9.IsWhole) (arg10 : Memref sig .tc .vmem S1x2048x1536 .bf16) (harg10 : arg10.IsWhole)
  (arg11 : Memref sig .tc .vmem S1x512x1536 .bf16) (harg11 : arg11.IsWhole) (arg12 : Memref sig .tc .vmem S1x1x2048 .f32) (harg12 : arg12.IsWhole)
  (arg13 : Memref sig .tc .vmem S1x1x2048 .f32) (harg13 : arg13.IsWhole)
  (arg15 : Memref sig .tc .vmem S2048x1536 .f32) (harg15 : arg15.IsWhole)
  (arg17 : Memref sig .tc .vmem S512x128 .f32) (harg17 : arg17.IsWhole) (arg18 : Memref sig .tc .vmem S3x8x2048 .f32) (harg18 : arg18.IsWhole)

abbrev part4P : Prog (TpuEff nD τ sig (Elt F) Λ₀ .tc) (Σ' (arg1 : BitVec 32) (arg2 : BitVec 32) (v4 : BitVec 32) (v5 : Elt F .f32), Elt F .f32) :=
  k0_part4 (F := F) (grid0.coords t) arg3 harg3 arg4 harg4 arg5 harg5 arg6 harg6 arg7 harg7 arg8 harg8 arg9 harg9 arg10 harg10 arg11 harg11 arg12 harg12 arg13 harg13 accM (Memref.isWhole_whole _) arg15 harg15 bufM (Memref.isWhole_whole _) arg17 harg17 arg18 harg18 cc0_scratch4 cc0_scratch5

/-- Whether this point waits for a store, begins a load, waits for a load. -/
def waitsStore (n : ℕ) : Prop := 2 ≤ n ∧ iof (n - 2) < 11
def beginsLoad (n : ℕ) : Prop := n + 1 < 1152 ∧ 0 < iof (n + 1)
def waitsLoad (n : ℕ) : Prop := 0 < iof n
instance (n : ℕ) : Decidable (waitsStore n) := inferInstanceAs (Decidable (2 ≤ n ∧ iof (n - 2) < 11))
instance (n : ℕ) : Decidable (beginsLoad n) := inferInstanceAs (Decidable (n + 1 < 1152 ∧ 0 < iof (n + 1)))
instance (n : ℕ) : Decidable (waitsLoad n) := inferInstanceAs (Decidable (0 < iof n))

/-- The one element of a one-element array. -/
abbrev the1 (X : S1.Idx → Elt F .f32) : Elt F .f32 := X (Shape.Idx.first (s := S1) (by decide))

section
variable (jp : Fin 48) (X2 Xn X0 : Tile F)

/-- The slot, semaphores and column blocks the start of the body works on, before it, -/
def startPre : sProp 𝕄 :=
  iprop((if waitsStore t.val then storeV c (sof (t.val + 1)) jp X2 else iprop(slotA c (sof (t.val + 1)) ∗ scellP c (sof (t.val + 1))))
    ∗ lcellP c (sof (t.val + 1)) ∗ (if beginsLoad t.val then homeV c (jof (t.val + 1)) Xn else iprop(emp))
    ∗ (if waitsLoad t.val then loadV c (sof t.val) (jof t.val) X0 else iprop(slotA c (sof t.val) ∗ lcellP c (sof t.val))))
/-- and after it. -/
def startPost : sProp 𝕄 :=
  iprop((if waitsStore t.val then homeV c jp X2 else iprop(emp)) ∗ scellP c (sof (t.val + 1))
    ∗ (if beginsLoad t.val then loadV c (sof (t.val + 1)) (jof (t.val + 1)) Xn else iprop(slotA c (sof (t.val + 1)) ∗ lcellP c (sof (t.val + 1))))
    ∗ (if waitsLoad t.val then iprop(homeV c (jof t.val) X0 ∗ slotV c (sof t.val) X0) else slotA c (sof t.val))
    ∗ lcellP c (sof t.val))

theorem part4_run (f3 f4) (W) (Q) :
    iprop((arg3.view.loc (c : Thread nD τ) ↦[arg3.view.set]{fullShare} f3) ∗ (arg4.view.loc (c : Thread nD τ) ↦[arg4.view.set]{fullShare} f4) ∗ startPre c t jp X2 Xn X0 ∗ owes (c : Thread nD τ) 0 W
        ∗ (∀ v4, (arg3.view.loc (c : Thread nD τ) ↦[arg3.view.set]{fullShare} f3) ∗ (arg4.view.loc (c : Thread nD τ) ↦[arg4.view.set]{fullShare} f4) ∗ startPost c t jp X2 Xn X0 ∗ (∃ W, owes (c : Thread nD τ) 0 W)
            -∗ Q ⟨BitVec.ofNat 32 ((grid0.coords t) 1).val, BitVec.ofNat 32 ((grid0.coords t) 2).val, v4, the1 (arg3.view.read (Elt F) f3), the1 (arg4.view.read (Elt F) f4)⟩))
      ⊢ wp frame (wpE (defs₀ (F := F)) 𝒱₀ (c : Thread nD τ) none) Set.univ (part4P t arg3 harg3 arg4 harg4 arg5 harg5 arg6 harg6 arg7 harg7 arg8 harg8 arg9 harg9 arg10 harg10 arg11 harg11 arg12 harg12 arg13 harg13 arg15 harg15 arg17 harg17 arg18 harg18) Q := by
  unfold startPre startPost storeV loadV slotA slotV homeV
  by_cases c1 : waitsStore t.val <;> by_cases c2 : beginsLoad t.val <;> by_cases c3 : waitsLoad t.val <;>
    simp only [c1, c2, c3, if_true, if_false]
  all_goals
    first | have h1 := (cond1_iff t).mpr c1 | have h1 := mt (cond1_iff t).mp c1
    first | have h2 := (cond2_iff t).mpr c2 | have h2 := mt (cond2_iff t).mp c2
    first | have h3 := (cond3_iff t).mpr c3 | have h3 := mt (cond3_iff t).mp c3
    iintro ⟨H3, H4, ⟨HA, HLc, HB, HC⟩, HW, Hk⟩
    first | icases HA with ⟨%fs, %gs, HS, %e2⟩ | icases HA with ⟨⟨%fs, HSl⟩, HS⟩
    first | icases HB with ⟨%gn, HN, %en⟩ | icases HB with -
    first | icases HC with ⟨%fl, %gl, HL, %e0⟩ | icases HC with ⟨⟨%fl, HSl0⟩, HL⟩
    sl_exec
    sl_step
    first
      | unfold part4_run.sl.r part4_run.sl.r_1
      | unfold part4_run.sl.r_2 part4_run.sl.r_3
      | unfold part4_run.sl.r_4 part4_run.sl.r_5
      | unfold part4_run.sl.r_6 part4_run.sl.r_7
      | unfold part4_run.sl.r_8 part4_run.sl.r_9
      | unfold part4_run.sl.r_10 part4_run.sl.r_11
      | unfold part4_run.sl.r_12 part4_run.sl.r_13
      | unfold part4_run.sl.r_14 part4_run.sl.r_15
    rw [View.readAt_full, View.readAt_full]
    iapply Hk
    isplitl [H3]; · iexact H3
    isplitl [H4]; · iexact H4
    isplitr [HW]
    · first
        | isplitl [HS_dst]; · iexists _; isplitl [HS_dst]; · iexact HS_dst
                              ipureintro; exact (read_stored c _ _ _ _).trans e2
        | isplitr; · iempintro
      isplitl [HS]; · iexact HS
      first
        | isplitl [HLc]; · iexists _, _; isplitl [HLc]; · iexact HLc
                           ipureintro; exact en
        | isplitl [HLc HS_src]; · isplitl [HS_src]; · iexists _; iexact HS_src
                                  iexact HLc
        | isplitl [HLc HSl]; · isplitl [HSl]; · iexists _; iexact HSl
                               iexact HLc
      isplitr [HL]
      · first
          | isplitl [HL_src]; · iexists _; isplitl [HL_src]; · iexact HL_src
                                ipureintro; exact e0
            iexists _; isplitl [HL_dst]; · iexact HL_dst
            ipureintro; exact (read_loaded c _ _ _ _).trans e0
          | iexists _; iexact HSl0
      iexact HL
    iexists _; iexact HW

end

end Cert.Proof.Real

end
-- ==== Proof.Real.Trip.lean ====
/-
  ONE TRIP of the kernel's loop over the 512-row units of its row block, and the loop: what the three arrays it
  changes hold afterwards, as the functions of `Vals.lean`.
-/
module

public import proofs.«01_k».proof.Proof.Real.Pieces

@[expose] public section

set_option maxRecDepth 8192
set_option maxHeartbeats 4000000

noncomputable section

namespace Cert.Proof.Real

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

variable (c : Dev nD) (t : Fin cfg0.N)
  (arg3 : Memref sig .tc .smem S1 .f32) (harg3 : arg3.IsWhole) (arg4 : Memref sig .tc .smem S1 .f32) (harg4 : arg4.IsWhole)
  (arg5 : Memref sig .tc .vmem S1x2048x1536 .fp8e4m3) (harg5 : arg5.IsWhole) (arg6 : Memref sig .tc .vmem S1x512x1536 .fp8e4m3) (harg6 : arg6.IsWhole)
  (arg7 : Memref sig .tc .vmem S1x1x2048 .f32) (harg7 : arg7.IsWhole) (arg8 : Memref sig .tc .vmem S1x1x512 .f32) (harg8 : arg8.IsWhole)
  (arg9 : Memref sig .tc .vmem S1x1x2048 .f32) (harg9 : arg9.IsWhole) (arg10 : Memref sig .tc .vmem S1x2048x1536 .bf16) (harg10 : arg10.IsWhole)
  (arg11 : Memref sig .tc .vmem S1x512x1536 .bf16) (harg11 : arg11.IsWhole) (arg12 : Memref sig .tc .vmem S1x1x2048 .f32) (harg12 : arg12.IsWhole)
  (arg13 : Memref sig .tc .vmem S1x1x2048 .f32) (harg13 : arg13.IsWhole)
  (arg15 : Memref sig .tc .vmem S2048x1536 .f32) (harg15 : arg15.IsWhole)
  (arg17 : Memref sig .tc .vmem S512x128 .f32) (harg17 : arg17.IsWhole) (arg18 : Memref sig .tc .vmem S3x8x2048 .f32) (harg18 : arg18.IsWhole)

abbrev tripP (a1 a2 : BitVec 32) (v5 v6 : Elt F .f32) : Fin k0_t1_loop.trips → Unit → Prog (TpuEff nD τ sig (Elt F) Λ₀ .tc) Unit :=
  k0_t1_body (F := F) (grid0.coords t) arg3 harg3 arg4 harg4 arg5 harg5 arg6 harg6 arg7 harg7 arg8 harg8 arg9 harg9 arg10 harg10 arg11 harg11 arg12 harg12 arg13 harg13
    accM (Memref.isWhole_whole _) arg15 harg15 bufM (Memref.isWhole_whole _) arg17 harg17
    arg18 harg18 cc0_scratch4 cc0_scratch5 a1 a2 v5 v6

/-- What a trip reads, held at contents that read as `I`. -/
def readsP (I : Inputs F) : sProp 𝕄 :=
  iprop(∃ f5 f6 f7 f17, (arg5.view.loc (c : Thread nD τ) ↦[arg5.view.set]{fullShare} f5) ∗ (arg6.view.loc (c : Thread nD τ) ↦[arg6.view.set]{fullShare} f6)
    ∗ (arg7.view.loc (c : Thread nD τ) ↦[arg7.view.set]{fullShare} f7) ∗ (arg17.view.loc (c : Thread nD τ) ↦[arg17.view.set]{fullShare} f17)
    ∗ ⌜arg5.view.read (Elt F) f5 = I.x ∧ arg6.view.read (Elt F) f6 = I.y ∧ arg7.view.read (Elt F) f7 = I.xs ∧ arg17.view.read (Elt F) f17 = ysb I⌝)

/-- What a trip changes, held at contents that read as `s`. -/
def stP (s : St F) : sProp 𝕄 :=
  iprop(∃ f15 f16 f18, (arg15.view.loc (c : Thread nD τ) ↦[arg15.view.set]{fullShare} f15) ∗ slotP c (sof t.val) f16
    ∗ (arg18.view.loc (c : Thread nD τ) ↦[arg18.view.set]{fullShare} f18)
    ∗ ⌜arg15.view.read (Elt F) f15 = s.dx ∧ (rslot (sof t.val)).view.read (Elt F) f16 = s.dy ∧ arg18.view.read (Elt F) f18 = s.sm⌝)

attribute [local irreducible] k0_pay5 k0_pay6 k0_pay7 k0_pay10 k0_pay11 k0_pay12 k0_pay13 k0_pay14 k0_pay15 k0_pay16 k0_pay17 k0_pay18 k0_pay19 k0_pay20 k0_pay21 k0_pay22 k0_pay23 k0_pay24 k0_pay25 in
theorem trip_run (I : Inputs F) (k : Fin k0_t1_loop.trips) (s : St F) (Q) :
    iprop(readsP c arg5 arg6 arg7 arg17 I ∗ stP c t arg15 arg18 s
        ∗ (∀ r, readsP c arg5 arg6 arg7 arg17 I ∗ stP c t arg15 arg18 (tripV I k s) -∗ Q r))
      ⊢ wp frame (wpE (defs₀ (F := F)) 𝒱₀ (c : Thread nD τ) none) Set.univ (tripP t arg3 harg3 arg4 harg4 arg5 harg5 arg6 harg6 arg7 harg7 arg8 harg8 arg9 harg9 arg10 harg10 arg11 harg11 arg12 harg12 arg13 harg13 arg15 harg15 arg17 harg17 arg18 harg18 I.bi I.bj I.t I.b k ()) Q := by
  have hk : k.val < 4 := Nat.lt_of_lt_of_le k.isLt k0_t1_abs.2.1
  dsimp only [tripP]
  unfold k0_t1_body readsP stP
  iintro ⟨⟨%f5, %f6, %f7, %f17, H5, H6, H7, H17, %hr⟩, ⟨%f15, %f16, %f18, H15, H16, H18, %hs⟩, Hk⟩
  sl_exec
  sl_step
  iapply Hk
  isplitl [H5 H6 H7 H17]
  · iexists f5, f6, f7, f17
    isplitl [H5]; · iexact H5
    isplitl [H6]; · iexact H6
    isplitl [H7]; · iexact H7
    isplitl [H17]; · iexact H17
    ipureintro; exact hr
  iexists _, _, _
  isplitl [H15]; · iexact H15
  isplitl [H16]; · iexact H16
  isplitl [H18]; · iexact H18
  ipureintro
  obtain ⟨h5, h6, h7, h17⟩ := hr
  obtain ⟨h15, h16, h18⟩ := hs
  have e5 : arg5.view.readAt (Elt F) (Rect.unit (s := S1x2048x1536) (k0_off10 k) S1x512x1536.size (k0_off10_inb k)).toLoadRect f5 = xk I k := by
    rw [View.readAt_unit _ _ _ rfl (k0_off10_inb k), h5]
  have e6 : arg6.view.readAt (Elt F) (Rect.unit (s := S1x512x1536) ![0, 0, 0] S1x512x1536.size inb_S1x512x1536_S1x512x1536_0_0_0).toLoadRect f6 = I.y := by
    rw [View.readAt_full, h6]
  have e7 : arg7.view.readAt (Elt F) (Rect.unit (s := S1x1x2048) (k0_off11 k) S1x1x512.size (k0_off11_inb k)).toLoadRect f7 = xsk I k := by
    rw [View.readAt_unit _ _ _ rfl (k0_off11_inb k), h7]
  have e17 : arg17.view.readAt (Elt F) (Rect.unit (s := S512x128) ![0, 0] S512x128.size inb_S512x128_S512x128_0_0).toLoadRect f17 = ysb I := by
    rw [View.readAt_full, h17]
  have e15 : arg15.view.readAt (Elt F) (Rect.unit (s := S2048x1536) (k0_off16 k) S512x1536.size (k0_off16_inb k)).toLoadRect f15
      = VecWindow.window s.dx (k0_off16 k) S512x1536.size (k0_off16_inb k) := by
    rw [View.readAt_unit _ _ _ rfl (k0_off16_inb k), h15]
  have e12 : arg18.view.readAt (Elt F) (Rect.unit (s := S3x8x2048) (k0_off12 k) S1x8x512.size (k0_off12_inb k)).toLoadRect f18
      = VecWindow.window s.sm (k0_off12 k) S1x8x512.size (k0_off12_inb k) := by
    rw [View.readAt_unit _ _ _ rfl (k0_off12_inb k), h18]
  have e13 : arg18.view.readAt (Elt F) (Rect.unit (s := S3x8x2048) (k0_off13 k) S1x8x512.size (k0_off13_inb k)).toLoadRect f18
      = VecWindow.window s.sm (k0_off13 k) S1x8x512.size (k0_off13_inb k) := by
    rw [View.readAt_unit _ _ _ rfl (k0_off13_inb k), h18]
  have e14 : arg18.view.readAt (Elt F) (Rect.unit (s := S3x8x2048) (k0_off14 k) S1x8x512.size (k0_off14_inb k)).toLoadRect f18
      = VecWindow.window s.sm (k0_off14 k) S1x8x512.size (k0_off14_inb k) := by
    rw [View.readAt_unit _ _ _ rfl (k0_off14_inb k), h18]
  refine ⟨?_, ?_, ?_⟩
  · rw [View.read_writes_cons_put _ _ _ _ _ rfl, View.writes_nil, h15, e15]
    unfold trip_run.sl.r_1 trip_run.sl.r_3 trip_run.sl.r_11 trip_run.sl.r_5 trip_run.sl.r_9
    rw [e5, e6, e7, e17]
    exact rfl
  · unfold trip_run.sl.H16_w1
    rw [read_slot_write c (sof t.val) (off15_eq t), readAt_slot c (sof t.val) (off15_eq t), h16]
    unfold trip_run.sl.r trip_run.sl.r_2 trip_run.sl.r_11 trip_run.sl.r_5 trip_run.sl.r_9
    rw [e5, e6, e7, e17]
    exact rfl
  · rw [View.read_writes_cons_put _ _ _ _ _ rfl, View.read_writes_cons_put _ _ _ _ _ rfl, View.read_writes_cons_put _ _ _ _ _ rfl, View.writes_nil, h18, e12]
    unfold trip_run.sl.r_6 trip_run.sl.r_7 trip_run.sl.r_8 trip_run.sl.r_10 trip_run.sl.r_4 trip_run.sl.r_12 trip_run.sl.r_5 trip_run.sl.r_9 trip_run.sl.v118 trip_run.sl.v129
    rw [e5, e6, e7, e17, e13, e14]
    exact rfl

theorem loop_run (I : Inputs F) (s : St F) (Q) :
    iprop(readsP c arg5 arg6 arg7 arg17 I ∗ stP c t arg15 arg18 s
        ∗ (∀ r, readsP c arg5 arg6 arg7 arg17 I ∗ stP c t arg15 arg18 (pointV I s) -∗ Q r))
      ⊢ wp frame (wpE (defs₀ (F := F)) 𝒱₀ (c : Thread nD τ) none) Set.univ (Scf.Loop.for k0_t1_loop k0_t1_ok () (tripP t arg3 harg3 arg4 harg4 arg5 harg5 arg6 harg6 arg7 harg7 arg8 harg8 arg9 harg9 arg10 harg10 arg11 harg11 arg12 harg12 arg13 harg13 arg15 harg15 arg17 harg17 arg18 harg18 I.bi I.bj I.t I.b)) Q := by
  iintro ⟨HR, HS, Hk⟩
  iapply (Scf.wp_for frame (wpE (defs₀ (F := F)) 𝒱₀ (c : Thread nD τ) none) Set.univ k0_t1_loop.lb k0_t1_loop.ub k0_t1_loop.st k0_t1_ok () (tripP t arg3 harg3 arg4 harg4 arg5 harg5 arg6 harg6 arg7 harg7 arg8 harg8 arg9 harg9 arg10 harg10 arg11 harg11 arg12 harg12 arg13 harg13 arg15 harg15 arg17 harg17 arg18 harg18 I.bi I.bj I.t I.b)
    (fun n _ => iprop(readsP c arg5 arg6 arg7 arg17 I ∗ stP c t arg15 arg18 (tripsV I s n)))
    (fun k _ => by
      iintro ⟨HR, HS⟩
      iapply (trip_run c t arg3 harg3 arg4 harg4 arg5 harg5 arg6 harg6 arg7 harg7 arg8 harg8 arg9 harg9 arg10 harg10 arg11 harg11 arg12 harg12 arg13 harg13 arg15 harg15 arg17 harg17 arg18 harg18 I k (tripsV I s k.val))
      isplitl [HR]; · iexact HR
      isplitl [HS]; · iexact HS
      rw [tripsV_succ]
      iintro %r H
      iexact H))
  isplitl [HR HS]
  · isplitl [HR]; · iexact HR
    iexact HS
  · iintro %r H
    iapply Hk; iexact H

end Cert.Proof.Real

end
-- ==== Proof.Real.Tail.lean ====
/-
  THE END OF THE BODY, after the loop: the slot is sent home while more row blocks follow, or goes out to the gradient
  of `y` at the last one; at the last column block the gradient of `x` and the three sums go out.
-/
module

public import proofs.«01_k».proof.Proof.Real.Trip

@[expose] public section

set_option maxRecDepth 8192
set_option maxHeartbeats 4000000

noncomputable section

namespace Cert.Proof.Real

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

variable (c : Dev nD) (t : Fin cfg0.N)
  (arg3 : Memref sig .tc .smem S1 .f32) (harg3 : arg3.IsWhole) (arg4 : Memref sig .tc .smem S1 .f32) (harg4 : arg4.IsWhole)
  (arg5 : Memref sig .tc .vmem S1x2048x1536 .fp8e4m3) (harg5 : arg5.IsWhole) (arg6 : Memref sig .tc .vmem S1x512x1536 .fp8e4m3) (harg6 : arg6.IsWhole)
  (arg7 : Memref sig .tc .vmem S1x1x2048 .f32) (harg7 : arg7.IsWhole) (arg8 : Memref sig .tc .vmem S1x1x512 .f32) (harg8 : arg8.IsWhole)
  (arg9 : Memref sig .tc .vmem S1x1x2048 .f32) (harg9 : arg9.IsWhole) (arg10 : Memref sig .tc .vmem S1x2048x1536 .bf16) (harg10 : arg10.IsWhole)
  (arg11 : Memref sig .tc .vmem S1x512x1536 .bf16) (harg11 : arg11.IsWhole) (arg12 : Memref sig .tc .vmem S1x1x2048 .f32) (harg12 : arg12.IsWhole)
  (arg13 : Memref sig .tc .vmem S1x1x2048 .f32) (harg13 : arg13.IsWhole)
  (arg15 : Memref sig .tc .vmem S2048x1536 .f32) (harg15 : arg15.IsWhole)
  (arg17 : Memref sig .tc .vmem S512x128 .f32) (harg17 : arg17.IsWhole) (arg18 : Memref sig .tc .vmem S3x8x2048 .f32) (harg18 : arg18.IsWhole)

/-- The body from the loop's end on, as the program has it. -/
def tailP (i : grid0.Coords) (arg3 : Memref sig .tc .smem S1 .f32) (harg3 : arg3.IsWhole) (arg4 : Memref sig .tc .smem S1 .f32) (harg4 : arg4.IsWhole) (arg5 : Memref sig .tc .vmem S1x2048x1536 .fp8e4m3) (harg5 : arg5.IsWhole) (arg6 : Memref sig .tc .vmem S1x512x1536 .fp8e4m3) (harg6 : arg6.IsWhole) (arg7 : Memref sig .tc .vmem S1x1x2048 .f32) (harg7 : arg7.IsWhole) (arg8 : Memref sig .tc .vmem S1x1x512 .f32) (harg8 : arg8.IsWhole) (arg9 : Memref sig .tc .vmem S1x1x2048 .f32) (harg9 : arg9.IsWhole) (arg10 : Memref sig .tc .vmem S1x2048x1536 .bf16) (harg10 : arg10.IsWhole) (arg11 : Memref sig .tc .vmem S1x512x1536 .bf16) (harg11 : arg11.IsWhole) (arg12 : Memref sig .tc .vmem S1x1x2048 .f32) (harg12 : arg12.IsWhole) (arg13 : Memref sig .tc .vmem S1x1x2048 .f32) (harg13 : arg13.IsWhole) (arg14 : Memref sig .tc .hbm S24576x1536 .f32) (harg14 : arg14.IsWhole) (arg15 : Memref sig .tc .vmem S2048x1536 .f32) (harg15 : arg15.IsWhole) (arg16 : Memref sig .tc .vmem S3x512x1536 .f32) (harg16 : arg16.IsWhole) (arg17 : Memref sig .tc .vmem S512x128 .f32) (harg17 : arg17.IsWhole) (arg18 : Memref sig .tc .vmem S3x8x2048 .f32) (harg18 : arg18.IsWhole) (arg19 : DmaSems sig S3) (arg20 : DmaSems sig S3) (v5 : Elt F .f32) :
    Prog (TpuEff nD τ sig (Elt F) Λ₀ .tc) PUnit := do
  if k0_h6 : k0_cond6 i = 1#1 then do
    let v53 : DmaSems sig S1 := arg20.slice (Rect.unit (s := S3) (k0_off17 i) S1.size (k0_off17_inb i k0_h6))
    let v54 : DmaSems sig S_ := v53.squeeze S_ squeezes_S1_S_
    let v55 : Memref sig .tc .hbm S512x1536 .f32 := arg14.slice (Rect.unit (s := S24576x1536) (k0_off18 i) S512x1536.size (k0_off18_inb i k0_h6)) (fun _ => rfl)
    let v56 : Memref sig .tc .vmem S1x512x1536 .f32 := arg16.slice (Rect.unit (s := S3x512x1536) (k0_off19 i) S1x512x1536.size (k0_off19_inb i k0_h6)) (fun _ => rfl)
    let v57 : Memref sig .tc .vmem S512x1536 .f32 := v56.squeeze S512x1536 squeezes_S1x512x1536_S512x1536
    Prog.lift (.enqueueDma v57 (.here v55) (.dma v54.sem) ((View.wordExact_bits rfl).reshape _ _) (View.wordExact_bits rfl) ⟨Or.inl rfl, trivial⟩)
    pure ⟨⟩
  else do
    pure ⟨⟩
  if k0_h7 : k0_cond7 i = 1#1 then do
    let v53 : Vec F S1x512x1536 .f32 ← Prog.lift (.load arg16 (Rect.unit (s := S3x512x1536) (k0_off20 i) S1x512x1536.size (k0_off20_inb i k0_h7)).toLoadRect (View.loadsAt_vmem h_S1x512x1536))
    let v58 : Vec F S1x512x1536 .bf16 ← Prog.lift (.load arg11 (Rect.unit (s := S1x512x1536) ![0, 0, 0] S1x512x1536.size inb_S1x512x1536_S1x512x1536_0_0_0).toLoadRect (View.loadsAt_vmem h_S1x512x1536))
    Prog.lift (.store arg11 (Rect.unit (s := S1x512x1536) ![0, 0, 0] S1x512x1536.size inb_S1x512x1536_S1x512x1536_0_0_0) (k0_pay8 v5 v53) Finset.univ (View.stores_vmem h_S1x512x1536 (harg11.storeExact_slice rfl _ packedbf16_S1x512x1536_S1x512x1536_0_0_0) (fun _ => rfl)) (.inl rfl))
    pure ⟨⟩
  else do
    pure ⟨⟩
  if k0_h8 : k0_cond8 i = 1#1 then do
    let v80 : FVec F S1x2048 .f32 ← k0_part3 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 v5
    let v81 : Vec F S1x1x2048 .f32 ← Prog.lift (.load arg13 (Rect.unit (s := S1x1x2048) ![0, 0, 0] S1x1x2048.size inb_S1x1x2048_S1x1x2048_0_0_0).toLoadRect (View.loadsAt_vmem h_S1x1x2048))
    Prog.lift (.store arg13 (Rect.unit (s := S1x1x2048) ![0, 0, 0] S1x1x2048.size inb_S1x1x2048_S1x1x2048_0_0_0) (k0_pay9 v80) Finset.univ (View.stores_vmem_bits_univ h_S1x1x2048 rfl) (.inl rfl))
    pure ⟨⟩
  else do
    pure ⟨⟩
  pure ⟨⟩

/-- The two running arrays in VMEM, held at contents that read as `A` and `M`. -/
def accP (A : Vec F S2048x1536 .f32) (M : Vec F S3x8x2048 .f32) : sProp 𝕄 :=
  iprop(∃ f15 f18, (arg15.view.loc (c : Thread nD τ) ↦[arg15.view.set]{fullShare} f15)
    ∗ (arg18.view.loc (c : Thread nD τ) ↦[arg18.view.set]{fullShare} f18)
    ∗ ⌜arg15.view.read (Elt F) f15 = A ∧ arg18.view.read (Elt F) f18 = M⌝)

/-- A memref left alone at contents `f`, or written to read as `X`. -/
def outP {sp : Space} {s : Shape} {e : EltTy} (a : Memref sig .tc sp s e) (p : Prop) [Decidable p] (f : Buf (Elt F) (a.view.loc (c : Thread nD τ))) (X : s.Idx → Elt F e) : sProp 𝕄 :=
  if p then iprop(∃ g, (a.view.loc (c : Thread nD τ) ↦[a.view.set]{fullShare} g) ∗ ⌜a.view.read (Elt F) g = X⌝)
  else (a.view.loc (c : Thread nD τ) ↦[a.view.set]{fullShare} f)

/-- The three rows of the sums. -/
abbrev sm0 (M : Vec F S3x8x2048 .f32) : Vec F S1x8x2048 .f32 := VecWindow.window M ![0, 0, 0] S1x8x2048.size inb_S3x8x2048_S1x8x2048_0_0_0
abbrev sm1 (M : Vec F S3x8x2048 .f32) : Vec F S1x8x2048 .f32 := VecWindow.window M ![1, 0, 0] S1x8x2048.size inb_S3x8x2048_S1x8x2048_1_0_0
abbrev sm2 (M : Vec F S3x8x2048 .f32) : Vec F S1x8x2048 .f32 := VecWindow.window M ![2, 0, 0] S1x8x2048.size inb_S3x8x2048_S1x8x2048_2_0_0

theorem outP_written {sp : Space} {s : Shape} {e : EltTy} (a : Memref sig .tc sp s e) (p : Prop) [Decidable p] (hp : p) (f g : Buf (Elt F) (a.view.loc (c : Thread nD τ)))
    (X : s.Idx → Elt F e) (hX : a.view.read (Elt F) g = X) :
    (a.view.loc (c : Thread nD τ) ↦[a.view.set]{fullShare} g : sProp 𝕄) ⊢ outP c a p f X := by
  unfold outP; rw [if_pos hp]
  iintro H
  iexists g
  isplitl [H]; · iexact H
  ipureintro; exact hX

theorem outP_kept {sp : Space} {s : Shape} {e : EltTy} (a : Memref sig .tc sp s e) (p : Prop) [Decidable p] (hp : ¬ p) (f : Buf (Elt F) (a.view.loc (c : Thread nD τ)))
    (X : s.Idx → Elt F e) :
    (a.view.loc (c : Thread nD τ) ↦[a.view.set]{fullShare} f : sProp 𝕄) ⊢ outP c a p f X := by
  unfold outP; rw [if_neg hp]

section Outs
attribute [local irreducible] k0_pay8 k0_pay9 k0_pay26 k0_pay27 k0_pay28 k0_pay29

theorem out9 (f9 : arg9.view.ty.Contents (Elt F)) (f18 : arg18.view.ty.Contents (Elt F)) {M} (h : arg18.view.read (Elt F) f18 = M) :
    arg9.view.read (Elt F) (arg9.view.writes (Elt F) f9 [⟨Rect.unit (s := S1x1x2048) ![0, 0, 0] S1x1x2048.size inb_S1x1x2048_S1x1x2048_0_0_0,
      k0_pay27 (arg18.view.readAt (Elt F) (Rect.unit (s := S3x8x2048) ![0, 0, 0] S1x8x2048.size inb_S3x8x2048_S1x8x2048_0_0_0).toLoadRect f18)⟩]) = k0_pay27 (sm0 M) := by
  rw [View.read_writes_full, View.readAt_unit _ _ _ rfl inb_S3x8x2048_S1x8x2048_0_0_0, h]
theorem out12 (f12 : arg12.view.ty.Contents (Elt F)) (f18 : arg18.view.ty.Contents (Elt F)) {M} (h : arg18.view.read (Elt F) f18 = M) :
    arg12.view.read (Elt F) (arg12.view.writes (Elt F) f12 [⟨Rect.unit (s := S1x1x2048) ![0, 0, 0] S1x1x2048.size inb_S1x1x2048_S1x1x2048_0_0_0,
      k0_pay28 (arg18.view.readAt (Elt F) (Rect.unit (s := S3x8x2048) ![1, 0, 0] S1x8x2048.size inb_S3x8x2048_S1x8x2048_1_0_0).toLoadRect f18)⟩]) = k0_pay28 (sm1 M) := by
  rw [View.read_writes_full, View.readAt_unit _ _ _ rfl inb_S3x8x2048_S1x8x2048_1_0_0, h]
theorem out13 (f13 : arg13.view.ty.Contents (Elt F)) (f18 : arg18.view.ty.Contents (Elt F)) {M} (h : arg18.view.read (Elt F) f18 = M) :
    arg13.view.read (Elt F) (arg13.view.writes (Elt F) f13 [⟨Rect.unit (s := S1x1x2048) ![0, 0, 0] S1x1x2048.size inb_S1x1x2048_S1x1x2048_0_0_0,
      k0_pay9 (k0_pay29 (arg18.view.readAt (Elt F) (Rect.unit (s := S3x8x2048) ![2, 0, 0] S1x8x2048.size inb_S3x8x2048_S1x8x2048_2_0_0).toLoadRect f18))⟩]) = k0_pay9 (k0_pay29 (sm2 M)) := by
  rw [View.read_writes_full, View.readAt_unit _ _ _ rfl inb_S3x8x2048_S1x8x2048_2_0_0, h]
theorem out10 (v5 : Elt F .f32) (f10 : arg10.view.ty.Contents (Elt F)) (f15 : arg15.view.ty.Contents (Elt F)) {A} (h : arg15.view.read (Elt F) f15 = A) :
    arg10.view.read (Elt F) (arg10.view.writes (Elt F) f10 [⟨Rect.unit (s := S1x2048x1536) ![0, 0, 0] S1x2048x1536.size inb_S1x2048x1536_S1x2048x1536_0_0_0,
      k0_pay26 v5 (arg15.view.readAt (Elt F) (Rect.unit (s := S2048x1536) ![0, 0] S2048x1536.size inb_S2048x1536_S2048x1536_0_0).toLoadRect f15)⟩]) = k0_pay26 v5 A := by
  rw [View.read_writes_full, View.readAt_full, h]
theorem out11 (v5 : Elt F .f32) (f11 : arg11.view.ty.Contents (Elt F)) (f16 : Buf (Elt F) ((rslot (sof t.val)).view.loc (c : Thread nD τ))) (inb) {X} (h : (rslot (sof t.val)).view.read (Elt F) f16 = X) :
    arg11.view.read (Elt F) (arg11.view.writes (Elt F) f11 [⟨Rect.unit (s := S1x512x1536) ![0, 0, 0] S1x512x1536.size inb_S1x512x1536_S1x512x1536_0_0_0,
      k0_pay8 v5 (bufM.view.readAt (Elt F) (Rect.unit (s := S3x512x1536) (k0_off20 (grid0.coords t)) S1x512x1536.size inb).toLoadRect f16)⟩]) = k0_pay8 v5 (up X) := by
  rw [View.read_writes_full, readAt_slot c (sof t.val) (off20_eq t), h]

theorem tail_run (v5 : Elt F .f32) (s : St F) (f9 f10 f11 f12 f13) (W) (Q) :
    iprop(stP c t arg15 arg18 s ∗ scellP c (sof t.val) ∗ (if iof t.val < 11 then iprop(∃ g, homeP c (jof t.val) g) else iprop(emp))
        ∗ (arg9.view.loc (c : Thread nD τ) ↦[arg9.view.set]{fullShare} f9) ∗ (arg10.view.loc (c : Thread nD τ) ↦[arg10.view.set]{fullShare} f10)
        ∗ (arg11.view.loc (c : Thread nD τ) ↦[arg11.view.set]{fullShare} f11) ∗ (arg12.view.loc (c : Thread nD τ) ↦[arg12.view.set]{fullShare} f12)
        ∗ (arg13.view.loc (c : Thread nD τ) ↦[arg13.view.set]{fullShare} f13) ∗ owes (c : Thread nD τ) 0 W
        ∗ (∀ r, accP c arg15 arg18 s.dx s.sm
            ∗ (if iof t.val < 11 then storeV c (sof t.val) (jof t.val) s.dy else iprop(slotV c (sof t.val) s.dy ∗ scellP c (sof t.val)))
            ∗ outP c arg9 (t.val % 48 = 47) f9 (k0_pay27 (sm0 s.sm)) ∗ outP c arg10 (t.val % 48 = 47) f10 (k0_pay26 v5 s.dx)
            ∗ outP c arg11 (iof t.val = 11) f11 (k0_pay8 v5 (up s.dy)) ∗ outP c arg12 (t.val % 48 = 47) f12 (k0_pay28 (sm1 s.sm))
            ∗ outP c arg13 (t.val % 48 = 47) f13 (k0_pay9 (k0_pay29 (sm2 s.sm))) ∗ (∃ W, owes (c : Thread nD τ) 0 W) -∗ Q r))
      ⊢ wp frame (wpE (defs₀ (F := F)) 𝒱₀ (c : Thread nD τ) none) Set.univ (tailP (grid0.coords t) arg3 harg3 arg4 harg4 arg5 harg5 arg6 harg6 arg7 harg7 arg8 harg8 arg9 harg9 arg10 harg10 arg11 harg11 arg12 harg12 arg13 harg13 accM (Memref.isWhole_whole _) arg15 harg15 bufM (Memref.isWhole_whole _) arg17 harg17 arg18 harg18 cc0_scratch4 cc0_scratch5 v5) Q := by
  unfold stP accP storeV slotV
  have hi11 : iof t.val < 12 := Nat.mod_lt _ (by decide)
  by_cases hi : iof t.val < 11
  · have h6 := (cond6_iff t).mpr hi
    have h7 : ¬ k0_cond7 (grid0.coords t) = 1#1 := fun h => by have := (cond7_iff t).mp h; omega
    have hi' : ¬ iof t.val = 11 := by omega
    simp only [if_pos hi]
    by_cases hj : t.val % 48 = 47
    · have h8 := (cond8_iff t).mpr hj
      iintro ⟨⟨%f15, %f16, %f18, H15, H16, H18, %hs⟩, HSc, ⟨%g, HH⟩, H9, H10, H11, H12, H13, HW, Hk⟩
      unfold tailP
      sl_exec
      sl_step
      iapply Hk
      isplitl [H15 H18]
      · iexists f15, f18
        isplitl [H15]; · iexact H15
        isplitl [H18]; · iexact H18
        ipureintro; exact ⟨hs.1, hs.2.2⟩
      isplitl [HSc]
      · iexists f16, g
        isplitl [HSc]; · iexact HSc
        ipureintro; exact hs.2.1
      isplitl [H9]; · iapply (outP_written c arg9 _ hj _ _ _ (out9 arg9 arg18 f9 f18 hs.2.2)); iexact H9
      isplitl [H10]; · iapply (outP_written c arg10 _ hj _ _ _ (out10 arg10 arg15 v5 f10 f15 hs.1)); iexact H10
      isplitl [H11]; · iapply (outP_kept c arg11 _ hi'); iexact H11
      isplitl [H12]; · iapply (outP_written c arg12 _ hj _ _ _ (out12 arg12 arg18 f12 f18 hs.2.2)); iexact H12
      isplitl [H13]; · iapply (outP_written c arg13 _ hj _ _ _ (out13 arg13 arg18 f13 f18 hs.2.2)); iexact H13
      iexists _; iexact HW
    · have h8 : ¬ k0_cond8 (grid0.coords t) = 1#1 := fun h => hj ((cond8_iff t).mp h)
      iintro ⟨⟨%f15, %f16, %f18, H15, H16, H18, %hs⟩, HSc, ⟨%g, HH⟩, H9, H10, H11, H12, H13, HW, Hk⟩
      unfold tailP
      sl_exec
      sl_step
      iapply Hk
      isplitl [H15 H18]
      · iexists f15, f18
        isplitl [H15]; · iexact H15
        isplitl [H18]; · iexact H18
        ipureintro; exact ⟨hs.1, hs.2.2⟩
      isplitl [HSc]
      · iexists f16, g
        isplitl [HSc]; · iexact HSc
        ipureintro; exact hs.2.1
      isplitl [H9]; · iapply (outP_kept c arg9 _ hj); iexact H9
      isplitl [H10]; · iapply (outP_kept c arg10 _ hj); iexact H10
      isplitl [H11]; · iapply (outP_kept c arg11 _ hi'); iexact H11
      isplitl [H12]; · iapply (outP_kept c arg12 _ hj); iexact H12
      isplitl [H13]; · iapply (outP_kept c arg13 _ hj); iexact H13
      iexists _; iexact HW
  · have h6 : ¬ k0_cond6 (grid0.coords t) = 1#1 := fun h => hi ((cond6_iff t).mp h)
    have hi' : iof t.val = 11 := by omega
    have h7 := (cond7_iff t).mpr hi'
    simp only [if_neg hi]
    by_cases hj : t.val % 48 = 47
    · have h8 := (cond8_iff t).mpr hj
      iintro ⟨⟨%f15, %f16, %f18, H15, H16, H18, %hs⟩, HSc, -, H9, H10, H11, H12, H13, HW, Hk⟩
      unfold tailP
      sl_exec
      sl_step
      iapply Hk
      isplitl [H15 H18]
      · iexists f15, f18
        isplitl [H15]; · iexact H15
        isplitl [H18]; · iexact H18
        ipureintro; exact ⟨hs.1, hs.2.2⟩
      isplitl [H16 HSc]
      · isplitl [H16]
        · iexists f16
          isplitl [H16]; · iexact H16
          ipureintro; exact hs.2.1
        iexact HSc
      isplitl [H9]; · iapply (outP_written c arg9 _ hj _ _ _ (out9 arg9 arg18 f9 f18 hs.2.2)); iexact H9
      isplitl [H10]; · iapply (outP_written c arg10 _ hj _ _ _ (out10 arg10 arg15 v5 f10 f15 hs.1)); iexact H10
      isplitl [H11]; · iapply (outP_written c arg11 _ hi' _ _ _ (out11 c t arg11 v5 f11 f16 _ hs.2.1)); iexact H11
      isplitl [H12]; · iapply (outP_written c arg12 _ hj _ _ _ (out12 arg12 arg18 f12 f18 hs.2.2)); iexact H12
      isplitl [H13]; · iapply (outP_written c arg13 _ hj _ _ _ (out13 arg13 arg18 f13 f18 hs.2.2)); iexact H13
      iexists _; iexact HW
    · have h8 : ¬ k0_cond8 (grid0.coords t) = 1#1 := fun h => hj ((cond8_iff t).mp h)
      iintro ⟨⟨%f15, %f16, %f18, H15, H16, H18, %hs⟩, HSc, -, H9, H10, H11, H12, H13, HW, Hk⟩
      unfold tailP
      sl_exec
      sl_step
      iapply Hk
      isplitl [H15 H18]
      · iexists f15, f18
        isplitl [H15]; · iexact H15
        isplitl [H18]; · iexact H18
        ipureintro; exact ⟨hs.1, hs.2.2⟩
      isplitl [H16 HSc]
      · isplitl [H16]
        · iexists f16
          isplitl [H16]; · iexact H16
          ipureintro; exact hs.2.1
        iexact HSc
      isplitl [H9]; · iapply (outP_kept c arg9 _ hj); iexact H9
      isplitl [H10]; · iapply (outP_kept c arg10 _ hj); iexact H10
      isplitl [H11]; · iapply (outP_written c arg11 _ hi' _ _ _ (out11 c t arg11 v5 f11 f16 _ hs.2.1)); iexact H11
      isplitl [H12]; · iapply (outP_kept c arg12 _ hj); iexact H12
      isplitl [H13]; · iapply (outP_kept c arg13 _ hj); iexact H13
      iexists _; iexact HW

end Outs

end Cert.Proof.Real

end
-- ==== Proof.Real.Body.lean ====
/-
  THE WHOLE BODY at one point: the start, the clearing of what a first block begins, the loop, the end.
-/
module

public import proofs.«01_k».proof.Proof.Real.Start
public import proofs.«01_k».proof.Proof.Real.Tail

@[expose] public section

set_option maxRecDepth 8192
set_option maxHeartbeats 4000000

noncomputable section

namespace Cert.Proof.Real

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

/-- The clearing of the tile at the first row block, as the program has it; -/
def clear4P (i : grid0.Coords) (arg16 : Memref sig .tc .vmem S3x512x1536 .f32) : Prog (TpuEff nD τ sig (Elt F) Λ₀ .tc) PUnit := do
  if k0_h4 : k0_cond4 i = 1#1 then do
    let v54 : Vec F S1x512x1536 .f32 ← Prog.lift (.load arg16 (Rect.unit (s := S3x512x1536) (k0_off9 i) S1x512x1536.size (k0_off9_inb i k0_h4)).toLoadRect (View.loadsAt_vmem h_S1x512x1536))
    Prog.lift (.store arg16 (Rect.unit (s := S3x512x1536) (k0_off9 i) S1x512x1536.size (k0_off9_inb i k0_h4)) (k0_pay1 (F := F)) Finset.univ (View.stores_vmem_bits_univ h_S1x512x1536 rfl) (.inl rfl))
    pure ⟨⟩
  else do
    pure ⟨⟩
/-- the clearing of the running gradient of `x` and of the sums at the first column block; -/
def clear5P (arg2 : BitVec 32) (arg15 : Memref sig .tc .vmem S2048x1536 .f32) (arg18 : Memref sig .tc .vmem S3x8x2048 .f32) : Prog (TpuEff nD τ sig (Elt F) Λ₀ .tc) PUnit := do
  if k0_h5 : Scalar.cmpi .ne (Scalar.extui (Scalar.cmpi .eq arg2 0#32) : BitVec 32) 0#32 = 1#1 then do
    let v53 : Vec F S2048x1536 .f32 ← Prog.lift (.load arg15 (Rect.unit (s := S2048x1536) ![0, 0] S2048x1536.size inb_S2048x1536_S2048x1536_0_0).toLoadRect (View.loadsAt_vmem h_S2048x1536))
    Prog.lift (.store arg15 (Rect.unit (s := S2048x1536) ![0, 0] S2048x1536.size inb_S2048x1536_S2048x1536_0_0) (k0_pay2 (F := F)) Finset.univ (View.stores_vmem_bits_univ h_S2048x1536 rfl) (.inl rfl))
    let v57 : Vec F S3x8x2048 .f32 ← Prog.lift (.load arg18 (Rect.unit (s := S3x8x2048) ![0, 0, 0] S3x8x2048.size inb_S3x8x2048_S3x8x2048_0_0_0).toLoadRect (View.loadsAt_vmem h_S3x8x2048))
    Prog.lift (.store arg18 (Rect.unit (s := S3x8x2048) ![0, 0, 0] S3x8x2048.size inb_S3x8x2048_S3x8x2048_0_0_0) (k0_pay3 (F := F)) Finset.univ (View.stores_vmem_bits_univ h_S3x8x2048 rfl) (.inl rfl))
    pure ⟨⟩
  else do
    pure ⟨⟩
/-- the scales of `y` spread over a tile. -/
def spreadP (arg8 : Memref sig .tc .vmem S1x1x512 .f32) (arg17 : Memref sig .tc .vmem S512x128 .f32) : Prog (TpuEff nD τ sig (Elt F) Λ₀ .tc) PUnit := do
  let v34 : Vec F S1x1x512 .f32 ← Prog.lift (.load arg8 (Rect.unit (s := S1x1x512) ![0, 0, 0] S1x1x512.size inb_S1x1x512_S1x1x512_0_0_0).toLoadRect (View.loadsAt_vmem h_S1x1x512))
  let v39 : Vec F S512x128 .f32 ← Prog.lift (.load arg17 (Rect.unit (s := S512x128) ![0, 0] S512x128.size inb_S512x128_S512x128_0_0).toLoadRect (View.loadsAt_vmem h_S512x128))
  Prog.lift (.store arg17 (Rect.unit (s := S512x128) ![0, 0] S512x128.size inb_S512x128_S512x128_0_0) (k0_pay4 v34) Finset.univ (View.stores_vmem_bits_univ h_S512x128 rfl) (.inl rfl))
set_option maxRecDepth 65536 in
/-- The body is its stretches, one after the other. -/
theorem body_eq (i : grid0.Coords) (arg3 : Memref sig .tc .smem S1 .f32) (harg3 : arg3.IsWhole) (arg4 : Memref sig .tc .smem S1 .f32) (harg4 : arg4.IsWhole) (arg5 : Memref sig .tc .vmem S1x2048x1536 .fp8e4m3) (harg5 : arg5.IsWhole) (arg6 : Memref sig .tc .vmem S1x512x1536 .fp8e4m3) (harg6 : arg6.IsWhole) (arg7 : Memref sig .tc .vmem S1x1x2048 .f32) (harg7 : arg7.IsWhole) (arg8 : Memref sig .tc .vmem S1x1x512 .f32) (harg8 : arg8.IsWhole) (arg9 : Memref sig .tc .vmem S1x1x2048 .f32) (harg9 : arg9.IsWhole) (arg10 : Memref sig .tc .vmem S1x2048x1536 .bf16) (harg10 : arg10.IsWhole) (arg11 : Memref sig .tc .vmem S1x512x1536 .bf16) (harg11 : arg11.IsWhole) (arg12 : Memref sig .tc .vmem S1x1x2048 .f32) (harg12 : arg12.IsWhole) (arg13 : Memref sig .tc .vmem S1x1x2048 .f32) (harg13 : arg13.IsWhole) (arg14 : Memref sig .tc .hbm S24576x1536 .f32) (harg14 : arg14.IsWhole) (arg15 : Memref sig .tc .vmem S2048x1536 .f32) (harg15 : arg15.IsWhole) (arg16 : Memref sig .tc .vmem S3x512x1536 .f32) (harg16 : arg16.IsWhole) (arg17 : Memref sig .tc .vmem S512x128 .f32) (harg17 : arg17.IsWhole) (arg18 : Memref sig .tc .vmem S3x8x2048 .f32) (harg18 : arg18.IsWhole) (arg19 : DmaSems sig S3) (arg20 : DmaSems sig S3) :
    cc0_siglip_fwd_bwd (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20
      = (k0_part4 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 >>= fun x => clear4P i arg16 >>= fun _ => clear5P x.2.1 arg15 arg18 >>= fun _ => spreadP arg8 arg17 >>= fun _ =>
        Scf.Loop.for k0_t1_loop k0_t1_ok () (k0_t1_body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 x.1 x.2.1 x.2.2.2.1 x.2.2.2.2) >>= fun _ => tailP i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 x.2.2.2.1) := by
  rw [cc0_siglip_fwd_bwd_eq_skeleton]
  unfold cc0_siglip_fwd_bwd_skel
  refine congrArg (k0_part4 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 >>= ·) (funext fun x => ?_)
  obtain ⟨a1, a2, v4, v5, v6⟩ := x
  dsimp only
  unfold clear4P clear5P
  by_cases h4 : k0_cond4 i = 1#1 <;> by_cases h5 : Scalar.cmpi .ne (Scalar.extui (Scalar.cmpi .eq a2 0#32) : BitVec 32) 0#32 = 1#1 <;>
    simp only [h4, h5, dite_true, dite_false] <;> rfl

variable (c : Dev nD) (t : Fin cfg0.N)
  (arg3 : Memref sig .tc .smem S1 .f32) (harg3 : arg3.IsWhole) (arg4 : Memref sig .tc .smem S1 .f32) (harg4 : arg4.IsWhole)
  (arg5 : Memref sig .tc .vmem S1x2048x1536 .fp8e4m3) (harg5 : arg5.IsWhole) (arg6 : Memref sig .tc .vmem S1x512x1536 .fp8e4m3) (harg6 : arg6.IsWhole)
  (arg7 : Memref sig .tc .vmem S1x1x2048 .f32) (harg7 : arg7.IsWhole) (arg8 : Memref sig .tc .vmem S1x1x512 .f32) (harg8 : arg8.IsWhole)
  (arg9 : Memref sig .tc .vmem S1x1x2048 .f32) (harg9 : arg9.IsWhole) (arg10 : Memref sig .tc .vmem S1x2048x1536 .bf16) (harg10 : arg10.IsWhole)
  (arg11 : Memref sig .tc .vmem S1x512x1536 .bf16) (harg11 : arg11.IsWhole) (arg12 : Memref sig .tc .vmem S1x1x2048 .f32) (harg12 : arg12.IsWhole)
  (arg13 : Memref sig .tc .vmem S1x1x2048 .f32) (harg13 : arg13.IsWhole)
  (arg15 : Memref sig .tc .vmem S2048x1536 .f32) (harg15 : arg15.IsWhole)
  (arg17 : Memref sig .tc .vmem S512x128 .f32) (harg17 : arg17.IsWhole) (arg18 : Memref sig .tc .vmem S3x8x2048 .f32) (harg18 : arg18.IsWhole)

/-- What the body reads at a point, held at contents that read as `I`. -/
def inP (I : Inputs F) (f3 : Buf (Elt F) (arg3.view.loc (c : Thread nD τ))) (f4 : Buf (Elt F) (arg4.view.loc (c : Thread nD τ))) : sProp 𝕄 :=
  iprop((arg3.view.loc (c : Thread nD τ) ↦[arg3.view.set]{fullShare} f3) ∗ (arg4.view.loc (c : Thread nD τ) ↦[arg4.view.set]{fullShare} f4)
    ∗ ∃ f5 f6 f7 f8, (arg5.view.loc (c : Thread nD τ) ↦[arg5.view.set]{fullShare} f5) ∗ (arg6.view.loc (c : Thread nD τ) ↦[arg6.view.set]{fullShare} f6)
    ∗ (arg7.view.loc (c : Thread nD τ) ↦[arg7.view.set]{fullShare} f7) ∗ (arg8.view.loc (c : Thread nD τ) ↦[arg8.view.set]{fullShare} f8)
    ∗ ⌜arg5.view.read (Elt F) f5 = I.x ∧ arg6.view.read (Elt F) f6 = I.y ∧ arg7.view.read (Elt F) f7 = I.xs ∧ arg8.view.read (Elt F) f8 = I.ys⌝)

/-- The state before the point, the tile apart: known unless the point starts a new row block. -/
def accPre (s : St F) : sProp 𝕄 :=
  iprop(∃ f15 f17 f18, (arg15.view.loc (c : Thread nD τ) ↦[arg15.view.set]{fullShare} f15)
    ∗ (arg17.view.loc (c : Thread nD τ) ↦[arg17.view.set]{fullShare} f17)
    ∗ (arg18.view.loc (c : Thread nD τ) ↦[arg18.view.set]{fullShare} f18)
    ∗ ⌜t.val % 48 ≠ 0 → arg15.view.read (Elt F) f15 = s.dx ∧ arg18.view.read (Elt F) f18 = s.sm⌝)

/-- What the body leaves in the result windows, given the state `s` after the point. -/
def outsP (v5 : Elt F .f32) (s : St F) (f9 : Buf (Elt F) (arg9.view.loc (c : Thread nD τ))) (f10 : Buf (Elt F) (arg10.view.loc (c : Thread nD τ))) (f11 : Buf (Elt F) (arg11.view.loc (c : Thread nD τ)))
    (f12 : Buf (Elt F) (arg12.view.loc (c : Thread nD τ))) (f13 : Buf (Elt F) (arg13.view.loc (c : Thread nD τ))) : sProp 𝕄 :=
  iprop(outP c arg9 (t.val % 48 = 47) f9 (k0_pay27 (sm0 s.sm)) ∗ outP c arg10 (t.val % 48 = 47) f10 (k0_pay26 v5 s.dx)
            ∗ outP c arg11 (iof t.val = 11) f11 (k0_pay8 v5 (up s.dy)) ∗ outP c arg12 (t.val % 48 = 47) f12 (k0_pay28 (sm1 s.sm))
            ∗ outP c arg13 (t.val % 48 = 47) f13 (k0_pay9 (k0_pay29 (sm2 s.sm))))

/-- One stretch of the body, then the next. -/
theorem bind_run {α β : Type} (p : Prog (TpuEff nD τ sig (Elt F) Λ₀ .tc) α) (k : α → Prog (TpuEff nD τ sig (Elt F) Λ₀ .tc) β) (Q : β → sProp 𝕄) :
    wp frame (wpE (defs₀ (F := F)) 𝒱₀ (c : Thread nD τ) none) Set.univ p (fun a => wp frame (wpE (defs₀ (F := F)) 𝒱₀ (c : Thread nD τ) none) Set.univ (k a) Q)
      ⊢ wp frame (wpE (defs₀ (F := F)) 𝒱₀ (c : Thread nD τ) none) Set.univ (p >>= k) Q :=
  BIBase.Entails.of_eq (wp_bind ..).symm

section Pieces
attribute [local irreducible] k0_pay1 k0_pay2 k0_pay3 k0_pay4

theorem clear4_run (X0 : Tile F) (Q) :
    iprop((if waitsLoad t.val then slotV c (sof t.val) X0 else slotA c (sof t.val))
        ∗ (∀ r, slotV c (sof t.val) (if iof t.val = 0 then dn k0_pay1 else X0) -∗ Q r))
      ⊢ wp frame (wpE (defs₀ (F := F)) 𝒱₀ (c : Thread nD τ) none) Set.univ (clear4P (grid0.coords t) bufM) Q := by
  unfold slotA slotV
  by_cases z : iof t.val = 0
  · have h4 := (cond4_iff t).mpr z
    have hw : ¬ waitsLoad t.val := by unfold waitsLoad; omega
    simp only [hw, if_false, if_pos z]
    iintro ⟨⟨%f16, H16⟩, Hk⟩
    unfold clear4P
    sl_exec
    sl_step
    iapply Hk
    iexists _
    isplitl [H16]; · iexact H16
    ipureintro
    exact read_slot_write c (sof t.val) (off9_eq t) _ f16 _
  · have h4 : ¬ k0_cond4 (grid0.coords t) = 1#1 := fun h => z ((cond4_iff t).mp h)
    have hw : waitsLoad t.val := by unfold waitsLoad; omega
    simp only [hw, if_true, if_neg z]
    iintro ⟨H, Hk⟩
    unfold clear4P
    sl_exec
    sl_step
    iapply Hk
    iexact H

theorem clear5_run (s : St F) (f15 f18) (hs : t.val % 48 ≠ 0 → arg15.view.read (Elt F) f15 = s.dx ∧ arg18.view.read (Elt F) f18 = s.sm) (Q) :
    iprop((arg15.view.loc (c : Thread nD τ) ↦[arg15.view.set]{fullShare} f15) ∗ (arg18.view.loc (c : Thread nD τ) ↦[arg18.view.set]{fullShare} f18)
        ∗ (∀ r, accP c arg15 arg18 (if t.val % 48 = 0 then k0_pay2 else s.dx) (if t.val % 48 = 0 then k0_pay3 else s.sm) -∗ Q r))
      ⊢ wp frame (wpE (defs₀ (F := F)) 𝒱₀ (c : Thread nD τ) none) Set.univ (clear5P (BitVec.ofNat 32 ((grid0.coords t) 2).val) arg15 arg18) Q := by
  unfold accP
  by_cases z : t.val % 48 = 0
  · have h5 := (cond5_iff t).mpr z
    simp only [if_pos z]
    iintro ⟨H15, H18, Hk⟩
    unfold clear5P
    sl_exec
    sl_step
    iapply Hk
    iexists _, _
    isplitl [H15]; · iexact H15
    isplitl [H18]; · iexact H18
    ipureintro
    exact ⟨View.read_writes_full .., View.read_writes_full ..⟩
  · have h5 := mt (cond5_iff t).mp z
    simp only [if_neg z]
    iintro ⟨H15, H18, Hk⟩
    unfold clear5P
    sl_exec
    sl_step
    iapply Hk
    iexists _, _
    isplitl [H15]; · iexact H15
    isplitl [H18]; · iexact H18
    ipureintro
    exact hs z

theorem spread_run (I : Inputs F) (f8 : Buf (Elt F) (arg8.view.loc (c : Thread nD τ))) (f17 : Buf (Elt F) (arg17.view.loc (c : Thread nD τ))) (h8 : arg8.view.read (Elt F) f8 = I.ys) (Q : PUnit → sProp 𝕄) :
    iprop((arg8.view.loc (c : Thread nD τ) ↦[arg8.view.set]{fullShare} f8) ∗ (arg17.view.loc (c : Thread nD τ) ↦[arg17.view.set]{fullShare} f17)
        ∗ (∀ r, ∀ f17 : Buf (Elt F) (arg17.view.loc (c : Thread nD τ)), (arg8.view.loc (c : Thread nD τ) ↦[arg8.view.set]{fullShare} f8) ∗ (arg17.view.loc (c : Thread nD τ) ↦[arg17.view.set]{fullShare} f17)
            ∗ ⌜arg17.view.read (Elt F) f17 = ysb I⌝ -∗ Q r))
      ⊢ wp frame (wpE (defs₀ (F := F)) 𝒱₀ (c : Thread nD τ) none) Set.univ (spreadP (F := F) arg8 arg17) Q := by
  iintro ⟨H8, H17, Hk⟩
  unfold spreadP
  sl_exec
  sl_step
  iapply Hk
  isplitl [H8]; · iexact H8
  isplitl [H17]; · iexact H17
  ipureintro
  rw [View.read_writes_full, View.readAt_full, h8]

end Pieces

/-- After the start, the column block and the slot of this point, apart. -/
theorem home_slot_eq (X0 : Tile F) :
    ((if waitsLoad t.val then iprop(homeV c (jof t.val) X0 ∗ slotV c (sof t.val) X0) else slotA c (sof t.val)) : sProp 𝕄)
      = iprop((if waitsLoad t.val then homeV c (jof t.val) X0 else iprop(emp)) ∗ (if waitsLoad t.val then slotV c (sof t.val) X0 else slotA c (sof t.val))) := by
  by_cases h : waitsLoad t.val
  · simp only [if_pos h]
  · simp only [if_neg h]; exact (equiv_iff.mp BI.emp_sep).symm

/-- The column block of this point: below the slot's store while more row blocks follow, held otherwise. -/
theorem home_of (X0 : Tile F) :
    iprop((if waitsLoad t.val then homeV c (jof t.val) X0 else iprop(emp)) ∗ (if waitsLoad t.val then iprop(emp) else iprop(∃ g, homeP c (jof t.val) g)))
      ⊢ (iprop((if iof t.val < 11 then iprop(∃ g, homeP c (jof t.val) g) else iprop(emp)) ∗ (if iof t.val < 11 then iprop(emp) else homeV c (jof t.val) X0)) : sProp 𝕄) := by
  have h12 : iof t.val < 12 := Nat.mod_lt _ (by decide)
  unfold homeV
  by_cases h : waitsLoad t.val <;> by_cases hi : iof t.val < 11
  · simp only [if_pos h, if_pos hi]
    iintro ⟨⟨%g, H, -⟩, -⟩
    isplitl [H]; · iexists g; iexact H
    iempintro
  · simp only [if_pos h, if_neg hi]
    iintro ⟨H, -⟩
    isplitr; · iempintro
    iexact H
  · simp only [if_neg h, if_pos hi]
    iintro ⟨-, H⟩
    isplitl [H]; · iexact H
    iempintro
  · exact absurd (by unfold waitsLoad; omega) h

attribute [local irreducible] k0_pay1 k0_pay2 k0_pay3 k0_pay4 in
theorem body_run (jp : Fin 48) (X2 Xn : Tile F) (I : Inputs F) (s : St F)
    (f3) (f4) (hbi : I.bi = BitVec.ofNat 32 ((grid0.coords t) 1).val) (hbj : I.bj = BitVec.ofNat 32 ((grid0.coords t) 2).val)
    (ht : I.t = the1 (arg3.view.read (Elt F) f3)) (hb : I.b = the1 (arg4.view.read (Elt F) f4))
    (f9 f10 f11 f12 f13) (W) (Q) :
    iprop(inP c arg3 arg4 arg5 arg6 arg7 arg8 I f3 f4 ∗ startPre c t jp X2 Xn s.dy ∗ scellP c (sof t.val)
        ∗ (if waitsLoad t.val then iprop(emp) else iprop(∃ g, homeP c (jof t.val) g))
        ∗ accPre c t arg15 arg17 arg18 s
        ∗ (arg9.view.loc (c : Thread nD τ) ↦[arg9.view.set]{fullShare} f9) ∗ (arg10.view.loc (c : Thread nD τ) ↦[arg10.view.set]{fullShare} f10)
        ∗ (arg11.view.loc (c : Thread nD τ) ↦[arg11.view.set]{fullShare} f11) ∗ (arg12.view.loc (c : Thread nD τ) ↦[arg12.view.set]{fullShare} f12)
        ∗ (arg13.view.loc (c : Thread nD τ) ↦[arg13.view.set]{fullShare} f13) ∗ owes (c : Thread nD τ) 0 W
        ∗ (∀ r, inP c arg3 arg4 arg5 arg6 arg7 arg8 I f3 f4
            ∗ (if waitsStore t.val then homeV c jp X2 else iprop(emp)) ∗ scellP c (sof (t.val + 1))
            ∗ (if beginsLoad t.val then loadV c (sof (t.val + 1)) (jof (t.val + 1)) Xn else iprop(slotA c (sof (t.val + 1)) ∗ lcellP c (sof (t.val + 1))))
            ∗ lcellP c (sof t.val)
            ∗ (∃ f17, (arg17.view.loc (c : Thread nD τ) ↦[arg17.view.set]{fullShare} f17))
            ∗ accP c arg15 arg18 (pointV I (startV (iof t.val = 0) (t.val % 48 = 0) s)).dx (pointV I (startV (iof t.val = 0) (t.val % 48 = 0) s)).sm
            ∗ (if iof t.val < 11 then storeV c (sof t.val) (jof t.val) (pointV I (startV (iof t.val = 0) (t.val % 48 = 0) s)).dy
                else iprop(slotA c (sof t.val) ∗ scellP c (sof t.val) ∗ homeV c (jof t.val) s.dy))
            ∗ outsP c t arg9 arg10 arg11 arg12 arg13 I.t (pointV I (startV (iof t.val = 0) (t.val % 48 = 0) s)) f9 f10 f11 f12 f13
            ∗ (∃ W, owes (c : Thread nD τ) 0 W) -∗ Q r))
      ⊢ wp frame (wpE (defs₀ (F := F)) 𝒱₀ (c : Thread nD τ) none) Set.univ (cc0_siglip_fwd_bwd (F := F) (grid0.coords t) arg3 harg3 arg4 harg4 arg5 harg5 arg6 harg6 arg7 harg7 arg8 harg8 arg9 harg9 arg10 harg10 arg11 harg11 arg12 harg12 arg13 harg13 accM (Memref.isWhole_whole _) arg15 harg15 bufM (Memref.isWhole_whole _) arg17 harg17 arg18 harg18 cc0_scratch4 cc0_scratch5) Q := by
  rw [body_eq, wp_bind]
  unfold inP
  iintro ⟨⟨H3, H4, HI⟩, HP, HSc, HH, HA, H9, H10, H11, H12, H13, HW, Hk⟩
  iapply (part4_run c t arg3 harg3 arg4 harg4 arg5 harg5 arg6 harg6 arg7 harg7 arg8 harg8 arg9 harg9 arg10 harg10 arg11 harg11 arg12 harg12 arg13 harg13 arg15 harg15 arg17 harg17 arg18 harg18 jp X2 Xn s.dy f3 f4 W)
  isplitl [H3]; · iexact H3
  isplitl [H4]; · iexact H4
  isplitl [HP]; · iexact HP
  isplitl [HW]; · iexact HW
  iintro %v4 ⟨H3, H4, HP, ⟨%W', HW⟩⟩
  unfold startPost accPre
  icases HP with ⟨HP1, HP2, HP3, HP4, HP5⟩
  icases HI with ⟨%f5, %f6, %f7, %f8, H5, H6, H7, H8, %hr⟩
  icases HA with ⟨%f15, %f17, %f18, H15, H17, H18, %hs⟩
  obtain ⟨bi, bj, It, Ib, Ix, Iy, Ixs, Iys⟩ := I
  dsimp only at hbi hbj ht hb
  subst hbi hbj ht hb
  ihave HP4' := (BIBase.Entails.of_eq (home_slot_eq c t s.dy)) $$ HP4
  icases HP4' with ⟨HHm, HSl⟩
  iapply (bind_run c)
  iapply (clear4_run c t s.dy)
  isplitl [HSl]; · iexact HSl
  iintro %r1 HSl
  iapply (bind_run c)
  iapply (clear5_run c t arg15 arg18 s f15 f18 hs)
  isplitl [H15]; · iexact H15
  isplitl [H18]; · iexact H18
  iintro %r2 HAc
  iapply (bind_run c)
  iapply (spread_run c arg8 arg17 ⟨BitVec.ofNat 32 ((grid0.coords t) 1).val, BitVec.ofNat 32 ((grid0.coords t) 2).val, the1 (arg3.view.read (Elt F) f3), the1 (arg4.view.read (Elt F) f4), Ix, Iy, Ixs, Iys⟩ f8 f17 hr.2.2.2)
  isplitl [H8]; · iexact H8
  isplitl [H17]; · iexact H17
  iintro %r3 %g17 ⟨H8, H17, %h17⟩
  iapply (bind_run c)
  iapply (loop_run c t arg3 harg3 arg4 harg4 arg5 harg5 arg6 harg6 arg7 harg7 arg8 harg8 arg9 harg9 arg10 harg10 arg11 harg11 arg12 harg12 arg13 harg13 arg15 harg15 arg17 harg17 arg18 harg18 ⟨BitVec.ofNat 32 ((grid0.coords t) 1).val, BitVec.ofNat 32 ((grid0.coords t) 2).val, the1 (arg3.view.read (Elt F) f3), the1 (arg4.view.read (Elt F) f4), Ix, Iy, Ixs, Iys⟩ (startV (iof t.val = 0) (t.val % 48 = 0) s))
  isplitl [H5 H6 H7 H17]
  · unfold readsP
    iexists f5, f6, f7, g17
    isplitl [H5]; · iexact H5
    isplitl [H6]; · iexact H6
    isplitl [H7]; · iexact H7
    isplitl [H17]; · iexact H17
    ipureintro; exact ⟨hr.1, hr.2.1, hr.2.2.1, h17⟩
  isplitl [HAc HSl]
  · unfold accP stP slotV
    icases HAc with ⟨%g15, %g18, H15, H18, %ha⟩
    icases HSl with ⟨%g16, H16, %h16⟩
    iexists g15, g16, g18
    isplitl [H15]; · iexact H15
    isplitl [H16]; · iexact H16
    isplitl [H18]; · iexact H18
    ipureintro; exact ⟨ha.1, h16, ha.2⟩
  iintro %r4 ⟨HR, HSt⟩
  ihave HHo := (home_of c t s.dy) $$ [HHm HH]
  · isplitl [HHm]; · iexact HHm
    iexact HH
  icases HHo with ⟨HHo1, HHo2⟩
  iapply (tail_run c t arg3 harg3 arg4 harg4 arg5 harg5 arg6 harg6 arg7 harg7 arg8 harg8 arg9 harg9 arg10 harg10 arg11 harg11 arg12 harg12 arg13 harg13 arg15 harg15 arg17 harg17 arg18 harg18 (the1 (arg3.view.read (Elt F) f3)) (pointV ⟨BitVec.ofNat 32 ((grid0.coords t) 1).val, BitVec.ofNat 32 ((grid0.coords t) 2).val, the1 (arg3.view.read (Elt F) f3), the1 (arg4.view.read (Elt F) f4), Ix, Iy, Ixs, Iys⟩ (startV (iof t.val = 0) (t.val % 48 = 0) s)) f9 f10 f11 f12 f13 W')
  isplitl [HSt]; · iexact HSt
  isplitl [HSc]; · iexact HSc
  isplitl [HHo1]; · iexact HHo1
  isplitl [H9]; · iexact H9
  isplitl [H10]; · iexact H10
  isplitl [H11]; · iexact H11
  isplitl [H12]; · iexact H12
  isplitl [H13]; · iexact H13
  isplitl [HW]; · iexact HW
  iintro %r5 ⟨HAc, HST, HO9, HO10, HO11, HO12, HO13, HW⟩
  unfold readsP
  icases HR with ⟨%e5, %e6, %e7, %e17, H5, H6, H7, H17, %hr'⟩
  iapply Hk
  isplitl [H3 H4 H5 H6 H7 H8]
  · isplitl [H3]; · iexact H3
    isplitl [H4]; · iexact H4
    iexists e5, e6, e7, f8
    isplitl [H5]; · iexact H5
    isplitl [H6]; · iexact H6
    isplitl [H7]; · iexact H7
    isplitl [H8]; · iexact H8
    ipureintro; exact ⟨hr'.1, hr'.2.1, hr'.2.2.1, hr.2.2.2⟩
  isplitl [HP1]; · iexact HP1
  isplitl [HP2]; · iexact HP2
  isplitl [HP3]; · iexact HP3
  isplitl [HP5]; · iexact HP5
  isplitl [H17]; · iexists _; iexact H17
  isplitl [HAc]; · iexact HAc
  isplitl [HST HHo2]
  · by_cases hi : iof t.val < 11
    · simp only [if_pos hi]; iexact HST
    · simp only [if_neg hi]
      icases HST with ⟨HST, HSc⟩
      isplitl [HST]
      · unfold slotV slotA
        icases HST with ⟨%f, HST, -⟩
        iexists f; iexact HST
      isplitl [HSc]; · iexact HSc
      iexact HHo2
  isplitr [HW]
  · unfold outsP
    isplitl [HO9]; · iexact HO9
    isplitl [HO10]; · iexact HO10
    isplitl [HO11]; · iexact HO11
    isplitl [HO12]; · iexact HO12
    iexact HO13
  iexact HW

end Cert.Proof.Real

end
-- ==== Proof.Real.Phi.lean ====
/-
  BETWEEN TWO POINTS: what the kernel holds before point `n`. Two stores may be in flight (begun one and two points
  ago), one load (for point `n`); every other column block of the accumulator is at home, and one written in the last
  48 points holds what was stored there. The step from `n` to `n + 1` is put in two halves: what the body takes, and
  what the body gives back.
-/
module

public import proofs.«01_k».proof.Proof.Real.Body

@[expose] public section

set_option maxRecDepth 8192
set_option maxHeartbeats 4000000

noncomputable section

namespace Cert.Proof.Real

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

section
variable (c : Dev nD) (inp : ℕ → Inputs F)

/-- The tile of point `n` after it. -/
abbrev dyAt (n : ℕ) : Tile F := (stateV inp n).dy

/-- Column block `j` at home before point `n`: written in the last 48 points, it holds the tile stored then. -/
def homeD (n : ℕ) (j : Fin 48) : sProp 𝕄 :=
  iprop(∃ g, homeP c j g ∗ ⌜∀ m, m < n → n ≤ m + 48 → jof m = j → iof m < 11 → (blk j).view.read (Elt F) g = dyAt inp m⌝)

/-- The store that point `k` waits for: in flight, or else its slot, semaphore and column block at rest. -/
def stB (n k : ℕ) : sProp 𝕄 :=
  if waitsStore k then storeV c (sof (k + 1)) (jof (k + 46)) (dyAt inp (k - 2))
  else iprop(slotA c (sof (k + 1)) ∗ scellP c (sof (k + 1)) ∗ homeD c inp n (jof (k + 46)))
/-- The load that point `n` waits for: in flight, or else its slot, semaphore and column block at rest. -/
def ldB (n : ℕ) : sProp 𝕄 :=
  if waitsLoad n then loadV c (sof n) (jof n) (dyAt inp (n - 48))
  else iprop(slotA c (sof n) ∗ lcellP c (sof n) ∗ homeD c inp n (jof n))

/-- The column blocks that no point next to `n` touches; those and the next one's taken out. -/
def restSet (n : ℕ) : Finset (Fin 48) := Finset.univ.filter fun j => j ≠ jof (n + 46) ∧ j ≠ jof (n + 47) ∧ j ≠ jof n ∧ j ≠ jof (n + 1)
def midSet (n : ℕ) : Finset (Fin 48) := Finset.univ.filter fun j => j ≠ jof (n + 46) ∧ j ≠ jof (n + 47) ∧ j ≠ jof n ∧ j ≠ jof (n + 1) ∧ j ≠ jof (n + 2)

/-- The two running arrays, known unless a row block starts, and the spread scales. -/
def accB (n : ℕ) : sProp 𝕄 :=
  iprop(∃ f15 f17 f18, ((Memref.whole cc0_scratch0 : Memref sig .tc .vmem S2048x1536 .f32).view.loc (c : Thread nD τ) ↦[(Memref.whole cc0_scratch0 : Memref sig .tc .vmem S2048x1536 .f32).view.set]{fullShare} f15)
    ∗ ((Memref.whole cc0_scratch2 : Memref sig .tc .vmem S512x128 .f32).view.loc (c : Thread nD τ) ↦[(Memref.whole cc0_scratch2 : Memref sig .tc .vmem S512x128 .f32).view.set]{fullShare} f17)
    ∗ ((Memref.whole cc0_scratch3 : Memref sig .tc .vmem S3x8x2048 .f32).view.loc (c : Thread nD τ) ↦[(Memref.whole cc0_scratch3 : Memref sig .tc .vmem S3x8x2048 .f32).view.set]{fullShare} f18)
    ∗ ⌜n % 48 ≠ 0 → (Memref.whole cc0_scratch0 : Memref sig .tc .vmem S2048x1536 .f32).view.read (Elt F) f15 = (stateV inp (n - 1)).dx
        ∧ (Memref.whole cc0_scratch3 : Memref sig .tc .vmem S3x8x2048 .f32).view.read (Elt F) f18 = (stateV inp (n - 1)).sm⌝)

/-- What the kernel holds before point `n`. -/
def ringP (n : ℕ) : sProp 𝕄 :=
  iprop(stB c inp n n ∗ stB c inp n (n + 1) ∗ ldB c inp n ∗ scellP c (sof n) ∗ lcellP c (sof (n + 1)) ∗ lcellP c (sof (n + 2))
    ∗ homeD c inp n (jof (n + 1)) ∗ bigSep (restSet n) (homeD c inp n))

/-- What point `n` leaves alone. -/
def keptP (n : ℕ) : sProp 𝕄 :=
  iprop((if waitsStore n then iprop(emp) else homeD c inp n (jof (n + 46))) ∗ stB c inp n (n + 1) ∗ lcellP c (sof (n + 2))
    ∗ (if beginsLoad n then iprop(emp) else homeD c inp n (jof (n + 1))) ∗ bigSep (restSet n) (homeD c inp n))

theorem homeD_mono (n : ℕ) (j : Fin 48) (h : j ≠ jof n) : homeD c inp n j ⊢ homeD c inp (n + 1) j := by
  unfold homeD
  iintro ⟨%g, H, %hg⟩
  iexists g
  isplitl [H]; · iexact H
  ipureintro
  intro m h1 h2 h3 h4
  exact hg m (by
    rcases Nat.lt_or_ge m n with h' | h'
    · exact h'
    · have : m = n := by omega
      subst this; exact absurd h3.symm h) (by omega) h3 h4

theorem stB_mono (n k : ℕ) (h : jof (k + 46) ≠ jof n) : stB c inp n k ⊢ stB c inp (n + 1) k := by
  unfold stB
  by_cases hw : waitsStore k
  · simp only [if_pos hw]; exact .rfl
  · simp only [if_neg hw]
    iintro ⟨H1, H2, H3⟩
    isplitl [H1]; · iexact H1
    isplitl [H2]; · iexact H2
    iapply (homeD_mono c inp n _ h); iexact H3

theorem rest_open (n : ℕ) (Φ : Fin 48 → sProp 𝕄) : bigSep (restSet n) Φ = iprop(Φ (jof (n + 2)) ∗ bigSep (midSet n) Φ) := by
  have e : restSet n = insert (jof (n + 2)) (midSet n) := by
    ext j; simp only [restSet, midSet, Finset.mem_insert, Finset.mem_filter, Finset.mem_univ, true_and, jof, Fin.ext_iff, ne_eq]; have := j.isLt; omega
  rw [e, bigSep_insert (by simp [midSet])]; rfl
theorem rest_close (n : ℕ) (Φ : Fin 48 → sProp 𝕄) : bigSep (restSet (n + 1)) Φ = iprop(Φ (jof (n + 46)) ∗ bigSep (midSet n) Φ) := by
  have e : restSet (n + 1) = insert (jof (n + 46)) (midSet n) := by
    ext j; simp only [restSet, midSet, Finset.mem_insert, Finset.mem_filter, Finset.mem_univ, true_and, jof, Fin.ext_iff, ne_eq]; have := j.isLt; omega
  rw [e, bigSep_insert (by simp [midSet])]; rfl

theorem homes_mono (n : ℕ) : bigSep (midSet n) (homeD c inp n) ⊢ bigSep (midSet n) (homeD c inp (n + 1)) :=
  bigSep_mono fun j hj => homeD_mono c inp n j (by simp only [midSet, Finset.mem_filter] at hj; exact hj.2.2.2.1)

theorem beginsLoad_iff (n : ℕ) (hn : n < 1152) : beginsLoad n ↔ waitsLoad (n + 1) := by
  unfold beginsLoad waitsLoad iof; omega

theorem ring_open (t : Fin cfg0.N) :
    ringP c inp t.val ⊢ iprop(startPre c t (jof (t.val + 46)) (dyAt inp (t.val - 2)) (dyAt inp (t.val - 47)) (dyAt inp (t.val - 48)) ∗ scellP c (sof t.val)
        ∗ (if waitsLoad t.val then iprop(emp) else iprop(∃ g, homeP c (jof t.val) g)) ∗ keptP c inp t.val) := by
  have e1 : ∀ n, stB c inp n n ⊢ (iprop((if waitsStore n then storeV c (sof (n + 1)) (jof (n + 46)) (dyAt inp (n - 2)) else iprop(slotA c (sof (n + 1)) ∗ scellP c (sof (n + 1))))
      ∗ (if waitsStore n then iprop(emp) else homeD c inp n (jof (n + 46)))) : sProp 𝕄) := by
    intro n; unfold stB
    by_cases h : waitsStore n
    · simp only [if_pos h]; iintro H; isplitl [H]; · iexact H
      iempintro
    · simp only [if_neg h]
      iintro ⟨H1, H2, H3⟩
      isplitr [H3]
      · isplitl [H1]; · iexact H1
        iexact H2
      iexact H3
  have e2 : ∀ n, ldB c inp n ⊢ (iprop((if waitsLoad n then loadV c (sof n) (jof n) (dyAt inp (n - 48)) else iprop(slotA c (sof n) ∗ lcellP c (sof n)))
      ∗ (if waitsLoad n then iprop(emp) else iprop(∃ g, homeP c (jof n) g))) : sProp 𝕄) := by
    intro n; unfold ldB
    by_cases h : waitsLoad n
    · simp only [if_pos h]; iintro H; isplitl [H]; · iexact H
      iempintro
    · simp only [if_neg h]; unfold homeD
      iintro ⟨H1, H2, ⟨%g, H3, -⟩⟩
      isplitr [H3]
      · isplitl [H1]; · iexact H1
        iexact H2
      iexists g; iexact H3
  have e3 : ∀ n, homeD c inp n (jof (n + 1)) ⊢ (iprop((if beginsLoad n then homeV c (jof (n + 1)) (dyAt inp (n - 47)) else iprop(emp))
      ∗ (if beginsLoad n then iprop(emp) else homeD c inp n (jof (n + 1)))) : sProp 𝕄) := by
    intro n
    by_cases h : beginsLoad n
    · simp only [if_pos h]; unfold homeD homeV
      iintro ⟨%g, H, %hg⟩
      isplitl [H]
      · iexists g; isplitl [H]; · iexact H
        ipureintro
        have h' := h; unfold beginsLoad iof at h'
        exact hg (n - 47) (by omega) (by omega) (Fin.ext (by show (n - 47) % 48 = (n + 1) % 48; omega)) (by unfold iof; omega)
      iempintro
    · simp only [if_neg h]
      iintro H
      isplitr; · iempintro
      iexact H
  unfold ringP startPre keptP
  iintro ⟨H1, H2, H3, H4, H5, H6, H7, H8⟩
  ihave H1' := (e1 t.val) $$ H1
  icases H1' with ⟨H1, H1k⟩
  ihave H3' := (e2 t.val) $$ H3
  icases H3' with ⟨H3, H3k⟩
  ihave H7' := (e3 t.val) $$ H7
  icases H7' with ⟨H7, H7k⟩
  isplitl [H1 H5 H7 H3]
  · isplitl [H1]; · iexact H1
    isplitl [H5]; · iexact H5
    isplitl [H7]; · iexact H7
    iexact H3
  isplitl [H4]; · iexact H4
  isplitl [H3k]; · iexact H3k
  isplitl [H1k]; · iexact H1k
  isplitl [H2]; · iexact H2
  isplitl [H6]; · iexact H6
  isplitl [H7k]; · iexact H7k
  iexact H8

theorem ring_close (t : Fin cfg0.N) (Xd : Tile F) :
    iprop(keptP c inp t.val ∗ (if waitsStore t.val then homeV c (jof (t.val + 46)) (dyAt inp (t.val - 2)) else iprop(emp)) ∗ scellP c (sof (t.val + 1))
        ∗ (if beginsLoad t.val then loadV c (sof (t.val + 1)) (jof (t.val + 1)) (dyAt inp (t.val - 47)) else iprop(slotA c (sof (t.val + 1)) ∗ lcellP c (sof (t.val + 1))))
        ∗ lcellP c (sof t.val)
        ∗ (if iof t.val < 11 then storeV c (sof t.val) (jof t.val) (dyAt inp t.val) else iprop(slotA c (sof t.val) ∗ scellP c (sof t.val) ∗ homeV c (jof t.val) Xd)))
      ⊢ ringP c inp (t.val + 1) := by
  have hn : t.val < 1152 := Nat.lt_of_lt_of_eq t.isLt N_0
  generalize t.val = n at hn ⊢
  have e1 : iprop((if waitsStore n then iprop(emp) else homeD c inp n (jof (n + 46))) ∗ (if waitsStore n then homeV c (jof (n + 46)) (dyAt inp (n - 2)) else iprop(emp)))
      ⊢ homeD c inp (n + 1) (jof (n + 46)) := by
    by_cases h : waitsStore n
    · simp only [if_pos h]; unfold homeV homeD
      iintro ⟨-, ⟨%g, H, %hg⟩⟩
      iexists g; isplitl [H]; · iexact H
      ipureintro
      intro m h1 h2 h3 h4
      have h3' : m % 48 = (n + 46) % 48 := congrArg Fin.val h3
      have h' := h.1
      have : m = n - 2 := by omega
      rw [this]; exact hg
    · simp only [if_neg h]
      iintro ⟨H, -⟩
      iapply (homeD_mono c inp n _ (by intro h; have h : (n + 46) % 48 = n % 48 := congrArg Fin.val h; omega)); iexact H
  have e2 : iprop((if beginsLoad n then iprop(emp) else homeD c inp n (jof (n + 1)))
        ∗ (if beginsLoad n then loadV c (sof (n + 1)) (jof (n + 1)) (dyAt inp (n - 47)) else iprop(slotA c (sof (n + 1)) ∗ lcellP c (sof (n + 1)))))
      ⊢ ldB c inp (n + 1) := by
    unfold ldB
    by_cases h : beginsLoad n
    · simp only [if_pos h, if_pos ((beginsLoad_iff n hn).mp h)]
      rw [show n + 1 - 48 = n - 47 by omega]
      iintro ⟨-, H⟩; iexact H
    · simp only [if_neg h, if_neg (mt (beginsLoad_iff n hn).mpr h)]
      iintro ⟨H, H1, H2⟩
      isplitl [H1]; · iexact H1
      isplitl [H2]; · iexact H2
      iapply (homeD_mono c inp n _ (by intro h; have h : (n + 1) % 48 = n % 48 := congrArg Fin.val h; omega)); iexact H
  have e3 : (if iof n < 11 then storeV c (sof n) (jof n) (dyAt inp n) else iprop(slotA c (sof n) ∗ scellP c (sof n) ∗ homeV c (jof n) Xd))
      ⊢ stB c inp (n + 1) (n + 1 + 1) := by
    unfold stB
    rw [show sof (n + 1 + 1 + 1) = sof n from Fin.ext (by show (n + 1 + 1 + 1) % 3 = n % 3; omega), show jof (n + 1 + 1 + 46) = jof n from Fin.ext (by show (n + 1 + 1 + 46) % 48 = n % 48; omega),
      show n + 1 + 1 - 2 = n by omega]
    by_cases h : iof n < 11
    · simp only [if_pos h, if_pos (show waitsStore (n + 1 + 1) from ⟨by omega, h⟩)]; exact .rfl
    · simp only [if_neg h, if_neg (show ¬ waitsStore (n + 1 + 1) from fun hw => h hw.2)]
      unfold homeV homeD
      iintro ⟨H1, H2, ⟨%g, H3, -⟩⟩
      isplitl [H1]; · iexact H1
      isplitl [H2]; · iexact H2
      iexists g; isplitl [H3]; · iexact H3
      ipureintro
      intro m h1 h2 h3 h4
      have h3' : m % 48 = n % 48 := congrArg Fin.val h3
      have : m = n := by omega
      subst this; exact absurd h4 h
  unfold ringP keptP
  rw [rest_open, rest_close]
  iintro ⟨⟨K1, K2, K3, K4, K5, K6⟩, H1, H2, H3, H4, H5⟩
  isplitl [K2]
  · iapply (stB_mono c inp n (n + 1) (by intro h; have h : (n + 1 + 46) % 48 = n % 48 := congrArg Fin.val h; omega)); iexact K2
  isplitl [H5]; · iapply e3; iexact H5
  isplitl [K4 H3]
  · iapply e2
    isplitl [K4]; · iexact K4
    iexact H3
  isplitl [H2]; · iexact H2
  isplitl [K3]; · iexact K3
  isplitl [H4]
  · rw [show sof (n + 1 + 2) = sof n from Fin.ext (by show (n + 1 + 2) % 3 = n % 3; omega)]; iexact H4
  isplitl [K5]
  · iapply (homeD_mono c inp n _ (by intro h; have h : (n + 2) % 48 = n % 48 := congrArg Fin.val h; omega)); iexact K5
  isplitl [K1 H1]
  · iapply e1
    isplitl [K1]; · iexact K1
    iexact H1
  iapply (homes_mono c inp n); iexact K6

end

end Cert.Proof.Real

end
-- ==== Proof.Real.Room.lean ====
/-
  THE ARRAYS IN PIECES: the accumulator of `dy` is its 48 column blocks and the ring its three slots; at the first point
  and after the last nothing is in flight, so what is held there is those pieces whole.
-/
module

public import proofs.«01_k».proof.Proof.Real.Phi
public import proofs.«01_k».proof.Proof.Gen.Kernel.Frame

@[expose] public section

set_option maxRecDepth 8192
set_option maxHeartbeats 4000000

noncomputable section

namespace Cert.Proof.Real

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

abbrev B48 (j : Fin 48) : Finset S24576x1536.Idx := (Rect.unit (s := S24576x1536) (blkOff j) S512x1536.size (blkOff_inb j)).set
abbrev B3 (s : Fin 3) : Finset S3x512x1536.Idx := (Rect.unit (s := S3x512x1536) (slotOff s) S1x512x1536.size (slotOff_inb s)).set

omit [FloatOps F] in
theorem blk_set (j : Fin 48) : (blk j).view.set = B48 j := View.set_slice_whole _ _
omit [FloatOps F] in
theorem rslot_set (s : Fin 3) : (rslot s).view.set = B3 s := (View.set_reshape _ _).trans (View.set_slice_whole _ _)

theorem mem_B48 (j : Fin 48) (y : S24576x1536.Idx) : y ∈ B48 j ↔ 512 * j.val ≤ (y 0).val ∧ (y 0).val < 512 * j.val + 512 := by
  rw [Rect.mem_set_unit]
  have h1 : (y 1).val < 1536 := (y 1).isLt
  constructor
  · intro H; exact H 0
  · intro H i; fin_cases i
    · show 512 * j.val ≤ (y 0).val ∧ (y 0).val < 512 * j.val + 512; exact H
    · show 0 ≤ (y 1).val ∧ (y 1).val < 0 + 1536; omega
theorem mem_B3 (s : Fin 3) (y : S3x512x1536.Idx) : y ∈ B3 s ↔ (y 0).val = s.val := by
  rw [Rect.mem_set_unit]
  have h1 : (y 1).val < 512 := (y 1).isLt
  have h2 : (y 2).val < 1536 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 512; omega
    · show 0 ≤ (y 2).val ∧ (y 2).val < 0 + 1536; omega
theorem B48_disjoint : ∀ b b' : Fin 48, b ≠ b' → Disjoint (B48 b) (B48 b') := by
  intro b b' hne; rw [Finset.disjoint_left]; intro y hy hy'; rw [mem_B48] at hy hy'; exact hne (Fin.ext (by omega))
theorem B48_cover : (Finset.univ : Finset (Fin 48)).biUnion B48 = Finset.univ := by
  ext y; simp only [Finset.mem_biUnion, Finset.mem_univ, true_and, iff_true]
  have h0 : (y 0).val < 24576 := (y 0).isLt
  exact ⟨⟨(y 0).val / 512, by omega⟩, by rw [mem_B48]; show 512 * ((y 0).val / 512) ≤ (y 0).val ∧ (y 0).val < 512 * ((y 0).val / 512) + 512; omega⟩
theorem B3_disjoint : ∀ s s' : Fin 3, s ≠ s' → Disjoint (B3 s) (B3 s') := by
  intro s s' hne; rw [Finset.disjoint_left]; intro y hy hy'; rw [mem_B3] at hy hy'; exact hne (Fin.ext (hy.symm.trans hy'))
theorem B3_cover : (Finset.univ : Finset (Fin 3)).biUnion B3 = Finset.univ := by
  ext y; simp only [Finset.mem_biUnion, Finset.mem_univ, true_and, iff_true]; exact ⟨(y 0).cast (by decide), by rw [mem_B3]; rfl⟩

theorem bigSep_fin3 (Φ : Fin 3 → sProp 𝕄) : bigSep Finset.univ Φ = iprop(Φ 0 ∗ Φ 1 ∗ Φ 2) :=
  bigSep_univ_eq_bigSepL [(0 : Fin 3), (1 : Fin 3), (2 : Fin 3)] (by decide) (by decide) Φ

section
variable (c : Dev nD) (inp : ℕ → Inputs F)

theorem homeP_eq (j : Fin 48) (g) : homeP c j g = (((c : Thread nD τ).loc main_v5_5) ↦[B48 j]{fullShare} g : sProp 𝕄) :=
  congrArg (fun S => (_ ↦[S]{fullShare} g : sProp 𝕄)) (blk_set j)
theorem slotP_eq (s : Fin 3) (f) : slotP c s f = (((c : Thread nD τ).loc cc0_scratch1) ↦[B3 s]{fullShare} f : sProp 𝕄) :=
  congrArg (fun S => (_ ↦[S]{fullShare} f : sProp 𝕄)) (rslot_set s)

theorem acc_split (f : Buf (Elt F) ((c : Thread nD τ).loc main_v5_5)) :
    (((c : Thread nD τ).loc main_v5_5) ↦{fullShare} f : sProp 𝕄) ⊢ bigSep Finset.univ fun j => iprop(∃ g, homeP c j g) := by
  rw [Ring.pointsTo_blocks (ℓ := (c : Thread nD τ).loc main_v5_5) B48 B48_disjoint B48_cover]
  have h : ∀ j, (((c : Thread nD τ).loc main_v5_5) ↦[B48 j]{fullShare} f : sProp 𝕄) ⊢ iprop(∃ g, homeP c j g) := fun j => by
    refine (BIBase.Entails.of_eq (homeP_eq c j f).symm).trans ?_
    iintro H; iexists f; iexact H
  exact bigSep_mono fun j _ => h j

theorem ring_split :
    iprop(∃ f : Buf (Elt F) ((c : Thread nD τ).loc cc0_scratch1), ((c : Thread nD τ).loc cc0_scratch1) ↦{fullShare} f)
      ⊢ (iprop(slotA c 0 ∗ slotA c 1 ∗ slotA c 2) : sProp 𝕄) := by
  unfold slotA
  iintro ⟨%f, H⟩
  ihave H2 := (BIBase.Entails.of_eq ((Ring.pointsTo_blocks (Ix := Unit) (Name := ℕ) (U := UU nD τ) (Lvl := ℕ) (q := fullShare) (ℓ := (c : Thread nD τ).loc cc0_scratch1) B3 B3_disjoint B3_cover f).trans (bigSep_fin3 _))) $$ H
  icases H2 with ⟨H0, H1, H2⟩
  isplitl [H0]
  · iexists f; iapply (BIBase.Entails.of_eq (slotP_eq c 0 f).symm); iexact H0
  isplitl [H1]
  · iexists f; iapply (BIBase.Entails.of_eq (slotP_eq c 1 f).symm); iexact H1
  · iexists f; iapply (BIBase.Entails.of_eq (slotP_eq c 2 f).symm); iexact H2
theorem ring_join :
    iprop(slotA c 0 ∗ slotA c 1 ∗ slotA c 2)
      ⊢ (iprop(∃ f : Buf (Elt F) ((c : Thread nD τ).loc cc0_scratch1), ((c : Thread nD τ).loc cc0_scratch1) ↦{fullShare} f) : sProp 𝕄) := by
  unfold slotA
  iintro ⟨⟨%f0, H0⟩, ⟨%f1, H1⟩, ⟨%f2, H2⟩⟩
  iapply (Ring.pointsTo_blocks_join_exists (ℓ := (c : Thread nD τ).loc cc0_scratch1) B3 B3_disjoint B3_cover f0)
  irw [bigSep_fin3]
  isplitl [H0]
  · iexists f0; iapply (BIBase.Entails.of_eq (slotP_eq c 0 f0)); iexact H0
  isplitl [H1]
  · iexists f1; iapply (BIBase.Entails.of_eq (slotP_eq c 1 f1)); iexact H1
  · iexists f2; iapply (BIBase.Entails.of_eq (slotP_eq c 2 f2)); iexact H2

/-- Everything at rest. -/
def restP : sProp 𝕄 :=
  iprop((slotA c 0 ∗ slotA c 1 ∗ slotA c 2) ∗ lcellP c 0 ∗ lcellP c 1 ∗ lcellP c 2 ∗ scellP c 0 ∗ scellP c 1 ∗ scellP c 2)

theorem homes_roles (n : ℕ) (Φ : Fin 48 → sProp 𝕄) :
    bigSep Finset.univ Φ = iprop(Φ (jof (n + 46)) ∗ Φ (jof (n + 47)) ∗ Φ (jof n) ∗ Φ (jof (n + 1)) ∗ bigSep (restSet n) Φ) := by
  have e : (Finset.univ : Finset (Fin 48)) = insert (jof (n + 46)) (insert (jof (n + 47)) (insert (jof n) (insert (jof (n + 1)) (restSet n)))) := by
    ext j; simp only [restSet, Finset.mem_insert, Finset.mem_filter, Finset.mem_univ, _root_.true_and, jof, Fin.ext_iff, ne_eq, _root_.true_iff, not_true_eq_false, _root_.and_false, _root_.false_and, not_false_eq_true, _root_.or_false, _root_.false_or]; have := j.isLt; omega
  have d1 : jof (n + 46) ∉ insert (jof (n + 47)) (insert (jof n) (insert (jof (n + 1)) (restSet n))) := by
    simp only [restSet, Finset.mem_insert, Finset.mem_filter, Finset.mem_univ, _root_.true_and, jof, Fin.ext_iff, ne_eq, _root_.true_iff, not_true_eq_false, _root_.and_false, _root_.false_and, not_false_eq_true, _root_.or_false, _root_.false_or]; omega
  have d2 : jof (n + 47) ∉ insert (jof n) (insert (jof (n + 1)) (restSet n)) := by
    simp only [restSet, Finset.mem_insert, Finset.mem_filter, Finset.mem_univ, _root_.true_and, jof, Fin.ext_iff, ne_eq, _root_.true_iff, not_true_eq_false, _root_.and_false, _root_.false_and, not_false_eq_true, _root_.or_false, _root_.false_or]; omega
  have d3 : jof n ∉ insert (jof (n + 1)) (restSet n) := by
    simp only [restSet, Finset.mem_insert, Finset.mem_filter, Finset.mem_univ, _root_.true_and, jof, Fin.ext_iff, ne_eq, _root_.true_iff, not_true_eq_false, _root_.and_false, _root_.false_and, not_false_eq_true, _root_.or_false, _root_.false_or]; omega
  have d4 : jof (n + 1) ∉ restSet n := by
    simp only [restSet, Finset.mem_filter, Finset.mem_univ, _root_.true_and, jof, Fin.ext_iff, ne_eq, _root_.true_iff, not_true_eq_false, _root_.and_false, _root_.false_and, not_false_eq_true, _root_.or_false, _root_.false_or]
  rw [e, bigSep_insert d1, bigSep_insert d2, bigSep_insert d3, bigSep_insert d4]; rfl

theorem ring_first : iprop(bigSep Finset.univ (fun j => iprop(∃ g, homeP c j g)) ∗ restP c) ⊢ (ringP c inp 0 : sProp 𝕄) := by
  have h0 : ∀ j, iprop(∃ g, homeP c j g) ⊢ homeD c inp 0 j := fun j => by
    unfold homeD
    iintro ⟨%g, H⟩; iexists g; isplitl [H]; · iexact H
    ipureintro; intro m h; omega
  have hm : bigSep Finset.univ (fun j => iprop(∃ g, homeP c j g)) ⊢ (bigSep Finset.univ (homeD c inp 0) : sProp 𝕄) :=
    bigSep_mono fun j _ => h0 j
  refine (show iprop(bigSep Finset.univ (fun j => iprop(∃ g, homeP c j g)) ∗ restP c) ⊢ iprop(bigSep Finset.univ (homeD c inp 0) ∗ restP c) from by
    iintro ⟨H, HR⟩; isplitl [H]; · iapply hm; iexact H
    iexact HR).trans ?_
  rw [homes_roles 0]
  unfold ringP restP stB ldB
  rw [if_neg (show ¬ waitsStore 0 by decide), if_neg (show ¬ waitsStore (0 + 1) by decide), if_neg (show ¬ waitsLoad 0 by decide)]
  iintro ⟨⟨H1, H2, H3, H4, H5⟩, ⟨S0, S1, S2⟩, L0, L1, L2, T0, T1, T2⟩
  isplitl [S1 T1 H1]
  · isplitl [S1]; · iexact S1
    isplitl [T1]; · iexact T1
    iexact H1
  isplitl [S2 T2 H2]
  · isplitl [S2]; · iexact S2
    isplitl [T2]; · iexact T2
    iexact H2
  isplitl [S0 L0 H3]
  · isplitl [S0]; · iexact S0
    isplitl [L0]; · iexact L0
    iexact H3
  isplitl [T0]; · iexact T0
  isplitl [L1]; · iexact L1
  isplitl [L2]; · iexact L2
  isplitl [H4]; · iexact H4
  iexact H5

theorem ring_last : (ringP c inp 1152 : sProp 𝕄) ⊢ restP c := by
  unfold ringP restP stB ldB
  rw [if_neg (show ¬ waitsStore 1152 by decide), if_neg (show ¬ waitsStore (1152 + 1) by decide), if_neg (show ¬ waitsLoad 1152 by decide)]
  rw [show sof (1152 + 1) = 1 from rfl, show sof (1152 + 1 + 1) = 2 from rfl, show sof 1152 = 0 from rfl]
  iintro ⟨⟨S1, T1, -⟩, ⟨S2, T2, -⟩, ⟨S0, L0, -⟩, T0, L1, L2, -, -⟩
  isplitl [S0 S1 S2]
  · isplitl [S0]; · iexact S0
    isplitl [S1]; · iexact S1
    iexact S2
  isplitl [L0]; · iexact L0
  isplitl [L1]; · iexact L1
  isplitl [L2]; · iexact L2
  isplitl [T0]; · iexact T0
  isplitl [T1]; · iexact T1
  iexact T2

end

end Cert.Proof.Real

end
-- ==== Proof.Real.Data.lean ====
/-
  THE PROOF DATA of the pipeline: what each point reads, the states after the points, what each window's staging buffer
  holds before and after each point, and when each window is written back.
-/
module

public import proofs.«01_k».proof.Proof.Real.Room
public import Idealize.ShloMosaic.Lib.Pipeline.TableIdle

@[expose] public section

set_option maxRecDepth 8192
set_option maxHeartbeats 4000000

noncomputable section

namespace Cert.Proof.Real

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
open Idealize.ShloMosaic.Pipeline (Dat Cfg Window BodyObligation cellOf)
local notation "𝕄" => MT nD τ sig Unit (Elt F) ℕ (UU nD τ) ℕ

variable (m : (ℓ : Loc nD τ sig) → Buf (Elt F) ℓ) (ρ : Dev nD → PrngReg)

/-! ## The kernel's own semaphores -/

abbrev osem : Fin 6 → SemLoc sig := fun
  | 0 => .dma (lsm 0).sem | 1 => .dma (lsm 1).sem | 2 => .dma (lsm 2).sem
  | 3 => .dma (ssm 0).sem | 4 => .dma (ssm 1).sem | 5 => .dma (ssm 2).sem
theorem ownSemFacts : Pipeline.OwnSemFacts spec0 osem := by decide

theorem ownSems0_eq (c : Dev nD) : (Pipeline.ownSems0 (Ix := Unit) (Name := ℕ) (U := UU nD τ) (Lvl := ℕ) (Val := Elt F) (τ := τ) osem c : sProp 𝕄)
    = iprop(lcellP c 0 ∗ lcellP c 1 ∗ lcellP c 2 ∗ scellP c 0 ∗ scellP c 1 ∗ scellP c 2) :=
  bigSep_univ_eq_bigSepL [(0 : Fin 6), (1 : Fin 6), (2 : Fin 6), (3 : Fin 6), (4 : Fin 6), (5 : Fin 6)] (by decide) (by decide) _

/-! ## What each point reads, and the states after the points -/

/-- What point `t` reads. -/
def inpT (c : Dev nD) (t : Fin cfg0.N) : Inputs F where
  bi := BitVec.ofNat 32 ((grid0.coords t) 1).val
  bj := BitVec.ofNat 32 ((grid0.coords t) 2).val
  t := the1 (iblk m c 0 t)
  b := the1 (iblk m c 1 t)
  x := iblk m c 2 t
  y := iblk m c 3 t
  xs := iblk m c 4 t
  ys := iblk m c 5 t
def inp (c : Dev nD) (n : ℕ) : Inputs F := inpT m c ⟨n % 1152, Nat.lt_of_lt_of_eq (Nat.mod_lt _ (by decide)) N_0.symm⟩
theorem inp_at (c : Dev nD) (t : Fin cfg0.N) : inp m c t.val = inpT m c t :=
  congrArg (inpT m c) (Fin.ext (Nat.mod_eq_of_lt (Nat.lt_of_lt_of_eq t.isLt N_0)))

theorem stateV_step (inp : ℕ → Inputs F) (n : ℕ) :
    pointV (inp n) (startV (iof n = 0) (n % 48 = 0) ⟨(stateV inp (n - 1)).dx, dyAt inp (n - 48), (stateV inp (n - 1)).sm⟩) = stateV inp n := by
  conv_rhs => rw [stateV]
  rfl

/-! ## The pipeline's proof data -/

/-- Before point `n`. -/
def PhiP (c : Dev nD) (n : ℕ) : sProp 𝕄 := iprop(ringP c (inp m c) n ∗ accB c (inp m c) n)

def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay27 (sm0 (stateV (inp m c) t.val).sm)
    | ⟨7, _⟩ => k0_pay26 (inpT m c t).t (stateV (inp m c) t.val).dx
    | ⟨8, _⟩ => k0_pay8 (inpT m c t).t (up (stateV (inp m c) t.val).dy)
    | ⟨9, _⟩ => k0_pay28 (sm1 (stateV (inp m c) t.val).sm)
    | ⟨10, _⟩ => k0_pay9 (k0_pay29 (sm2 (stateV (inp m c) t.val).sm))
  Φ n := PhiP m c n.val
  q _ := fullShare
  owed _ := 0

theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem after_w2 (c : Dev nD) (t : Fin cfg0.N) : (dats m 0 c).after 2 t = iblk m c 2 t := by dsimp only [dats]
theorem after_w3 (c : Dev nD) (t : Fin cfg0.N) : (dats m 0 c).after 3 t = iblk m c 3 t := by dsimp only [dats]
theorem after_w4 (c : Dev nD) (t : Fin cfg0.N) : (dats m 0 c).after 4 t = iblk m c 4 t := by dsimp only [dats]
theorem after_w5 (c : Dev nD) (t : Fin cfg0.N) : (dats m 0 c).after 5 t = iblk m c 5 t := by dsimp only [dats]
theorem after_w6 (c : Dev nD) (t : Fin cfg0.N) : (dats m 0 c).after 6 t = k0_pay27 (sm0 (stateV (inp m c) t.val).sm) := by dsimp only [dats]
theorem after_w7 (c : Dev nD) (t : Fin cfg0.N) : (dats m 0 c).after 7 t = k0_pay26 (inpT m c t).t (stateV (inp m c) t.val).dx := by dsimp only [dats]
theorem after_w8 (c : Dev nD) (t : Fin cfg0.N) : (dats m 0 c).after 8 t = k0_pay8 (inpT m c t).t (up (stateV (inp m c) t.val).dy) := by dsimp only [dats]
theorem after_w9 (c : Dev nD) (t : Fin cfg0.N) : (dats m 0 c).after 9 t = k0_pay28 (sm1 (stateV (inp m c) t.val).sm) := by dsimp only [dats]
theorem after_w10 (c : Dev nD) (t : Fin cfg0.N) : (dats m 0 c).after 10 t = k0_pay9 (k0_pay29 (sm2 (stateV (inp m c) t.val).sm)) := by dsimp only [dats]

theorem before_w0 (c : Dev nD) (t : Fin cfg0.N) (d) : (dats m 0 c).before 0 t d = iblk m c 0 t :=
  ((dats m 0 c).before_in_eq_fetched 0 rfl (fun _ => rfl) (fun _ _ _ => rfl) (fun t => by rw [after_w0]; unfold Dat.blockOf iblk; rfl) t d).trans
    (by unfold Dat.fetched Dat.blockOf iblk; rfl)
theorem before_w1 (c : Dev nD) (t : Fin cfg0.N) (d) : (dats m 0 c).before 1 t d = iblk m c 1 t :=
  ((dats m 0 c).before_in_eq_fetched 1 rfl (fun _ => rfl) (fun _ _ _ => rfl) (fun t => by rw [after_w1]; unfold Dat.blockOf iblk; rfl) t d).trans
    (by unfold Dat.fetched Dat.blockOf iblk; rfl)
theorem before_w2 (c : Dev nD) (t : Fin cfg0.N) (d) : (dats m 0 c).before 2 t d = iblk m c 2 t :=
  ((dats m 0 c).before_in_eq_fetched 2 rfl (fun _ => rfl) (fun _ _ _ => rfl) (fun t => by rw [after_w2]; unfold Dat.blockOf iblk; rfl) t d).trans
    (by unfold Dat.fetched Dat.blockOf iblk; rfl)
theorem before_w3 (c : Dev nD) (t : Fin cfg0.N) (d) : (dats m 0 c).before 3 t d = iblk m c 3 t :=
  ((dats m 0 c).before_in_eq_fetched 3 rfl (fun _ => rfl) (fun _ _ _ => rfl) (fun t => by rw [after_w3]; unfold Dat.blockOf iblk; rfl) t d).trans
    (by unfold Dat.fetched Dat.blockOf iblk; rfl)
theorem before_w4 (c : Dev nD) (t : Fin cfg0.N) (d) : (dats m 0 c).before 4 t d = iblk m c 4 t :=
  ((dats m 0 c).before_in_eq_fetched 4 rfl (fun _ => rfl) (fun _ _ _ => rfl) (fun t => by rw [after_w4]; unfold Dat.blockOf iblk; rfl) t d).trans
    (by unfold Dat.fetched Dat.blockOf iblk; rfl)
theorem before_w5 (c : Dev nD) (t : Fin cfg0.N) (d) : (dats m 0 c).before 5 t d = iblk m c 5 t :=
  ((dats m 0 c).before_in_eq_fetched 5 rfl (fun _ => rfl) (fun _ _ _ => rfl) (fun t => by rw [after_w5]; unfold Dat.blockOf iblk; rfl) t d).trans
    (by unfold Dat.fetched Dat.blockOf iblk; rfl)

/-! ## The body obligation -/

theorem defs_tc : (defs₀ (F := F)) .tc cfg0.body
    = fun a => cc0_siglip_fwd_bwd (grid0.coords a.1) (win0_0.stage (a.2 0)) (hstage0_0 ((a.2 0).cast nbuf0_0)) (win0_1.stage (a.2 1)) (hstage0_1 ((a.2 1).cast nbuf0_1))
        (win0_2.stage (a.2 2)) (hstage0_2 ((a.2 2).cast nbuf0_2)) (win0_3.stage (a.2 3)) (hstage0_3 ((a.2 3).cast nbuf0_3))
        (win0_4.stage (a.2 4)) (hstage0_4 ((a.2 4).cast nbuf0_4)) (win0_5.stage (a.2 5)) (hstage0_5 ((a.2 5).cast nbuf0_5))
        (win0_6.stage (a.2 6)) (hstage0_6 ((a.2 6).cast nbuf0_6)) (win0_7.stage (a.2 7)) (hstage0_7 ((a.2 7).cast nbuf0_7))
        (win0_8.stage (a.2 8)) (hstage0_8 ((a.2 8).cast nbuf0_8)) (win0_9.stage (a.2 9)) (hstage0_9 ((a.2 9).cast nbuf0_9))
        (win0_10.stage (a.2 10)) (hstage0_10 ((a.2 10).cast nbuf0_10))
        accM (Memref.isWhole_whole _) (Memref.whole cc0_scratch0) (Memref.isWhole_whole _) bufM (Memref.isWhole_whole _)
        (Memref.whole cc0_scratch2) (Memref.isWhole_whole _) (Memref.whole cc0_scratch3) (Memref.isWhole_whole _) cc0_scratch4 cc0_scratch5 := rfl
theorem prog_eq (t : Fin cfg0.N) : (defs₀ (F := F)) .tc cfg0.body (cfg0.bodyArgs t (cfg0.slots t)) = bodyAt0 t :=
  (congrFun defs_tc _).trans rfl

section Windows
variable (c : Dev nD) (t : Fin cfg0.N)

theorem idle_cond8 (w : Fin cfg0.W) (hw : w = 6 ∨ w = 7 ∨ w = 9 ∨ w = 10) : cfg0.idle w (grid0.coords t) = !decide (t.val % 48 = 47) := by
  have e : cfg0.idle w (grid0.coords t) = !(k0_cond8 (grid0.coords t) == 1#1) := by
    rcases hw with rfl | rfl | rfl | rfl <;> rfl
  rw [e]; congr 1
  by_cases h : t.val % 48 = 47
  · rw [(cond8_iff t).mpr h, decide_eq_true h]; rfl
  · rw [decide_eq_false h]; exact beq_eq_false_iff_ne.mpr (mt (cond8_iff t).mp h)
theorem idle_cond7 : cfg0.idle 8 (grid0.coords t) = !decide (iof t.val = 11) := by
  have e : cfg0.idle 8 (grid0.coords t) = !(k0_cond7 (grid0.coords t) == 1#1) := rfl
  rw [e]; congr 1
  by_cases h : iof t.val = 11
  · rw [(cond7_iff t).mpr h, decide_eq_true h]; rfl
  · rw [decide_eq_false h]; exact beq_eq_false_iff_ne.mpr (mt (cond7_iff t).mp h)

theorem flush0_8 : (cfg0.win 8).flush t = true ↔ iof t.val = 11 := by
  rw [Window.flush_eq_flushF]
  revert t; exact (by decide +kernel : ∀ t : Fin cfg0.N, (cfg0.win 8).flushF t = true ↔ iof t.val = 11)

/-- A result window, written at the points where `p` holds and left alone elsewhere, is as the pipeline wants it. -/
theorem out_window (w : Fin cfg0.W) (p : Prop) [Decidable p] (hi : cfg0.idle w (cfg0.grid.coords t) = !decide p) (hf : ¬ p → (cfg0.win w).flush t = false) (d)
    (f : Buf (Elt F) (((cfg0.win w).stage (cfg0.slots t w)).view.loc (c : Thread nD τ)))
    (h : ((cfg0.win w).stage (cfg0.slots t w)).view.read (Elt F) f = (dats m 0 c).before w t d) :
    outP c ((cfg0.win w).stage (cfg0.slots t w)) p f ((dats m 0 c).after w t) ⊢ (dats m 0 c).leavesExact w t := by
  unfold outP
  by_cases hp : p
  · rw [if_pos hp, show (dats m 0 c).leavesExact w t = owns (c : Thread nD τ) ((cfg0.win w).stage (cfg0.slots t w)) fullShare ((dats m 0 c).after w t) by
      unfold Dat.leavesExact; rw [hi, decide_eq_true hp]; rfl]
    unfold owns
    iintro ⟨%g, H, %hg⟩
    iexists g; isplitr; · ipureintro; exact hg
    iexact H
  · rw [if_neg hp, (dats m 0 c).leavesExact_idle w t (by rw [hi, decide_eq_false hp]; rfl) (hf hp)]
    unfold owns
    iintro H
    iexists d; iexists f; isplitr; · ipureintro; exact h
    iexact H

/-- An input window, left as found. -/
theorem in_window (w : Fin cfg0.W) (hi : cfg0.idle w (cfg0.grid.coords t) = false)
    (f : Buf (Elt F) (((cfg0.win w).stage (cfg0.slots t w)).view.loc (c : Thread nD τ)))
    (h : ((cfg0.win w).stage (cfg0.slots t w)).view.read (Elt F) f = (dats m 0 c).after w t) :
    (((cfg0.win w).stage (cfg0.slots t w)).view.loc (c : Thread nD τ) ↦[((cfg0.win w).stage (cfg0.slots t w)).view.set]{fullShare} f : sProp 𝕄)
      ⊢ (dats m 0 c).leavesExact w t := by
  rw [show (dats m 0 c).leavesExact w t = owns (c : Thread nD τ) ((cfg0.win w).stage (cfg0.slots t w)) fullShare ((dats m 0 c).after w t) by
      unfold Dat.leavesExact; rw [hi]]
  unfold owns
  iintro H
  iexists f; isplitr; · ipureintro; exact h
  iexact H

end Windows

end Cert.Proof.Real

end
-- ==== Proof.Real.Oblig.lean ====
/-
  THE BODY OBLIGATION: from what is held before a point, the body runs and leaves what is held before the next, every
  window's staging buffer as the pipeline's proof data say.
-/
module

public import proofs.«01_k».proof.Proof.Real.Data

@[expose] public section

set_option maxRecDepth 8192
set_option maxHeartbeats 4000000

noncomputable section

namespace Cert.Proof.Real

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
open Idealize.ShloMosaic.Pipeline (Dat Cfg Window BodyObligation cellOf)
local notation "𝕄" => MT nD τ sig Unit (Elt F) ℕ (UU nD τ) ℕ

variable (m : (ℓ : Loc nD τ sig) → Buf (Elt F) ℓ)

set_option backward.isDefEq.respectTransparency.types false in
theorem body_obligation (c : Dev nD) : BodyObligation (dats (F := F) m 0 c) (defs₀ (F := F)) 𝒱₀ () Set.univ := fun t => by
  show iprop((dats m 0 c).Φ t.castSucc ∗ (dats m 0 c).owesAt () t.castSucc
        ∗ bigSep Finset.univ fun w : Fin cfg0.W => iprop(∃ d, owns (c : Thread nD τ) ((cfg0.win w).stage (cfg0.slots t w)) fullShare ((dats m 0 c).before w t d)))
      ⊢ wp frame (wpE (defs₀ (F := F)) 𝒱₀ (c : Thread nD τ) none) Set.univ (defs₀ .tc cfg0.body (cfg0.bodyArgs t (cfg0.slots t))) fun _ =>
          iprop((dats m 0 c).Φ t.succ ∗ (dats m 0 c).owesAt () t.succ ∗ bigSep Finset.univ fun w : Fin cfg0.W => (dats m 0 c).leavesExact w t)
  rw [bigSep_W0, bigSep_W0]
  beta_reduce
  rw [show (dats m 0 c).Φ t.castSucc = iprop(ringP c (inp m c) t.val ∗ accB c (inp m c) t.val) from rfl,
    show (dats m 0 c).Φ t.succ = iprop(ringP c (inp m c) (t.val + 1) ∗ accB c (inp m c) (t.val + 1)) from rfl]
  unfold Dat.owesAt Pipeline.owesWithin
  rw [show (dats m 0 c).owed t.castSucc = 0 from rfl, show (dats m 0 c).owed t.succ = 0 from rfl]
  unfold owns
  iintro ⟨⟨HR, HA⟩, ⟨%W, -, HW⟩, ⟨%d0, %g0, %h0, H0⟩, ⟨%d1, %g1, %h1, H1⟩, ⟨%d2, %g2, %h2, H2⟩, ⟨%d3, %g3, %h3, H3⟩, ⟨%d4, %g4, %h4, H4⟩, ⟨%d5, %g5, %h5, H5⟩, ⟨%d6, %g6, %h6, H6⟩, ⟨%d7, %g7, %h7, H7⟩, ⟨%d8, %g8, %h8, H8⟩, ⟨%d9, %g9, %h9, H9⟩, ⟨%d10, %g10, %h10, H10⟩⟩
  have hI := inp_at m c t
  have hb := body_run c t (win0_0.stage (cfg0.slots t 0)) (hstage0_0 ((cfg0.slots t 0).cast nbuf0_0)) (win0_1.stage (cfg0.slots t 1)) (hstage0_1 ((cfg0.slots t 1).cast nbuf0_1))
    (win0_2.stage (cfg0.slots t 2)) (hstage0_2 ((cfg0.slots t 2).cast nbuf0_2)) (win0_3.stage (cfg0.slots t 3)) (hstage0_3 ((cfg0.slots t 3).cast nbuf0_3))
    (win0_4.stage (cfg0.slots t 4)) (hstage0_4 ((cfg0.slots t 4).cast nbuf0_4)) (win0_5.stage (cfg0.slots t 5)) (hstage0_5 ((cfg0.slots t 5).cast nbuf0_5))
    (win0_6.stage (cfg0.slots t 6)) (hstage0_6 ((cfg0.slots t 6).cast nbuf0_6)) (win0_7.stage (cfg0.slots t 7)) (hstage0_7 ((cfg0.slots t 7).cast nbuf0_7))
    (win0_8.stage (cfg0.slots t 8)) (hstage0_8 ((cfg0.slots t 8).cast nbuf0_8)) (win0_9.stage (cfg0.slots t 9)) (hstage0_9 ((cfg0.slots t 9).cast nbuf0_9))
    (win0_10.stage (cfg0.slots t 10)) (hstage0_10 ((cfg0.slots t 10).cast nbuf0_10))
    (Memref.whole cc0_scratch0) (Memref.isWhole_whole _) (Memref.whole cc0_scratch2) (Memref.isWhole_whole _) (Memref.whole cc0_scratch3) (Memref.isWhole_whole _)
    (jof (t.val + 46)) (dyAt (inp m c) (t.val - 2)) (dyAt (inp m c) (t.val - 47)) (inp m c t.val)
    ⟨(stateV (inp m c) (t.val - 1)).dx, dyAt (inp m c) (t.val - 48), (stateV (inp m c) (t.val - 1)).sm⟩ g0 g1
    (by rw [hI]; rfl) (by rw [hI]; rfl)
    (by rw [hI]; exact congrArg (the1 (F := F)) (h0.trans (before_w0 m c t d0)).symm)
    (by rw [hI]; exact congrArg (the1 (F := F)) (h1.trans (before_w1 m c t d1)).symm)
    g6 g7 g8 g9 g10 W
  rw [stateV_step (inp m c) t.val] at hb
  sl_rw [prog_eq t]
  iapply hb
  ihave HR' := (ring_open c (inp m c) t) $$ HR
  icases HR' with ⟨HP, HSc, HH, HK⟩
  isplitl [H0 H1 H2 H3 H4 H5]
  · unfold inP
    isplitl [H0]; · iexact H0
    isplitl [H1]; · iexact H1
    iexists g2, g3, g4, g5
    isplitl [H2]; · iexact H2
    isplitl [H3]; · iexact H3
    isplitl [H4]; · iexact H4
    isplitl [H5]; · iexact H5
    ipureintro
    rw [hI]
    exact ⟨h2.trans (before_w2 m c t d2), h3.trans (before_w3 m c t d3), h4.trans (before_w4 m c t d4), h5.trans (before_w5 m c t d5)⟩
  isplitl [HP]; · iexact HP
  isplitl [HSc]; · iexact HSc
  isplitl [HH]; · iexact HH
  isplitl [HA]; · iapply (show accB c (inp m c) t.val ⊢ accPre c t (Memref.whole cc0_scratch0) (Memref.whole cc0_scratch2) (Memref.whole cc0_scratch3)
      ⟨(stateV (inp m c) (t.val - 1)).dx, dyAt (inp m c) (t.val - 48), (stateV (inp m c) (t.val - 1)).sm⟩ from .rfl); iexact HA
  isplitl [H6]; · iexact H6
  isplitl [H7]; · iexact H7
  isplitl [H8]; · iexact H8
  isplitl [H9]; · iexact H9
  isplitl [H10]; · iexact H10
  isplitl [HW]; · iexact HW
  iintro %r ⟨HI, HS, HT, HL, HC, ⟨%f17, H17⟩, HA, HB, HO, ⟨%W', HW⟩⟩
  isplitl [HK HS HT HL HC HB H17 HA]
  · isplitl [HK HS HT HL HC HB]
    · iapply (ring_close c (inp m c) t (dyAt (inp m c) (t.val - 48)))
      isplitl [HK]; · iexact HK
      isplitl [HS]; · iexact HS
      isplitl [HT]; · iexact HT
      isplitl [HL]; · iexact HL
      isplitl [HC]; · iexact HC
      iexact HB
    unfold accP accB
    icases HA with ⟨%f15, %f18, H15, H18, %h⟩
    iexists f15, f17, f18
    isplitl [H15]; · iexact H15
    isplitl [H17]; · iexact H17
    isplitl [H18]; · iexact H18
    ipureintro
    exact fun _ => h
  isplitl [HW]
  · iexists W'; isplitr; · ipureintro; exact fun _ _ => Or.inl trivial
    iexact HW
  unfold inP
  icases HI with ⟨H0, H1, ⟨%g2', %g3', %g4', %g5', H2, H3, H4, H5, %hr⟩⟩
  unfold outsP
  icases HO with ⟨O6, O7, O8, O9, O10⟩
  rw [hI] at hr
  isplitl [H0]; · iapply (in_window m c t 0 rfl g0 ((h0.trans (before_w0 m c t d0)).trans (after_w0 m c t).symm)); iexact H0
  isplitl [H1]; · iapply (in_window m c t 1 rfl g1 ((h1.trans (before_w1 m c t d1)).trans (after_w1 m c t).symm)); iexact H1
  isplitl [H2]; · iapply (in_window m c t 2 rfl g2' (hr.1.trans (after_w2 m c t).symm)); iexact H2
  isplitl [H3]; · iapply (in_window m c t 3 rfl g3' (hr.2.1.trans (after_w3 m c t).symm)); iexact H3
  isplitl [H4]; · iapply (in_window m c t 4 rfl g4' (hr.2.2.1.trans (after_w4 m c t).symm)); iexact H4
  isplitl [H5]; · iapply (in_window m c t 5 rfl g5' (hr.2.2.2.trans (after_w5 m c t).symm)); iexact H5
  isplitl [O6]
  · iapply (out_window m c t 6 (t.val % 48 = 47) (idle_cond8 t 6 (by decide)) (fun h => Bool.eq_false_iff.mpr (mt (flush0_6 t).mp h)) d6 g6 h6)
    iexact O6
  isplitl [O7]
  · iapply (out_window m c t 7 (t.val % 48 = 47) (idle_cond8 t 7 (by decide)) (fun h => Bool.eq_false_iff.mpr (mt (flush0_7 t).mp h)) d7 g7 h7)
    rw [hI]; iexact O7
  isplitl [O8]
  · iapply (out_window m c t 8 (iof t.val = 11) (idle_cond7 t) (fun h => Bool.eq_false_iff.mpr (mt (flush0_8 t).mp h)) d8 g8 h8)
    rw [hI]; iexact O8
  isplitl [O9]
  · iapply (out_window m c t 9 (t.val % 48 = 47) (idle_cond8 t 9 (by decide)) (fun h => Bool.eq_false_iff.mpr (mt (flush0_9 t).mp h)) d9 g9 h9)
    iexact O9
  · iapply (out_window m c t 10 (t.val % 48 = 47) (idle_cond8 t 10 (by decide)) (fun h => Bool.eq_false_iff.mpr (mt (flush0_10 t).mp h)) d10 g10 h10)
    iexact O10

end Cert.Proof.Real

end
-- ==== Proof.Real.Launch.lean ====
/-
  THE LAUNCH: every execution of the program terminates, with the windows' arrays at what was written back, the
  arguments as launched and every semaphore at zero.
-/
module

public import proofs.«01_k».proof.Proof.Real.Oblig

@[expose] public section

set_option maxRecDepth 8192
set_option maxHeartbeats 4000000

noncomputable section

namespace Cert.Proof.Real

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
open Idealize.ShloMosaic.Pipeline (Dat Cfg Window BodyObligation cellOf)
local notation "𝕄" => MT nD τ sig Unit (Elt F) ℕ (UU nD τ) ℕ

variable (m : (ℓ : Loc nD τ sig) → Buf (Elt F) ℓ) (ρ : Dev nD → PrngReg)

def u₀ : UU nD τ := (Rounds.initOf (Pipeline.cells cfgs cellOf_inj) (Pipeline.launchToks cfgs cellOf_inj), 1)
/-- Held from the launch to the first point: the accumulator's column blocks and the semaphores at zero. -/
def intoP (c : Dev nD) : sProp 𝕄 := iprop(bigSep Finset.univ (fun j => iprop(∃ g, homeP c j g)) ∗ Pipeline.ownSems0 osem c)
/-- Held beside the pipeline: the arguments no window stages. -/
def besideP (c : Dev nD) : sProp 𝕄 :=
  iprop((((c : Thread nD τ).loc main_arg1) ↦{fullShare} V m c main_arg1) ∗ (((c : Thread nD τ).loc main_arg3) ↦{fullShare} V m c main_arg3)
    ∗ (((c : Thread nD τ).loc main_arg4) ↦{fullShare} V m c main_arg4) ∗ (((c : Thread nD τ).loc main_arg5) ↦{fullShare} V m c main_arg5))
def QY (c : Dev nD) (s : MemSt nD τ sig (Elt F)) : Prop :=
  s.mem ((c : Thread nD τ).loc main_arg1) = V m c main_arg1 ∧ s.mem ((c : Thread nD τ).loc main_arg3) = V m c main_arg3
    ∧ s.mem ((c : Thread nD τ).loc main_arg4) = V m c main_arg4 ∧ s.mem ((c : Thread nD τ).loc main_arg5) = V m c main_arg5
def finalA (c : Dev nD) (w : Fin cfg0.W) : Buf (Elt F) ((cfg0.win w).arr.view.loc (c : Thread nD τ)) := (dats m 0 c).arrAt w cfg0.N
def QC : PUnit × MemSt nD τ sig (Elt F) → Prop := fun r =>
  ∀ c : Dev nD, (∀ w : Fin cfg0.W, r.2.mem ((cfg0.win w).arr.view.loc (c : Thread nD τ)) = finalA m c w) ∧ QY m c r.2

theorem first_phi (c : Dev nD) : iprop(intoP c ∗ Pipeline.scopedRest spec0 c) ⊢ PhiP m c 0 := by
  rw [scopedRest0_eq]
  unfold intoP PhiP; rw [ownSems0_eq]
  iintro ⟨⟨HB, L0, L1, L2, T0, T1, T2⟩, ⟨%f15, H15⟩, H16, ⟨%f17, H17⟩, ⟨%f18, H18⟩⟩
  ihave Hs := (ring_split c) $$ H16
  isplitl [HB Hs L0 L1 L2 T0 T1 T2]
  · iapply (ring_first c (inp m c))
    isplitl [HB]; · iexact HB
    unfold restP
    isplitl [Hs]; · iexact Hs
    isplitl [L0]; · iexact L0
    isplitl [L1]; · iexact L1
    isplitl [L2]; · iexact L2
    isplitl [T0]; · iexact T0
    isplitl [T1]; · iexact T1
    iexact T2
  unfold accB
  rw [Memref.view_whole, Memref.view_whole, Memref.view_whole, View.set_whole, View.set_whole, View.set_whole]
  iexists f15, f17, f18
  isplitl [H15]; · iexact H15
  isplitl [H17]; · iexact H17
  isplitl [H18]; · iexact H18
  ipureintro; intro h; exact absurd rfl h

theorem last_phi (c : Dev nD) : PhiP m c 1152 ⊢ (iprop(emp ∗ Pipeline.ownSems0 osem c ∗ Pipeline.scopedRest spec0 c) : sProp 𝕄) := by
  rw [scopedRest0_eq]
  unfold PhiP; rw [ownSems0_eq]
  unfold accB
  rw [Memref.view_whole, Memref.view_whole, Memref.view_whole, View.set_whole, View.set_whole, View.set_whole]
  iintro ⟨HR, ⟨%f15, %f17, %f18, H15, H17, H18, -⟩⟩
  ihave H := (ring_last c (inp m c)) $$ HR
  unfold restP
  icases H with ⟨Hs, L0, L1, L2, T0, T1, T2⟩
  isplitr; · iempintro
  isplitl [L0 L1 L2 T0 T1 T2]
  · isplitl [L0]; · iexact L0
    isplitl [L1]; · iexact L1
    isplitl [L2]; · iexact L2
    isplitl [T0]; · iexact T0
    isplitl [T1]; · iexact T1
    iexact T2
  isplitl [H15]; · iexists f15; iexact H15
  isplitl [Hs]; · iapply (ring_join c); iexact Hs
  isplitl [H17]; · iexists f17; iexact H17
  iexists f18; iexact H18

set_option backward.isDefEq.respectTransparency.types false in
theorem run_main : θ_run defs (onTc (τ := τ) (main (F := F))) ⟨m, fun _ => 0, ρ⟩ (fun r => QC m r ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := Pipeline.hmain_prefix cfgs 0 defs₀ 𝒱₀ m main hostOps0 hostOps0_sub hostOps0_fresh main_chain)
    (hA := fun _ _ => rfl)
    (X := intoP) (Y := fun _ => iprop(emp)) (Z := besideP m)
    (hX := fun c => by
      rw [unscopedRest0_eq]
      unfold intoP besideP
      iintro ⟨⟨H1, H3, H4, H5, -, HB⟩, HS, -, -, -⟩; imodintro
      isplitl [HB HS]
      · isplitl [HB]; · iapply (acc_split c); iexact HB
        iexact HS
      isplitl [H1]; · iexact H1
      isplitl [H3]; · iexact H3
      isplitl [H4]; · iexact H4
      iexact H5)
    (hin := fun c => first_phi m c)
    (hout := fun c => by
      rw [show (dats m 0 c).Φ (Fin.last cfg0.N) = PhiP m c 1152 from congrArg (PhiP m c) N_0]
      exact last_phi m c)
    (QY := QY m)
    (hY := fun c s' => by
      unfold besideP
      iintro ⟨-, ⟨H1, H3, H4, H5⟩, HSI⟩
      icombine HSI H1 gives %h1
      icombine HSI H3 gives %h3
      icombine HSI H4 gives %h4
      icombine HSI H5 gives %h5
      imodintro
      isplitr
      · ipureintro
        exact ⟨Buf.eq_of_forall_mem_univ h1, Buf.eq_of_forall_mem_univ h3, Buf.eq_of_forall_mem_univ h4, Buf.eq_of_forall_mem_univ h5⟩
      iexact HSI)
    (hQ := fun _ hh hz => ⟨hh, hz⟩)

/-- The arguments after the run are as launched. -/
theorem args_kept (c : Dev nD) (s : MemSt nD τ sig (Elt F)) (hw : ∀ w : Fin cfg0.W, s.mem ((cfg0.win w).arr.view.loc (c : Thread nD τ)) = finalA m c w) (hy : QY m c s) :
    s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5) :=
  ⟨(hw 2).trans (((dats m 0 c).arrAt_in 2 rfl _).trans (V_main_arg0 m c)), hy.1.trans (V_main_arg1 m c),
    (hw 3).trans (((dats m 0 c).arrAt_in 3 rfl _).trans (V_main_arg2 m c)), hy.2.1.trans (V_main_arg3 m c),
    hy.2.2.1.trans (V_main_arg4 m c), hy.2.2.2.trans (V_main_arg5 m c)⟩

/-- At any float values, the frame. -/
theorem frame_any :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ hh => ⟨fun c => args_kept m c _ (hh.1 c).1 (hh.1 c).2, hh.2⟩) (run_main m ρ)

end Cert.Proof.Real

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Ideal.Launch
public import proofs.«01_k».proof.Proof.Value.Final
public import proofs.«01_k».proof.Proof.Value.RefFinal
public import proofs.«01_k».proof.Proof.Real.Launch
public import Idealize.ShloMosaic.Adequacy
public import Idealize.ShloMosaic.Init

@[expose] public section

noncomputable section

namespace Cert.Proof

open Idealize.ShloMosaic Idealize.SL.Sem Cert.Kernel

theorem kept : Cert.preserves_Kernel_KernelIdeal :=
  ⟨IdealRules.named_const.statement Cert.KernelIdeal.κ "exp_cap" .f32 0x42A00000#32 ⊤ rfl,
    IdealRules.named_const.statement Cert.KernelIdeal.κ "log1p_small" .f32 0x38D1B717#32 ⊥ rfl,
    IdealRules.named_const.statement Cert.KernelIdeal.κ "inv_s" .f32 0x382AAAAB#32 ((1 / 24576 : ℝ) : EReal) rfl⟩

open Cert.Proof.Value in
/-- From equal arguments both programs return the mathematics' five results, and keep their arguments. -/
theorem equal_results : Cert.algebraic_KernelIdeal_ReferenceIdeal (hKernelIdeal := Cert.KernelIdeal.Gen.facts) (hReferenceIdeal := Cert.ReferenceIdeal.Gen.facts) := by
  intro m g m' g' _ hargs
  have he : ∀ c, Ref.argsRef m' c = argsAt m c := fun c => by
    obtain ⟨h0, h1, h2, h3, h4, h5⟩ := hargs c
    unfold Ref.argsRef argsAt
    rw [h0, h1, h2, h3, h4, h5]
  refine ⟨fun c => lossArr (argsAt m c), fun c => dxArr (argsAt m c), fun c => dyArr (argsAt m c), fun c => dtArr (argsAt m c),
    fun c => dbArr (argsAt m c), ?_, ?_⟩
  · refine (θ_run _ _ _).mono (fun r h c => ?_) (Cert.Proof.Ideal.run_main m g)
    obtain ⟨hw, hy⟩ := h.1 c
    exact ⟨(hw 6).trans (finalLoss m c), (hw 7).trans (finalDx m c), (hw 8).trans (finalDy m c), (hw 9).trans (finalDt m c),
      (hw 10).trans (finalDb m c), Cert.Proof.Ideal.args_kept m c r.2 hw hy⟩
  · refine (θ_run _ _ _).mono (fun r h c => ?_) (Cert.ReferenceIdeal.Value.run_blocks m' g')
    obtain ⟨h6, h7, h8, h9, h10, hk⟩ := h c
    exact ⟨h6.trans ((Ref.finalLoss m' c).trans (congrArg lossArr (he c))), h7.trans ((Ref.finalDx m' c).trans (congrArg dxArr (he c))),
      h8.trans ((Ref.finalDy m' c).trans (congrArg dyArr (he c))), h9.trans ((Ref.finalDt m' c).trans (congrArg dtArr (he c))),
      h10.trans ((Ref.finalDb m' c).trans (congrArg dbArr (he c))), hk⟩

theorem claim : Cert.Claim := ⟨Cert.Kernel.Gen.facts, Cert.KernelIdeal.Gen.facts, Cert.ReferenceIdeal.Gen.facts,
  fun m ρ _ => Cert.Proof.Real.frame_any m ρ, fun m ρ _ => Cert.Proof.Ideal.frame_any m ρ,
  fun m ρ _ => Cert.ReferenceIdeal.Gen.frame m ρ, kept, equal_results⟩

end Cert.Proof

end
